-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v10_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_v47) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v27) = v1 c
          ∧ r.2.mem ((c.tc : Thread Cert.Reference17Ideal.nD Cert.Reference17Ideal.τ).loc Cert.Reference17Ideal.main_v8) = v2 c
          ∧ r.2.mem ((c.tc : Thread Cert.Reference17Ideal.nD Cert.Reference17Ideal.τ).loc Cert.Reference17Ideal.main_v14) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_v8) = v2 c
          ∧ r.2.mem ((c.tc : Thread Cert.Reference18Ideal.nD Cert.Reference18Ideal.τ).loc Cert.Reference18Ideal.main_v14) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_v27) = v1 c
          ∧ r.2.mem ((c.tc : Thread Cert.Reference19Ideal.nD Cert.Reference19Ideal.τ).loc Cert.Reference19Ideal.main_v8) = v2 c
          ∧ r.2.mem ((c.tc : Thread Cert.Reference19Ideal.nD Cert.Reference19Ideal.τ).loc Cert.Reference19Ideal.main_v14) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_v27) = v1 c
          ∧ r.2.mem ((c.tc : Thread Cert.Reference20Ideal.nD Cert.Reference20Ideal.τ).loc Cert.Reference20Ideal.main_v8) = v2 c
          ∧ r.2.mem ((c.tc : Thread Cert.Reference20Ideal.nD Cert.Reference20Ideal.τ).loc Cert.Reference20Ideal.main_v14) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v17) = v0 c
          ∧ r.2.mem ((c.tc : Thread Cert.Reference25Ideal.nD Cert.Reference25Ideal.τ).loc Cert.Reference25Ideal.main_v16) = v1 c
          ∧ r.2.mem ((c.tc : Thread Cert.Reference25Ideal.nD Cert.Reference25Ideal.τ).loc Cert.Reference25Ideal.main_v18) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v38) = v0 c
          ∧ r.2.mem ((c.tc : Thread Cert.Reference28Ideal.nD Cert.Reference28Ideal.τ).loc Cert.Reference28Ideal.main_v39) = v1 c
          ∧ r.2.mem ((c.tc : Thread Cert.Reference28Ideal.nD Cert.Reference28Ideal.τ).loc Cert.Reference28Ideal.main_v37) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v35) = v0 c
          ∧ r.2.mem ((c.tc : Thread Cert.Reference29Ideal.nD Cert.Reference29Ideal.τ).loc Cert.Reference29Ideal.main_v37) = v1 c
          ∧ r.2.mem ((c.tc : Thread Cert.Reference29Ideal.nD Cert.Reference29Ideal.τ).loc Cert.Reference29Ideal.main_v38) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v20) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v4)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v20) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v31) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v86) = v0 c
          ∧ r.2.mem ((c.tc : Thread Cert.Reference33Ideal.nD Cert.Reference33Ideal.τ).loc Cert.Reference33Ideal.main_v87) = v1 c
          ∧ r.2.mem ((c.tc : Thread Cert.Reference33Ideal.nD Cert.Reference33Ideal.τ).loc Cert.Reference33Ideal.main_v41) = v2 c
          ∧ r.2.mem ((c.tc : Thread Cert.Reference33Ideal.nD Cert.Reference33Ideal.τ).loc Cert.Reference33Ideal.main_v84) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite.lean ====
abbrev S4224x8192 : Shape := ⟨2, ![4224, 8192]⟩
abbrev S64x4224x64 : Shape := ⟨3, ![64, 4224, 64]⟩
abbrev S32x66x8x64 : Shape := ⟨4, ![32, 66, 8, 64]⟩
abbrev S66x64x128x128 : Shape := ⟨4, ![66, 64, 128, 128]⟩
abbrev S_ : Shape := ⟨0, ![]⟩

class Facts : Prop where
  bcast_S_S4224x8192 : S_.BroadcastsInDim S4224x8192 (![] : Fin 0 → Fin S4224x8192.rank)
  reducesTo_S4224x8192_S_d0_1 : S4224x8192.ReducesTo [0, 1] S_
  h_S_ : 0 < S_.numel
  bitsLt_bf16_f32 : FTy.bits .bf16 < FTy.bits .f32
  bcast_S_S64x4224x64 : S_.BroadcastsInDim S64x4224x64 (![] : Fin 0 → Fin S64x4224x64.rank)
  reducesTo_S64x4224x64_S_d0_1_2 : S64x4224x64.ReducesTo [0, 1, 2] S_
  bcast_S_S32x66x8x64 : S_.BroadcastsInDim S32x66x8x64 (![] : Fin 0 → Fin S32x66x8x64.rank)
  reducesTo_S32x66x8x64_S_d0_1_2_3 : S32x66x8x64.ReducesTo [0, 1, 2, 3] S_
  bcast_S_S66x64x128x128 : S_.BroadcastsInDim S66x64x128x128 (![] : Fin 0 → Fin S66x64x128x128.rank)
  reducesTo_S66x64x128x128_S_d0_1_2_3 : S66x64x128x128.ReducesTo [0, 1, 2, 3] S_

variable [Facts]

def fn_part2 {F : FTy → Type} [FloatOps F] (main_v32 : IVec S_ 1) (main_v33 : FVec F S66x64x128x128 .f32) (main_v34 : FVec F S66x64x128x128 .f32) : IVec S_ 1 :=
  let main_v35 : IVec S66x64x128x128 1 := cmpf .olt main_v33 main_v34
  let main_c_11 : IVec S_ 1 := constantI S_ 1 1#1
  let main_v36 : IVec S_ 1 := (fun x v => Host.reduce IntOp.andi x v reducesTo_S66x64x128x128_S_d0_1_2_3 h_S_) main_v35 main_c_11
  let main_v37 : IVec S_ 1 := andi main_v32 main_v36
  main_v37

def fn_part1 {F : FTy → Type} [FloatOps F] (main_arg5 : FVec F S64x4224x64 .bf16) (main_arg6 : FVec F S32x66x8x64 .f32) (main_arg7 : FVec F S66x64x128x128 .f32) (main_v15 : IVec S_ 1) (main_v17 : FVec F S4224x8192 .f32) : IVec S_ 1 :=
  let main_cst_4 : FVec F S_ .f32 := constant S_ .f32 0x7F800000#32
  let main_v18 : FVec F S4224x8192 .f32 := broadcastInDim S4224x8192 ![] bcast_S_S4224x8192 main_cst_4
  let main_v19 : IVec S4224x8192 1 := cmpf .olt main_v17 main_v18
  let main_c_5 : IVec S_ 1 := constantI S_ 1 1#1
  let main_v20 : IVec S_ 1 := (fun x v => Host.reduce IntOp.andi x v reducesTo_S4224x8192_S_d0_1 h_S_) main_v19 main_c_5
  let main_v21 : IVec S_ 1 := andi main_v15 main_v20
  let main_v22 : FVec F S64x4224x64 .f32 := (extf .f32 · bitsLt_bf16_f32) main_arg5
  let main_v23 : FVec F S64x4224x64 .f32 := Host.absf main_v22
  let main_cst_6 : FVec F S_ .f32 := constant S_ .f32 0x7F800000#32
  let main_v24 : FVec F S64x4224x64 .f32 := broadcastInDim S64x4224x64 ![] bcast_S_S64x4224x64 main_cst_6
  let main_v25 : IVec S64x4224x64 1 := cmpf .olt main_v23 main_v24
  let main_c_7 : IVec S_ 1 := constantI S_ 1 1#1
  let main_v26 : IVec S_ 1 := (fun x v => Host.reduce IntOp.andi x v reducesTo_S64x4224x64_S_d0_1_2 h_S_) main_v25 main_c_7
  let main_v27 : IVec S_ 1 := andi main_v21 main_v26
  let main_v28 : FVec F S32x66x8x64 .f32 := Host.absf main_arg6
  let main_cst_8 : FVec F S_ .f32 := constant S_ .f32 0x7F800000#32
  let main_v29 : FVec F S32x66x8x64 .f32 := broadcastInDim S32x66x8x64 ![] bcast_S_S32x66x8x64 main_cst_8
  let main_v30 : IVec S32x66x8x64 1 := cmpf .olt main_v28 main_v29
  let main_c_9 : IVec S_ 1 := constantI S_ 1 1#1
  let main_v31 : IVec S_ 1 := (fun x v => Host.reduce IntOp.andi x v reducesTo_S32x66x8x64_S_d0_1_2_3 h_S_) main_v30 main_c_9
  let main_v32 : IVec S_ 1 := andi main_v27 main_v31
  let main_v33 : FVec F S66x64x128x128 .f32 := Host.absf main_arg7
  let main_cst_10 : FVec F S_ .f32 := constant S_ .f32 0x7F800000#32
  let main_v34 : FVec F S66x64x128x128 .f32 := broadcastInDim S66x64x128x128 ![] bcast_S_S66x64x128x128 main_cst_10
  fn_part2 (F := F) main_v32 main_v33 main_v34

def fn {F : FTy → Type} [FloatOps F] (main_arg0 : FVec F S4224x8192 .f32) (main_arg1 : FVec F S4224x8192 .f32) (main_arg2 : FVec F S4224x8192 .bf16) (main_arg3 : FVec F S4224x8192 .bf16) (main_arg4 : FVec F S4224x8192 .bf16) (main_arg5 : FVec F S64x4224x64 .bf16) (main_arg6 : FVec F S32x66x8x64 .f32) (main_arg7 : FVec F S66x64x128x128 .f32) : IVec S_ 1 :=
  let main_v0 : FVec F S4224x8192 .f32 := Host.absf main_arg0
  let main_cst : FVec F S_ .f32 := constant S_ .f32 0x7F800000#32
  let main_v1 : FVec F S4224x8192 .f32 := broadcastInDim S4224x8192 ![] bcast_S_S4224x8192 main_cst
  let main_v2 : IVec S4224x8192 1 := cmpf .olt main_v0 main_v1
  let main_c : IVec S_ 1 := constantI S_ 1 1#1
  let main_v3 : IVec S_ 1 := (fun x v => Host.reduce IntOp.andi x v reducesTo_S4224x8192_S_d0_1 h_S_) main_v2 main_c
  let main_v4 : FVec F S4224x8192 .f32 := (extf .f32 · bitsLt_bf16_f32) main_arg2
  let main_v5 : FVec F S4224x8192 .f32 := Host.absf main_v4
  let main_cst_0 : FVec F S_ .f32 := constant S_ .f32 0x7F800000#32
  let main_v6 : FVec F S4224x8192 .f32 := broadcastInDim S4224x8192 ![] bcast_S_S4224x8192 main_cst_0
  let main_v7 : IVec S4224x8192 1 := cmpf .olt main_v5 main_v6
  let main_c_1 : IVec S_ 1 := constantI S_ 1 1#1
  let main_v8 : IVec S_ 1 := (fun x v => Host.reduce IntOp.andi x v reducesTo_S4224x8192_S_d0_1 h_S_) main_v7 main_c_1
  let main_v9 : IVec S_ 1 := andi main_v3 main_v8
  let main_v10 : FVec F S4224x8192 .f32 := (extf .f32 · bitsLt_bf16_f32) main_arg3
  let main_v11 : FVec F S4224x8192 .f32 := Host.absf main_v10
  let main_cst_2 : FVec F S_ .f32 := constant S_ .f32 0x7F800000#32
  let main_v12 : FVec F S4224x8192 .f32 := broadcastInDim S4224x8192 ![] bcast_S_S4224x8192 main_cst_2
  let main_v13 : IVec S4224x8192 1 := cmpf .olt main_v11 main_v12
  let main_c_3 : IVec S_ 1 := constantI S_ 1 1#1
  let main_v14 : IVec S_ 1 := (fun x v => Host.reduce IntOp.andi x v reducesTo_S4224x8192_S_d0_1 h_S_) main_v13 main_c_3
  let main_v15 : IVec S_ 1 := andi main_v9 main_v14
  let main_v16 : FVec F S4224x8192 .f32 := (extf .f32 · bitsLt_bf16_f32) main_arg4
  let main_v17 : FVec F S4224x8192 .f32 := Host.absf main_v16
  fn_part1 (F := F) main_arg5 main_arg6 main_arg7 main_v15 main_v17
-- ==== Kernel.lean ====
abbrev S4224x8192 : Shape := ⟨2, ![4224, 8192]⟩
abbrev S64x4224x64 : Shape := ⟨3, ![64, 4224, 64]⟩
abbrev S32x66x8x64 : Shape := ⟨4, ![32, 66, 8, 64]⟩
abbrev S66x64x128x128 : Shape := ⟨4, ![66, 64, 128, 128]⟩
abbrev S66x64x64x128 : Shape := ⟨4, ![66, 64, 64, 128]⟩
abbrev S2x66x32x128 : Shape := ⟨4, ![2, 66, 32, 128]⟩
abbrev S64x4096 : Shape := ⟨2, ![64, 4096]⟩
abbrev S32x64x64 : Shape := ⟨3, ![32, 64, 64]⟩
abbrev S1x32x128x128 : Shape := ⟨4, ![1, 32, 128, 128]⟩
abbrev S16x1x8x64 : Shape := ⟨4, ![16, 1, 8, 64]⟩
abbrev S1x1x32x128 : Shape := ⟨4, ![1, 1, 32, 128]⟩
abbrev S32x128x128 : Shape := ⟨3, ![32, 128, 128]⟩
abbrev S64x64 : Shape := ⟨2, ![64, 64]⟩
abbrev S1x1x128x128 : Shape := ⟨4, ![1, 1, 128, 128]⟩
abbrev S128x128 : Shape := ⟨2, ![128, 128]⟩
abbrev S1x128x128 : Shape := ⟨3, ![1, 128, 128]⟩
abbrev S64x128 : Shape := ⟨2, ![64, 128]⟩
abbrev S1x1x1x64 : Shape := ⟨4, ![1, 1, 1, 64]⟩
abbrev S1x64 : Shape := ⟨2, ![1, 64]⟩
abbrev S1 : Shape := ⟨1, ![1]⟩
abbrev S1x1 : Shape := ⟨2, ![1, 1]⟩
abbrev S1x64x64 : Shape := ⟨3, ![1, 64, 64]⟩
abbrev S1x1x1 : Shape := ⟨3, ![1, 1, 1]⟩
abbrev S1x128 : Shape := ⟨2, ![1, 128]⟩
abbrev S1x1x1x128 : Shape := ⟨4, ![1, 1, 1, 128]⟩

abbrev nBuf : Space → Nat
  | .hbm => 24
  | .vmem => 29
  | .smem => 0
  | _ => 0

abbrev bufTy : (tb : Table) → Fin (tcTables nBuf tb) → BufTy
  | .hbm, ⟨0, _⟩ => ⟨S4224x8192, .f32⟩
  | .hbm, ⟨1, _⟩ => ⟨S4224x8192, .f32⟩
  | .hbm, ⟨2, _⟩ => ⟨S4224x8192, .bf16⟩
  | .hbm, ⟨3, _⟩ => ⟨S4224x8192, .bf16⟩
  | .hbm, ⟨4, _⟩ => ⟨S4224x8192, .bf16⟩
  | .hbm, ⟨5, _⟩ => ⟨S64x4224x64, .bf16⟩
  | .hbm, ⟨6, _⟩ => ⟨S32x66x8x64, .f32⟩
  | .hbm, ⟨7, _⟩ => ⟨S66x64x128x128, .f32⟩
  | .hbm, ⟨8, _⟩ => ⟨S66x64x64x128, .f32⟩
  | .hbm, ⟨9, _⟩ => ⟨S66x64x64x128, .f32⟩
  | .hbm, ⟨10, _⟩ => ⟨S4224x8192, .f32⟩
  | .hbm, ⟨11, _⟩ => ⟨S66x64x64x128, .f32⟩
  | .hbm, ⟨12, _⟩ => ⟨S66x64x64x128, .f32⟩
  | .hbm, ⟨13, _⟩ => ⟨S66x64x64x128, .f32⟩
  | .hbm, ⟨14, _⟩ => ⟨S66x64x64x128, .f32⟩
  | .hbm, ⟨15, _⟩ => ⟨S66x64x64x128, .f32⟩
  | .hbm, ⟨16, _⟩ => ⟨S4224x8192, .f32⟩
  | .hbm, ⟨17, _⟩ => ⟨S4224x8192, .bf16⟩
  | .hbm, ⟨18, _⟩ => ⟨S4224x8192, .bf16⟩
  | .hbm, ⟨19, _⟩ => ⟨S4224x8192, .bf16⟩
  | .hbm, ⟨20, _⟩ => ⟨S4224x8192, .f32⟩
  | .hbm, ⟨21, _⟩ => ⟨S4224x8192, .f32⟩
  | .hbm, ⟨22, _⟩ => ⟨S64x4224x64, .f32⟩
  | .hbm, ⟨23, _⟩ => ⟨S2x66x32x128, .f32⟩
  | .local _ .vmem, ⟨0, _⟩ => ⟨S64x4096, .f32⟩
  | .local _ .vmem, ⟨1, _⟩ => ⟨S64x4096, .f32⟩
  | .local _ .vmem, ⟨2, _⟩ => ⟨S64x4096, .bf16⟩
  | .local _ .vmem, ⟨3, _⟩ => ⟨S64x4096, .bf16⟩
  | .local _ .vmem, ⟨4, _⟩ => ⟨S64x4096, .bf16⟩
  | .local _ .vmem, ⟨5, _⟩ => ⟨S64x4096, .bf16⟩
  | .local _ .vmem, ⟨6, _⟩ => ⟨S64x4096, .bf16⟩
  | .local _ .vmem, ⟨7, _⟩ => ⟨S64x4096, .bf16⟩
  | .local _ .vmem, ⟨8, _⟩ => ⟨S32x64x64, .bf16⟩
  | .local _ .vmem, ⟨9, _⟩ => ⟨S32x64x64, .bf16⟩
  | .local _ .vmem, ⟨10, _⟩ => ⟨S64x4096, .bf16⟩
  | .local _ .vmem, ⟨11, _⟩ => ⟨S64x4096, .bf16⟩
  | .local _ .vmem, ⟨12, _⟩ => ⟨S1x32x128x128, .f32⟩
  | .local _ .vmem, ⟨13, _⟩ => ⟨S1x32x128x128, .f32⟩
  | .local _ .vmem, ⟨14, _⟩ => ⟨S16x1x8x64, .f32⟩
  | .local _ .vmem, ⟨15, _⟩ => ⟨S16x1x8x64, .f32⟩
  | .local _ .vmem, ⟨16, _⟩ => ⟨S64x4096, .bf16⟩
  | .local _ .vmem, ⟨17, _⟩ => ⟨S64x4096, .bf16⟩
  | .local _ .vmem, ⟨18, _⟩ => ⟨S64x4096, .bf16⟩
  | .local _ .vmem, ⟨19, _⟩ => ⟨S64x4096, .bf16⟩
  | .local _ .vmem, ⟨20, _⟩ => ⟨S64x4096, .f32⟩
  | .local _ .vmem, ⟨21, _⟩ => ⟨S64x4096, .f32⟩
  | .local _ .vmem, ⟨22, _⟩ => ⟨S64x4096, .f32⟩
  | .local _ .vmem, ⟨23, _⟩ => ⟨S64x4096, .f32⟩
  | .local _ .vmem, ⟨24, _⟩ => ⟨S32x64x64, .f32⟩
  | .local _ .vmem, ⟨25, _⟩ => ⟨S32x64x64, .f32⟩
  | .local _ .vmem, ⟨26, _⟩ => ⟨S1x1x32x128, .f32⟩
  | .local _ .vmem, ⟨27, _⟩ => ⟨S1x1x32x128, .f32⟩
  | .local _ .vmem, ⟨28, _⟩ => ⟨S32x128x128, .f32⟩
  | _, _ => ⟨S4224x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 66], ![false, false]⟩

def cc0_transform_0 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_6 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_12 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

def cc0_transform_13 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4224x8192 : Shape := ⟨2, ![4224, 8192]⟩
abbrev S64x4224x64 : Shape := ⟨3, ![64, 4224, 64]⟩
abbrev S32x66x8x64 : Shape := ⟨4, ![32, 66, 8, 64]⟩
abbrev S66x64x128x128 : Shape := ⟨4, ![66, 64, 128, 128]⟩
abbrev S32x66x2x64 : Shape := ⟨4, ![32, 66, 2, 64]⟩
abbrev S66x32x2x64 : Shape := ⟨4, ![66, 32, 2, 64]⟩
abbrev S66x64x64 : Shape := ⟨3, ![66, 64, 64]⟩
abbrev S_ : Shape := ⟨0, ![]⟩
abbrev S66x64 : Shape := ⟨2, ![66, 64]⟩
abbrev S64x128x128 : Shape := ⟨3, ![64, 128, 128]⟩
abbrev S66x64x64x128 : Shape := ⟨4, ![66, 64, 64, 128]⟩
abbrev S64x66x64x64 : Shape := ⟨4, ![64, 66, 64, 64]⟩
abbrev S66x64x64x64 : Shape := ⟨4, ![66, 64, 64, 64]⟩
abbrev S1x64x128x128 : Shape := ⟨4, ![1, 64, 128, 128]⟩
abbrev S1x64x64x128 : Shape := ⟨4, ![1, 64, 64, 128]⟩
abbrev S64x64x128 : Shape := ⟨3, ![64, 64, 128]⟩
abbrev S1x64x64x64 : Shape := ⟨4, ![1, 64, 64, 64]⟩
abbrev S64x64x64 : Shape := ⟨3, ![64, 64, 64]⟩
abbrev S1x64 : Shape := ⟨2, ![1, 64]⟩
abbrev S64 : Shape := ⟨1, ![64]⟩
abbrev S64x1x1 : Shape := ⟨3, ![64, 1, 1]⟩
abbrev S64x128x64 : Shape := ⟨3, ![64, 128, 64]⟩
abbrev S64x64 : Shape := ⟨2, ![64, 64]⟩
abbrev S66x2x32 : Shape := ⟨3, ![66, 2, 32]⟩
abbrev S2x66x32 : Shape := ⟨3, ![2, 66, 32]⟩
abbrev S2x66x32x1 : Shape := ⟨4, ![2, 66, 32, 1]⟩
abbrev S2x66x32x128 : Shape := ⟨4, ![2, 66, 32, 128]⟩

abbrev nBuf : Space → Nat
  | .hbm => 195
  | .vmem => 0
  | .smem => 0
  | _ => 0

abbrev hbmTy0_0 (i : Nat) : BufTy := match i % 128 with
  | 0 => ⟨S4224x8192, .f32⟩
  | 1 => ⟨S4224x8192, .f32⟩
  | 2 => ⟨S4224x8192, .bf16⟩
  | 3 => ⟨S4224x8192, .bf16⟩
  | 4 => ⟨S4224x8192, .bf16⟩
  | 5 => ⟨S64x4224x64, .bf16⟩
  | 6 => ⟨S32x66x8x64, .f32⟩
  | 7 => ⟨S66x64x128x128, .f32⟩
  | 8 => ⟨S32x66x2x64, .f32⟩
  | 9 => ⟨S66x32x2x64, .f32⟩
  | 10 => ⟨S66x64x64, .f32⟩
  | 11 => ⟨S_, .f32⟩
  | 12 => ⟨S66x64, .f32⟩
  | 13 => ⟨S_, .f32⟩
  | 14 => ⟨S64x128x128, .f32⟩
  | 15 => ⟨S66x64x64x128, .f32⟩
  | 16 => ⟨S66x64x64x128, .f32⟩
  | 17 => ⟨S66x64x64x128, .f32⟩
  | 18 => ⟨S66x64x64x128, .f32⟩
  | 19 => ⟨S4224x8192, .f32⟩
  | 20 => ⟨S66x64x64x128, .f32⟩
  | 21 => ⟨S66x64x64x128, .f32⟩
  | 22 => ⟨S4224x8192, .f32⟩
  | 23 => ⟨S66x64x64x128, .f32⟩
  | 24 => ⟨S66x64x64x128, .f32⟩
  | 25 => ⟨S4224x8192, .f32⟩
  | 26 => ⟨S66x64x64x128, .f32⟩
  | 27 => ⟨S66x64x64x128, .f32⟩
  | 28 => ⟨S64x4224x64, .f32⟩
  | 29 => ⟨S64x66x64x64, .f32⟩
  | 30 => ⟨S66x64x64x64, .f32⟩
  | 31 => ⟨S_, .f32⟩
  | 32 => ⟨S66x64x64x128, .f32⟩
  | 33 => ⟨S_, .f32⟩
  | 34 => ⟨S66x64x64x128, .f32⟩
  | 35 => ⟨S_, .f32⟩
  | 36 => ⟨S66x64x64x128, .f32⟩
  | 37 => ⟨S_, .f32⟩
  | 38 => ⟨S66x64x64x128, .f32⟩
  | 39 => ⟨S_, .f32⟩
  | 40 => ⟨S66x64x64x64, .f32⟩
  | 41 => ⟨S_, .f32⟩
  | 42 => ⟨S66x64, .f32⟩
  | 43 => ⟨S_, .i32⟩
  | 44 => ⟨S66x64x128x128, .f32⟩
  | 45 => ⟨S66x64x64x128, .f32⟩
  | 46 => ⟨S66x64x64x128, .f32⟩
  | 47 => ⟨S66x64x64x128, .f32⟩
  | 48 => ⟨S66x64x64x128, .f32⟩
  | 49 => ⟨S66x64x64x128, .f32⟩
  | 50 => ⟨S66x64x64x64, .f32⟩
  | 51 => ⟨S66x64, .f32⟩
  | 52 => ⟨S_, .i32⟩
  | 53 => ⟨S64x128x128, .f32⟩
  | 54 => ⟨S66x64x64x128, .f32⟩
  | 55 => ⟨S66x64x64x128, .f32⟩
  | 56 => ⟨S66x64x64x128, .f32⟩
  | 57 => ⟨S66x64x64x128, .f32⟩
  | 58 => ⟨S66x64x64x64, .f32⟩
  | 59 => ⟨S66x64, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S1x64x128x128, .f32⟩
  | 70 => ⟨S64x128x128, .f32⟩
  | 71 => ⟨S_, .i32⟩
  | 72 => ⟨S_, .i32⟩
  | 73 => ⟨S_, .i32⟩
  | 74 => ⟨S1x64x64x128, .f32⟩
  | 75 => ⟨S64x64x128, .f32⟩
  | 76 => ⟨S_, .i32⟩
  | 77 => ⟨S_, .i32⟩
  | 78 => ⟨S_, .i32⟩
  | 79 => ⟨S1x64x64x128, .f32⟩
  | 80 => ⟨S64x64x128, .f32⟩
  | 81 => ⟨S_, .i32⟩
  | 82 => ⟨S_, .i32⟩
  | 83 => ⟨S_, .i32⟩
  | 84 => ⟨S1x64x64x128, .f32⟩
  | 85 => ⟨S64x64x128, .f32⟩
  | 86 => ⟨S_, .i32⟩
  | 87 => ⟨S_, .i32⟩
  | 88 => ⟨S_, .i32⟩
  | 89 => ⟨S1x64x64x128, .f32⟩
  | 90 => ⟨S64x64x128, .f32⟩
  | 91 => ⟨S_, .i32⟩
  | 92 => ⟨S_, .i32⟩
  | 93 => ⟨S_, .i32⟩
  | 94 => ⟨S1x64x64x128, .f32⟩
  | 95 => ⟨S64x64x128, .f32⟩
  | 96 => ⟨S_, .i32⟩
  | 97 => ⟨S_, .i32⟩
  | 98 => ⟨S_, .i32⟩
  | 99 => ⟨S1x64x64x64, .f32⟩
  | 100 => ⟨S64x64x64, .f32⟩
  | 101 => ⟨S_, .i32⟩
  | 102 => ⟨S1x64, .f32⟩
  | 103 => ⟨S64, .f32⟩
  | 104 => ⟨S64x64x128, .f32⟩
  | 105 => ⟨S64x64x128, .f32⟩
  | 106 => ⟨S64x64x128, .f32⟩
  | 107 => ⟨S64x64x128, .f32⟩
  | 108 => ⟨S64x64x128, .f32⟩
  | 109 => ⟨S64, .f32⟩
  | 110 => ⟨S64x1x1, .f32⟩
  | 111 => ⟨S64x128x128, .f32⟩
  | 112 => ⟨S64x128x128, .f32⟩
  | 113 => ⟨S64x128x128, .f32⟩
  | 114 => ⟨S64x128x128, .f32⟩
  | 115 => ⟨S64x128x64, .f32⟩
  | 116 => ⟨S64x64x128, .f32⟩
  | 117 => ⟨S64x128x64, .f32⟩
  | 118 => ⟨S64x64x128, .f32⟩
  | 119 => ⟨S64x128x128, .f32⟩
  | 120 => ⟨S_, .f32⟩
  | 121 => ⟨S64, .f32⟩
  | 122 => ⟨S64x1x1, .f32⟩
  | 123 => ⟨S64x128x128, .f32⟩
  | 124 => ⟨S64x128x128, .f32⟩
  | 125 => ⟨S_, .f32⟩
  | 126 => ⟨S64, .f32⟩
  | 127 => ⟨S64, .f32⟩
  | _ => ⟨S4224x8192, .f32⟩

abbrev hbmTy0_1 (i : Nat) : BufTy := match i % 128 with
  | 0 => ⟨S64x128x64, .f32⟩
  | 1 => ⟨S64x64x128, .f32⟩
  | 2 => ⟨S64x64x128, .f32⟩
  | 3 => ⟨S64x64x64, .f32⟩
  | 4 => ⟨S64x128x128, .f32⟩
  | 5 => ⟨S64x128x128, .f32⟩
  | 6 => ⟨S64x128x128, .f32⟩
  | 7 => ⟨S64x64x128, .f32⟩
  | 8 => ⟨S64x64x128, .f32⟩
  | 9 => ⟨S64x128x128, .f32⟩
  | 10 => ⟨S64x128x128, .f32⟩
  | 11 => ⟨S64x128x128, .f32⟩
  | 12 => ⟨S64x64x128, .f32⟩
  | 13 => ⟨S1x64x64x128, .f32⟩
  | 14 => ⟨S_, .i32⟩
  | 15 => ⟨S_, .i32⟩
  | 16 => ⟨S_, .i32⟩
  | 17 => ⟨S66x64x64x128, .f32⟩
  | 18 => ⟨S1x64x64x128, .f32⟩
  | 19 => ⟨S_, .i32⟩
  | 20 => ⟨S_, .i32⟩
  | 21 => ⟨S_, .i32⟩
  | 22 => ⟨S66x64x64x128, .f32⟩
  | 23 => ⟨S1x64x64x128, .f32⟩
  | 24 => ⟨S_, .i32⟩
  | 25 => ⟨S_, .i32⟩
  | 26 => ⟨S_, .i32⟩
  | 27 => ⟨S66x64x64x128, .f32⟩
  | 28 => ⟨S1x64x64x128, .f32⟩
  | 29 => ⟨S_, .i32⟩
  | 30 => ⟨S_, .i32⟩
  | 31 => ⟨S_, .i32⟩
  | 32 => ⟨S66x64x64x128, .f32⟩
  | 33 => ⟨S1x64x64x64, .f32⟩
  | 34 => ⟨S_, .i32⟩
  | 35 => ⟨S_, .i32⟩
  | 36 => ⟨S_, .i32⟩
  | 37 => ⟨S66x64x64x64, .f32⟩
  | 38 => ⟨S1x64, .f32⟩
  | 39 => ⟨S_, .i32⟩
  | 40 => ⟨S66x64, .f32⟩
  | 41 => ⟨S_, .i32⟩
  | 42 => ⟨S_, .i32⟩
  | 43 => ⟨S64x64, .i32⟩
  | 44 => ⟨S64x64, .i32⟩
  | 45 => ⟨S64x64, .i1⟩
  | 46 => ⟨S_, .f32⟩
  | 47 => ⟨S_, .f32⟩
  | 48 => ⟨S66x64x64x64, .i1⟩
  | 49 => ⟨S66x64x64x64, .f32⟩
  | 50 => ⟨S66x64x64x64, .f32⟩
  | 51 => ⟨S66x2x32, .f32⟩
  | 52 => ⟨S2x66x32, .f32⟩
  | 53 => ⟨S66x64x64x128, .f32⟩
  | 54 => ⟨S4224x8192, .f32⟩
  | 55 => ⟨S4224x8192, .bf16⟩
  | 56 => ⟨S66x64x64x128, .f32⟩
  | 57 => ⟨S4224x8192, .f32⟩
  | 58 => ⟨S4224x8192, .bf16⟩
  | 59 => ⟨S66x64x64x128, .f32⟩
  | 60 => ⟨S4224x8192, .f32⟩
  | 61 => ⟨S66x64x64x128, .f32⟩
  | 62 => ⟨S4224x8192, .f32⟩
  | 63 => ⟨S64x66x64x64, .f32⟩
  | 64 => ⟨S64x4224x64, .f32⟩
  | 65 => ⟨S2x66x32x1, .f32⟩
  | 66 => ⟨S2x66x32x128, .f32⟩
  | _ => ⟨S4224x8192, .f32⟩

abbrev hbmTy (i : Nat) : BufTy := match i / 128 with
  | 0 => hbmTy0_0 i
  | 1 => hbmTy0_1 i
  | _ => ⟨S4224x8192, .f32⟩

abbrev bufTy : (tb : Table) → Fin (tcTables nBuf tb) → BufTy
  | .hbm, ⟨i, _⟩ => hbmTy i
  | _, _ => ⟨S4224x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_c : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev main_v27_3 : Ref sig .tc := ⟨.hbm, 47, rfl⟩
abbrev main_v27_4 : Ref sig .tc := ⟨.hbm, 48, rfl⟩
abbrev main_v27_5 : Ref sig .tc := ⟨.hbm, 49, rfl⟩
abbrev main_v27_6 : Ref sig .tc := ⟨.hbm, 50, rfl⟩
abbrev main_v27_7 : Ref sig .tc := ⟨.hbm, 51, rfl⟩
abbrev main_v27_8 : Ref sig .tc := ⟨.hbm, 52, rfl⟩
abbrev main_v27_9 : Ref sig .tc := ⟨.hbm, 53, rfl⟩
abbrev main_v27_10 : Ref sig .tc := ⟨.hbm, 54, rfl⟩
abbrev main_v27_11 : Ref sig .tc := ⟨.hbm, 55, rfl⟩
abbrev main_v27_12 : Ref sig .tc := ⟨.hbm, 56, rfl⟩
abbrev main_v27_13 : Ref sig .tc := ⟨.hbm, 57, rfl⟩
abbrev main_v27_14 : Ref sig .tc := ⟨.hbm, 58, rfl⟩
abbrev main_v27_15 : Ref sig .tc := ⟨.hbm, 59, rfl⟩
abbrev main_while0c_c_23 : Ref sig .tc := ⟨.hbm, 60, rfl⟩
abbrev main_while0c_v48 : Ref sig .tc := ⟨.hbm, 61, rfl⟩
abbrev main_while0b_c_23 : Ref sig .tc := ⟨.hbm, 62, rfl⟩
abbrev main_while0b_v48 : Ref sig .tc := ⟨.hbm, 63, rfl⟩
abbrev main_while0b_c_24 : Ref sig .tc := ⟨.hbm, 64, rfl⟩
abbrev main_while0b_v49 : Ref sig .tc := ⟨.hbm, 65, rfl⟩
abbrev main_while0b_call0_c : Ref sig .tc := ⟨.hbm, 66, rfl⟩
abbrev main_while0b_call0_c_0 : Ref sig .tc := ⟨.hbm, 67, rfl⟩
abbrev main_while0b_call0_c_1 : Ref sig .tc := ⟨.hbm, 68, rfl⟩
abbrev main_while0b_call0_v0 : Ref sig .tc := ⟨.hbm, 69, rfl⟩
abbrev main_while0b_v50 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_v0 : Ref sig .tc := ⟨.hbm, 74, rfl⟩
abbrev main_while0b_v51 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_v0 : Ref sig .tc := ⟨.hbm, 79, rfl⟩
abbrev main_while0b_v52 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_c_1 : Ref sig .tc := ⟨.hbm, 83, rfl⟩
abbrev main_while0b_call3_v0 : Ref sig .tc := ⟨.hbm, 84, rfl⟩
abbrev main_while0b_v53 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_c_1 : Ref sig .tc := ⟨.hbm, 88, rfl⟩
abbrev main_while0b_call4_v0 : Ref sig .tc := ⟨.hbm, 89, rfl⟩
abbrev main_while0b_v54 : Ref sig .tc := ⟨.hbm, 90, rfl⟩
abbrev main_while0b_call5_c : Ref sig .tc := ⟨.hbm, 91, rfl⟩
abbrev main_while0b_call5_c_0 : Ref sig .tc := ⟨.hbm, 92, rfl⟩
abbrev main_while0b_call5_c_1 : Ref sig .tc := ⟨.hbm, 93, rfl⟩
abbrev main_while0b_call5_v0 : Ref sig .tc := ⟨.hbm, 94, rfl⟩
abbrev main_while0b_v55 : Ref sig .tc := ⟨.hbm, 95, rfl⟩
abbrev main_while0b_call6_c : Ref sig .tc := ⟨.hbm, 96, rfl⟩
abbrev main_while0b_call6_c_0 : Ref sig .tc := ⟨.hbm, 97, rfl⟩
abbrev main_while0b_call6_c_1 : Ref sig .tc := ⟨.hbm, 98, rfl⟩
abbrev main_while0b_call6_v0 : Ref sig .tc := ⟨.hbm, 99, rfl⟩
abbrev main_while0b_v56 : Ref sig .tc := ⟨.hbm, 100, rfl⟩
abbrev main_while0b_call7_c : Ref sig .tc := ⟨.hbm, 101, rfl⟩
abbrev main_while0b_call7_v0 : Ref sig .tc := ⟨.hbm, 102, rfl⟩
abbrev main_while0b_v57 : Ref sig .tc := ⟨.hbm, 103, rfl⟩
abbrev main_while0b_v58 : Ref sig .tc := ⟨.hbm, 104, rfl⟩
abbrev main_while0b_v59 : Ref sig .tc := ⟨.hbm, 105, rfl⟩
abbrev main_while0b_v60 : Ref sig .tc := ⟨.hbm, 106, rfl⟩
abbrev main_while0b_v61 : Ref sig .tc := ⟨.hbm, 107, rfl⟩
abbrev main_while0b_v62 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_v69 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_v73 : Ref sig .tc := ⟨.hbm, 119, rfl⟩
abbrev main_while0b_cst_25 : Ref sig .tc := ⟨.hbm, 120, rfl⟩
abbrev main_while0b_v74 : Ref sig .tc := ⟨.hbm, 121, rfl⟩
abbrev main_while0b_v75 : Ref sig .tc := ⟨.hbm, 122, rfl⟩
abbrev main_while0b_v76 : Ref sig .tc := ⟨.hbm, 123, rfl⟩
abbrev main_while0b_v77 : Ref sig .tc := ⟨.hbm, 124, rfl⟩
abbrev main_while0b_cst_26 : Ref sig .tc := ⟨.hbm, 125, rfl⟩
abbrev main_while0b_v78 : Ref sig .tc := ⟨.hbm, 126, rfl⟩
abbrev main_while0b_v79 : Ref sig .tc := ⟨.hbm, 127, rfl⟩
abbrev main_while0b_v80 : Ref sig .tc := ⟨.hbm, 128, rfl⟩
abbrev main_while0b_v81 : Ref sig .tc := ⟨.hbm, 129, rfl⟩
abbrev main_while0b_v82 : Ref sig .tc := ⟨.hbm, 130, rfl⟩
abbrev main_while0b_v83 : Ref sig .tc := ⟨.hbm, 131, rfl⟩
abbrev main_while0b_v84 : Ref sig .tc := ⟨.hbm, 132, rfl⟩
abbrev main_while0b_v85 : Ref sig .tc := ⟨.hbm, 133, rfl⟩
abbrev main_while0b_v86 : Ref sig .tc := ⟨.hbm, 134, rfl⟩
abbrev main_while0b_v87 : Ref sig .tc := ⟨.hbm, 135, rfl⟩
abbrev main_while0b_v88 : Ref sig .tc := ⟨.hbm, 136, rfl⟩
abbrev main_while0b_v89 : Ref sig .tc := ⟨.hbm, 137, rfl⟩
abbrev main_while0b_v90 : Ref sig .tc := ⟨.hbm, 138, rfl⟩
abbrev main_while0b_v91 : Ref sig .tc := ⟨.hbm, 139, rfl⟩
abbrev main_while0b_v92 : Ref sig .tc := ⟨.hbm, 140, rfl⟩
abbrev main_while0b_call8_v0 : Ref sig .tc := ⟨.hbm, 141, rfl⟩
abbrev main_while0b_call8_c : Ref sig .tc := ⟨.hbm, 142, rfl⟩
abbrev main_while0b_call8_c_0 : Ref sig .tc := ⟨.hbm, 143, rfl⟩
abbrev main_while0b_call8_c_1 : Ref sig .tc := ⟨.hbm, 144, rfl⟩
abbrev main_while0b_v93 : Ref sig .tc := ⟨.hbm, 145, rfl⟩
abbrev main_while0b_call9_v0 : Ref sig .tc := ⟨.hbm, 146, rfl⟩
abbrev main_while0b_call9_c : Ref sig .tc := ⟨.hbm, 147, rfl⟩
abbrev main_while0b_call9_c_0 : Ref sig .tc := ⟨.hbm, 148, rfl⟩
abbrev main_while0b_call9_c_1 : Ref sig .tc := ⟨.hbm, 149, rfl⟩
abbrev main_while0b_v94 : Ref sig .tc := ⟨.hbm, 150, rfl⟩
abbrev main_while0b_call10_v0 : Ref sig .tc := ⟨.hbm, 151, rfl⟩
abbrev main_while0b_call10_c : Ref sig .tc := ⟨.hbm, 152, rfl⟩
abbrev main_while0b_call10_c_0 : Ref sig .tc := ⟨.hbm, 153, rfl⟩
abbrev main_while0b_call10_c_1 : Ref sig .tc := ⟨.hbm, 154, rfl⟩
abbrev main_while0b_v95 : Ref sig .tc := ⟨.hbm, 155, rfl⟩
abbrev main_while0b_call11_v0 : Ref sig .tc := ⟨.hbm, 156, rfl⟩
abbrev main_while0b_call11_c : Ref sig .tc := ⟨.hbm, 157, rfl⟩
abbrev main_while0b_call11_c_0 : Ref sig .tc := ⟨.hbm, 158, rfl⟩
abbrev main_while0b_call11_c_1 : Ref sig .tc := ⟨.hbm, 159, rfl⟩
abbrev main_while0b_v96 : Ref sig .tc := ⟨.hbm, 160, rfl⟩
abbrev main_while0b_call12_v0 : Ref sig .tc := ⟨.hbm, 161, rfl⟩
abbrev main_while0b_call12_c : Ref sig .tc := ⟨.hbm, 162, rfl⟩
abbrev main_while0b_call12_c_0 : Ref sig .tc := ⟨.hbm, 163, rfl⟩
abbrev main_while0b_call12_c_1 : Ref sig .tc := ⟨.hbm, 164, rfl⟩
abbrev main_while0b_v97 : Ref sig .tc := ⟨.hbm, 165, rfl⟩
abbrev main_while0b_call13_v0 : Ref sig .tc := ⟨.hbm, 166, rfl⟩
abbrev main_while0b_call13_c : Ref sig .tc := ⟨.hbm, 167, rfl⟩
abbrev main_while0b_v98 : Ref sig .tc := ⟨.hbm, 168, rfl⟩
abbrev main_while0b_c_27 : Ref sig .tc := ⟨.hbm, 169, rfl⟩
abbrev main_while0b_v99 : Ref sig .tc := ⟨.hbm, 170, rfl⟩
abbrev main_v28 : Ref sig .tc := ⟨.hbm, 171, rfl⟩
abbrev main_v29 : Ref sig .tc := ⟨.hbm, 172, rfl⟩
abbrev main_v30 : Ref sig .tc := ⟨.hbm, 173, rfl⟩
abbrev main_cst_7 : Ref sig .tc := ⟨.hbm, 174, rfl⟩
abbrev main_call14_v0 : Ref sig .tc := ⟨.hbm, 175, rfl⟩
abbrev main_call14_v1 : Ref sig .tc := ⟨.hbm, 176, rfl⟩
abbrev main_call14_v2 : Ref sig .tc := ⟨.hbm, 177, rfl⟩
abbrev main_v31 : Ref sig .tc := ⟨.hbm, 178, rfl⟩
abbrev main_v32 : Ref sig .tc := ⟨.hbm, 179, rfl⟩
abbrev main_v33 : Ref sig .tc := ⟨.hbm, 180, rfl⟩
abbrev main_v34 : Ref sig .tc := ⟨.hbm, 181, rfl⟩
abbrev main_v35 : Ref sig .tc := ⟨.hbm, 182, rfl⟩
abbrev main_v36 : Ref sig .tc := ⟨.hbm, 183, rfl⟩
abbrev main_v37 : Ref sig .tc := ⟨.hbm, 184, rfl⟩
abbrev main_v38 : Ref sig .tc := ⟨.hbm, 185, rfl⟩
abbrev main_v39 : Ref sig .tc := ⟨.hbm, 186, rfl⟩
abbrev main_v40 : Ref sig .tc := ⟨.hbm, 187, rfl⟩
abbrev main_v41 : Ref sig .tc := ⟨.hbm, 188, rfl⟩
abbrev main_v42 : Ref sig .tc := ⟨.hbm, 189, rfl⟩
abbrev main_v43 : Ref sig .tc := ⟨.hbm, 190, rfl⟩
abbrev main_v44 : Ref sig .tc := ⟨.hbm, 191, rfl⟩
abbrev main_v45 : Ref sig .tc := ⟨.hbm, 192, rfl⟩
abbrev main_v46 : Ref sig .tc := ⟨.hbm, 193, rfl⟩
abbrev main_v47 : Ref sig .tc := ⟨.hbm, 194, rfl⟩

abbrev nD : Nat := 1
abbrev τ : Topo := Topo.v7x

variable {F : FTy → Type} [FloatOps F]

abbrev main_while0_count : Scf.Loop 32 := ⟨0#32, 66#32, 1#32⟩
-- ==== Kernel2.lean ====
abbrev S4224x4096 : Shape := ⟨2, ![4224, 4096]⟩
abbrev S4224x24576 : Shape := ⟨2, ![4224, 24576]⟩
abbrev S4096x24576 : Shape := ⟨2, ![4096, 24576]⟩
abbrev S4224x1024 : Shape := ⟨2, ![4224, 1024]⟩
abbrev S4224x512 : Shape := ⟨2, ![4224, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4224x24576, .bf16⟩
  | .hbm, ⟨2, _⟩ => ⟨S4096x24576, .bf16⟩
  | .local _ .vmem, ⟨0, _⟩ => ⟨S4224x1024, .bf16⟩
  | .local _ .vmem, ⟨1, _⟩ => ⟨S4224x1024, .bf16⟩
  | .local _ .vmem, ⟨2, _⟩ => ⟨S4224x512, .bf16⟩
  | .local _ .vmem, ⟨3, _⟩ => ⟨S4224x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 48, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4224x4096 : Shape := ⟨2, ![4224, 4096]⟩
abbrev S4224x24576 : Shape := ⟨2, ![4224, 24576]⟩
abbrev S_ : Shape := ⟨0, ![]⟩
abbrev S4096x24576 : Shape := ⟨2, ![4096, 24576]⟩
abbrev S24576x4096 : Shape := ⟨2, ![24576, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x24576, .bf16⟩
  | .hbm, ⟨2, _⟩ => ⟨S_, .f32⟩
  | .hbm, ⟨3, _⟩ => ⟨S4096x24576, .f32⟩
  | .hbm, ⟨4, _⟩ => ⟨S4224x4096, .f32⟩
  | .hbm, ⟨5, _⟩ => ⟨S4224x24576, .f32⟩
  | .hbm, ⟨6, _⟩ => ⟨S4224x24576, .f32⟩
  | .hbm, ⟨7, _⟩ => ⟨S24576x4096, .f32⟩
  | .hbm, ⟨8, _⟩ => ⟨S4096x24576, .f32⟩
  | .hbm, ⟨9, _⟩ => ⟨S4096x24576, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4224x24576 : Shape := ⟨2, ![4224, 24576]⟩
abbrev S4096x24704 : Shape := ⟨2, ![4096, 24704]⟩
abbrev S4224x4096 : Shape := ⟨2, ![4224, 4096]⟩
abbrev S8x128 : Shape := ⟨2, ![8, 128]⟩
abbrev S1056x4096 : Shape := ⟨2, ![1056, 4096]⟩
abbrev S512x4096 : Shape := ⟨2, ![512, 4096]⟩
abbrev S1056x512 : Shape := ⟨2, ![1056, 512]⟩

abbrev nBuf : Space → Nat
  | .hbm => 5
  | .vmem => 10
  | .smem => 0
  | _ => 0

abbrev bufTy : (tb : Table) → Fin (tcTables nBuf tb) → BufTy
  | .hbm, ⟨0, _⟩ => ⟨S4224x24576, .bf16⟩
  | .hbm, ⟨1, _⟩ => ⟨S4096x24704, .bf16⟩
  | .hbm, ⟨2, _⟩ => ⟨S4224x4096, .f32⟩
  | .hbm, ⟨3, _⟩ => ⟨S8x128, .f32⟩
  | .hbm, ⟨4, _⟩ => ⟨S4224x4096, .f32⟩
  | .local _ .vmem, ⟨0, _⟩ => ⟨S1056x4096, .bf16⟩
  | .local _ .vmem, ⟨1, _⟩ => ⟨S1056x4096, .bf16⟩
  | .local _ .vmem, ⟨2, _⟩ => ⟨S512x4096, .bf16⟩
  | .local _ .vmem, ⟨3, _⟩ => ⟨S512x4096, .bf16⟩
  | .local _ .vmem, ⟨4, _⟩ => ⟨S1056x512, .f32⟩
  | .local _ .vmem, ⟨5, _⟩ => ⟨S1056x512, .f32⟩
  | .local _ .vmem, ⟨6, _⟩ => ⟨S8x128, .f32⟩
  | .local _ .vmem, ⟨7, _⟩ => ⟨S1056x512, .f32⟩
  | .local _ .vmem, ⟨8, _⟩ => ⟨S1056x512, .f32⟩
  | .local _ .vmem, ⟨9, _⟩ => ⟨S1056x512, .f32⟩
  | _, _ => ⟨S4224x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4224x24576 : Shape := ⟨2, ![4224, 24576]⟩
abbrev S4096x24704 : Shape := ⟨2, ![4096, 24704]⟩
abbrev S4224x4096 : Shape := ⟨2, ![4224, 4096]⟩
abbrev S8x128 : Shape := ⟨2, ![8, 128]⟩
abbrev S4096x24576 : Shape := ⟨2, ![4096, 24576]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4224x24576, .bf16⟩
  | .hbm, ⟨1, _⟩ => ⟨S4096x24704, .bf16⟩
  | .hbm, ⟨2, _⟩ => ⟨S4224x4096, .f32⟩
  | .hbm, ⟨3, _⟩ => ⟨S8x128, .f32⟩
  | .hbm, ⟨4, _⟩ => ⟨S4096x24576, .bf16⟩
  | .hbm, ⟨5, _⟩ => ⟨S_, .f32⟩
  | .hbm, ⟨6, _⟩ => ⟨S4224x4096, .f32⟩
  | .hbm, ⟨7, _⟩ => ⟨S4096x24576, .f32⟩
  | .hbm, ⟨8, _⟩ => ⟨S4224x24576, .f32⟩
  | .hbm, ⟨9, _⟩ => ⟨S4224x24576, .f32⟩
  | .hbm, ⟨10, _⟩ => ⟨S4224x4096, .f32⟩
  | .hbm, ⟨11, _⟩ => ⟨S4224x4096, .f32⟩
  | _, _ => ⟨S4224x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S4224x4096 : Shape := ⟨2, ![4224, 4096]⟩
abbrev S4096x24704 : Shape := ⟨2, ![4096, 24704]⟩
abbrev S4224x24576 : Shape := ⟨2, ![4224, 24576]⟩
abbrev S1056x4096 : Shape := ⟨2, ![1056, 4096]⟩
abbrev S4096x512 : Shape := ⟨2, ![4096, 512]⟩
abbrev S1056x512 : Shape := ⟨2, ![1056, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4096x24704, .bf16⟩
  | .hbm, ⟨2, _⟩ => ⟨S4224x24576, .f32⟩
  | .local _ .vmem, ⟨0, _⟩ => ⟨S1056x4096, .bf16⟩
  | .local _ .vmem, ⟨1, _⟩ => ⟨S1056x4096, .bf16⟩
  | .local _ .vmem, ⟨2, _⟩ => ⟨S4096x512, .bf16⟩
  | .local _ .vmem, ⟨3, _⟩ => ⟨S4096x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 48, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x4096 : Shape := ⟨2, ![4224, 4096]⟩
abbrev S4096x24704 : Shape := ⟨2, ![4096, 24704]⟩
abbrev S4096x24576 : Shape := ⟨2, ![4096, 24576]⟩
abbrev S4224x24576 : Shape := ⟨2, ![4224, 24576]⟩

abbrev nBuf : Space → Nat
  | .hbm => 6
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x24704, .bf16⟩
  | .hbm, ⟨2, _⟩ => ⟨S4224x4096, .f32⟩
  | .hbm, ⟨3, _⟩ => ⟨S4096x24576, .bf16⟩
  | .hbm, ⟨4, _⟩ => ⟨S4096x24576, .f32⟩
  | .hbm, ⟨5, _⟩ => ⟨S4224x24576, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S4224x4096 : Shape := ⟨2, ![4224, 4096]⟩
abbrev S4224x16384 : Shape := ⟨2, ![4224, 16384]⟩
abbrev S8x4096x2048 : Shape := ⟨3, ![8, 4096, 2048]⟩
abbrev S4224x1024 : Shape := ⟨2, ![4224, 1024]⟩
abbrev S4224x512 : Shape := ⟨2, ![4224, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4224x16384, .bf16⟩
  | .hbm, ⟨2, _⟩ => ⟨S8x4096x2048, .bf16⟩
  | .local _ .vmem, ⟨0, _⟩ => ⟨S4224x1024, .bf16⟩
  | .local _ .vmem, ⟨1, _⟩ => ⟨S4224x1024, .bf16⟩
  | .local _ .vmem, ⟨2, _⟩ => ⟨S4224x512, .bf16⟩
  | .local _ .vmem, ⟨3, _⟩ => ⟨S4224x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 32, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4224x4096 : Shape := ⟨2, ![4224, 4096]⟩
abbrev S4224x16384 : Shape := ⟨2, ![4224, 16384]⟩
abbrev S_ : Shape := ⟨0, ![]⟩
abbrev S4096x16384 : Shape := ⟨2, ![4096, 16384]⟩
abbrev S16384x4096 : Shape := ⟨2, ![16384, 4096]⟩
abbrev S4096x8x2048 : Shape := ⟨3, ![4096, 8, 2048]⟩
abbrev S8x4096x2048 : Shape := ⟨3, ![8, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x16384, .bf16⟩
  | .hbm, ⟨2, _⟩ => ⟨S_, .f32⟩
  | .hbm, ⟨3, _⟩ => ⟨S4096x16384, .f32⟩
  | .hbm, ⟨4, _⟩ => ⟨S4224x4096, .f32⟩
  | .hbm, ⟨5, _⟩ => ⟨S4224x16384, .f32⟩
  | .hbm, ⟨6, _⟩ => ⟨S4224x16384, .f32⟩
  | .hbm, ⟨7, _⟩ => ⟨S16384x4096, .f32⟩
  | .hbm, ⟨8, _⟩ => ⟨S4096x16384, .f32⟩
  | .hbm, ⟨9, _⟩ => ⟨S4096x8x2048, .f32⟩
  | .hbm, ⟨10, _⟩ => ⟨S8x4096x2048, .f32⟩
  | .hbm, ⟨11, _⟩ => ⟨S8x4096x2048, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4224x16384 : Shape := ⟨2, ![4224, 16384]⟩
abbrev S8x4096x2048 : Shape := ⟨3, ![8, 4096, 2048]⟩
abbrev S8x128 : Shape := ⟨2, ![8, 128]⟩
abbrev S4224x4096 : Shape := ⟨2, ![4224, 4096]⟩
abbrev S1056x2048 : Shape := ⟨2, ![1056, 2048]⟩
abbrev S1x512x2048 : Shape := ⟨3, ![1, 512, 2048]⟩
abbrev S1056x512 : Shape := ⟨2, ![1056, 512]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4224x16384, .bf16⟩
  | .hbm, ⟨1, _⟩ => ⟨S8x4096x2048, .bf16⟩
  | .hbm, ⟨2, _⟩ => ⟨S8x128, .f32⟩
  | .hbm, ⟨3, _⟩ => ⟨S4224x4096, .f32⟩
  | .local _ .vmem, ⟨0, _⟩ => ⟨S1056x2048, .bf16⟩
  | .local _ .vmem, ⟨1, _⟩ => ⟨S1056x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S8x128, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | _, _ => ⟨S4224x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4224x16384 : Shape := ⟨2, ![4224, 16384]⟩
abbrev S8x4096x2048 : Shape := ⟨3, ![8, 4096, 2048]⟩
abbrev S8x128 : Shape := ⟨2, ![8, 128]⟩
abbrev S4096x8x2048 : Shape := ⟨3, ![4096, 8, 2048]⟩
abbrev S4096x16384 : Shape := ⟨2, ![4096, 16384]⟩
abbrev S_ : Shape := ⟨0, ![]⟩
abbrev S4224x4096 : Shape := ⟨2, ![4224, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4224x16384, .bf16⟩
  | .hbm, ⟨1, _⟩ => ⟨S8x4096x2048, .bf16⟩
  | .hbm, ⟨2, _⟩ => ⟨S8x128, .f32⟩
  | .hbm, ⟨3, _⟩ => ⟨S4096x8x2048, .bf16⟩
  | .hbm, ⟨4, _⟩ => ⟨S4096x16384, .bf16⟩
  | .hbm, ⟨5, _⟩ => ⟨S_, .f32⟩
  | .hbm, ⟨6, _⟩ => ⟨S4224x4096, .f32⟩
  | .hbm, ⟨7, _⟩ => ⟨S4096x16384, .f32⟩
  | .hbm, ⟨8, _⟩ => ⟨S4224x16384, .f32⟩
  | .hbm, ⟨9, _⟩ => ⟨S4224x16384, .f32⟩
  | .hbm, ⟨10, _⟩ => ⟨S4224x4096, .f32⟩
  | _, _ => ⟨S4224x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S4224x4096 : Shape := ⟨2, ![4224, 4096]⟩
abbrev S8x4096x2048 : Shape := ⟨3, ![8, 4096, 2048]⟩
abbrev S4224x16384 : Shape := ⟨2, ![4224, 16384]⟩
abbrev S1056x4096 : Shape := ⟨2, ![1056, 4096]⟩
abbrev S1x4096x512 : Shape := ⟨3, ![1, 4096, 512]⟩
abbrev S1056x512 : Shape := ⟨2, ![1056, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S8x4096x2048, .bf16⟩
  | .hbm, ⟨2, _⟩ => ⟨S4224x16384, .f32⟩
  | .local _ .vmem, ⟨0, _⟩ => ⟨S1056x4096, .bf16⟩
  | .local _ .vmem, ⟨1, _⟩ => ⟨S1056x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 32, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x4096 : Shape := ⟨2, ![4224, 4096]⟩
abbrev S8x4096x2048 : Shape := ⟨3, ![8, 4096, 2048]⟩
abbrev S4096x8x2048 : Shape := ⟨3, ![4096, 8, 2048]⟩
abbrev S4096x16384 : Shape := ⟨2, ![4096, 16384]⟩
abbrev S4224x16384 : Shape := ⟨2, ![4224, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S8x4096x2048, .bf16⟩
  | .hbm, ⟨2, _⟩ => ⟨S4224x4096, .f32⟩
  | .hbm, ⟨3, _⟩ => ⟨S4096x8x2048, .bf16⟩
  | .hbm, ⟨4, _⟩ => ⟨S4096x16384, .bf16⟩
  | .hbm, ⟨5, _⟩ => ⟨S4096x16384, .f32⟩
  | .hbm, ⟨6, _⟩ => ⟨S4224x16384, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4224x8192 : Shape := ⟨2, ![4224, 8192]⟩
abbrev S4224x4096 : Shape := ⟨2, ![4224, 4096]⟩
abbrev S8192x4096 : Shape := ⟨2, ![8192, 4096]⟩
abbrev S4224x1024 : Shape := ⟨2, ![4224, 1024]⟩
abbrev S4224x512 : Shape := ⟨2, ![4224, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x8192, .bf16⟩
  | .hbm, ⟨1, _⟩ => ⟨S4224x4096, .bf16⟩
  | .hbm, ⟨2, _⟩ => ⟨S8192x4096, .bf16⟩
  | .local _ .vmem, ⟨0, _⟩ => ⟨S4224x1024, .bf16⟩
  | .local _ .vmem, ⟨1, _⟩ => ⟨S4224x1024, .bf16⟩
  | .local _ .vmem, ⟨2, _⟩ => ⟨S4224x512, .bf16⟩
  | .local _ .vmem, ⟨3, _⟩ => ⟨S4224x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x8192 : Shape := ⟨2, ![4224, 8192]⟩
abbrev S4224x4096 : Shape := ⟨2, ![4224, 4096]⟩
abbrev S_ : Shape := ⟨0, ![]⟩
abbrev S8192x4096 : Shape := ⟨2, ![8192, 4096]⟩
abbrev S4096x8192 : Shape := ⟨2, ![4096, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S4224x4096, .bf16⟩
  | .hbm, ⟨2, _⟩ => ⟨S_, .f32⟩
  | .hbm, ⟨3, _⟩ => ⟨S8192x4096, .f32⟩
  | .hbm, ⟨4, _⟩ => ⟨S4224x8192, .f32⟩
  | .hbm, ⟨5, _⟩ => ⟨S4224x4096, .f32⟩
  | .hbm, ⟨6, _⟩ => ⟨S4224x4096, .f32⟩
  | .hbm, ⟨7, _⟩ => ⟨S4096x8192, .f32⟩
  | .hbm, ⟨8, _⟩ => ⟨S8192x4096, .f32⟩
  | .hbm, ⟨9, _⟩ => ⟨S8192x4096, .bf16⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4224x4096 : Shape := ⟨2, ![4224, 4096]⟩
abbrev S8192x4096 : Shape := ⟨2, ![8192, 4096]⟩
abbrev S8x128 : Shape := ⟨2, ![8, 128]⟩
abbrev S4224x8192 : Shape := ⟨2, ![4224, 8192]⟩
abbrev S1056x4096 : Shape := ⟨2, ![1056, 4096]⟩
abbrev S512x4096 : Shape := ⟨2, ![512, 4096]⟩
abbrev S1056x512 : Shape := ⟨2, ![1056, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x4096, .bf16⟩
  | .hbm, ⟨1, _⟩ => ⟨S8192x4096, .bf16⟩
  | .hbm, ⟨2, _⟩ => ⟨S8x128, .f32⟩
  | .hbm, ⟨3, _⟩ => ⟨S4224x8192, .f32⟩
  | .local _ .vmem, ⟨0, _⟩ => ⟨S1056x4096, .bf16⟩
  | .local _ .vmem, ⟨1, _⟩ => ⟨S1056x4096, .bf16⟩
  | .local _ .vmem, ⟨2, _⟩ => ⟨S512x4096, .bf16⟩
  | .local _ .vmem, ⟨3, _⟩ => ⟨S512x4096, .bf16⟩
  | .local _ .vmem, ⟨4, _⟩ => ⟨S8x128, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 16, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4224x4096 : Shape := ⟨2, ![4224, 4096]⟩
abbrev S8192x4096 : Shape := ⟨2, ![8192, 4096]⟩
abbrev S8x128 : Shape := ⟨2, ![8, 128]⟩
abbrev S_ : Shape := ⟨0, ![]⟩
abbrev S4224x8192 : Shape := ⟨2, ![4224, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S8192x4096, .bf16⟩
  | .hbm, ⟨2, _⟩ => ⟨S8x128, .f32⟩
  | .hbm, ⟨3, _⟩ => ⟨S_, .f32⟩
  | .hbm, ⟨4, _⟩ => ⟨S4224x8192, .f32⟩
  | .hbm, ⟨5, _⟩ => ⟨S8192x4096, .f32⟩
  | .hbm, ⟨6, _⟩ => ⟨S4224x4096, .f32⟩
  | .hbm, ⟨7, _⟩ => ⟨S4224x4096, .f32⟩
  | .hbm, ⟨8, _⟩ => ⟨S4224x8192, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S4224x8192 : Shape := ⟨2, ![4224, 8192]⟩
abbrev S8192x4096 : Shape := ⟨2, ![8192, 4096]⟩
abbrev S4224x4096 : Shape := ⟨2, ![4224, 4096]⟩
abbrev S1056x4096 : Shape := ⟨2, ![1056, 4096]⟩
abbrev S4096x512 : Shape := ⟨2, ![4096, 512]⟩
abbrev S1056x512 : Shape := ⟨2, ![1056, 512]⟩

abbrev nBuf : Space → Nat
  | .hbm => 4
  | .vmem => 9
  | .smem => 0
  | _ => 0

abbrev bufTy : (tb : Table) → Fin (tcTables nBuf tb) → BufTy
  | .hbm, ⟨0, _⟩ => ⟨S4224x8192, .bf16⟩
  | .hbm, ⟨1, _⟩ => ⟨S8192x4096, .bf16⟩
  | .hbm, ⟨2, _⟩ => ⟨S4224x4096, .f32⟩
  | .hbm, ⟨3, _⟩ => ⟨S4224x4096, .f32⟩
  | .local _ .vmem, ⟨0, _⟩ => ⟨S1056x4096, .bf16⟩
  | .local _ .vmem, ⟨1, _⟩ => ⟨S1056x4096, .bf16⟩
  | .local _ .vmem, ⟨2, _⟩ => ⟨S4096x512, .bf16⟩
  | .local _ .vmem, ⟨3, _⟩ => ⟨S4096x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | .local _ .vmem, ⟨8, _⟩ => ⟨S1056x512, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4224x8192 : Shape := ⟨2, ![4224, 8192]⟩
abbrev S8192x4096 : Shape := ⟨2, ![8192, 4096]⟩
abbrev S4224x4096 : Shape := ⟨2, ![4224, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S8192x4096, .bf16⟩
  | .hbm, ⟨2, _⟩ => ⟨S4224x4096, .f32⟩
  | .hbm, ⟨3, _⟩ => ⟨S4224x8192, .f32⟩
  | .hbm, ⟨4, _⟩ => ⟨S8192x4096, .f32⟩
  | .hbm, ⟨5, _⟩ => ⟨S4224x4096, .f32⟩
  | .hbm, ⟨6, _⟩ => ⟨S4224x4096, .f32⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4224x4096 : Shape := ⟨2, ![4224, 4096]⟩
abbrev S4096x4096 : Shape := ⟨2, ![4096, 4096]⟩
abbrev S4224x1024 : Shape := ⟨2, ![4224, 1024]⟩
abbrev S4224x512 : Shape := ⟨2, ![4224, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S4096x4096, .bf16⟩
  | .local _ .vmem, ⟨0, _⟩ => ⟨S4224x1024, .bf16⟩
  | .local _ .vmem, ⟨1, _⟩ => ⟨S4224x1024, .bf16⟩
  | .local _ .vmem, ⟨2, _⟩ => ⟨S4224x512, .bf16⟩
  | .local _ .vmem, ⟨3, _⟩ => ⟨S4224x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x4096 : Shape := ⟨2, ![4224, 4096]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S_, .f32⟩
  | .hbm, ⟨3, _⟩ => ⟨S4096x4096, .f32⟩
  | .hbm, ⟨4, _⟩ => ⟨S4224x4096, .f32⟩
  | .hbm, ⟨5, _⟩ => ⟨S4224x4096, .f32⟩
  | .hbm, ⟨6, _⟩ => ⟨S4224x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4224x4096 : Shape := ⟨2, ![4224, 4096]⟩
abbrev S4096x4096 : Shape := ⟨2, ![4096, 4096]⟩
abbrev S1056x4096 : Shape := ⟨2, ![1056, 4096]⟩
abbrev S512x4096 : Shape := ⟨2, ![512, 4096]⟩
abbrev S1056x512 : Shape := ⟨2, ![1056, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4224x4096, .f32⟩
  | .local _ .vmem, ⟨0, _⟩ => ⟨S1056x4096, .bf16⟩
  | .local _ .vmem, ⟨1, _⟩ => ⟨S1056x4096, .bf16⟩
  | .local _ .vmem, ⟨2, _⟩ => ⟨S512x4096, .bf16⟩
  | .local _ .vmem, ⟨3, _⟩ => ⟨S512x4096, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4224x4096 : Shape := ⟨2, ![4224, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S_, .f32⟩
  | .hbm, ⟨3, _⟩ => ⟨S4224x4096, .f32⟩
  | .hbm, ⟨4, _⟩ => ⟨S4096x4096, .f32⟩
  | .hbm, ⟨5, _⟩ => ⟨S4224x4096, .f32⟩
  | .hbm, ⟨6, _⟩ => ⟨S4224x4096, .f32⟩
  | .hbm, ⟨7, _⟩ => ⟨S4224x4096, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4224x4096 : Shape := ⟨2, ![4224, 4096]⟩
abbrev S4096x4096 : Shape := ⟨2, ![4096, 4096]⟩
abbrev S1056x4096 : Shape := ⟨2, ![1056, 4096]⟩
abbrev S4096x512 : Shape := ⟨2, ![4096, 512]⟩
abbrev S1056x512 : Shape := ⟨2, ![1056, 512]⟩

abbrev nBuf : Space → Nat
  | .hbm => 4
  | .vmem => 9
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4224x4096, .f32⟩
  | .hbm, ⟨3, _⟩ => ⟨S4224x4096, .f32⟩
  | .local _ .vmem, ⟨0, _⟩ => ⟨S1056x4096, .bf16⟩
  | .local _ .vmem, ⟨1, _⟩ => ⟨S1056x4096, .bf16⟩
  | .local _ .vmem, ⟨2, _⟩ => ⟨S4096x512, .bf16⟩
  | .local _ .vmem, ⟨3, _⟩ => ⟨S4096x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | .local _ .vmem, ⟨8, _⟩ => ⟨S1056x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4224x4096 : Shape := ⟨2, ![4224, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4224x4096, .f32⟩
  | .hbm, ⟨3, _⟩ => ⟨S4224x4096, .f32⟩
  | .hbm, ⟨4, _⟩ => ⟨S4096x4096, .f32⟩
  | .hbm, ⟨5, _⟩ => ⟨S4224x4096, .f32⟩
  | .hbm, ⟨6, _⟩ => ⟨S4224x4096, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4224x4096 : Shape := ⟨2, ![4224, 4096]⟩
abbrev S4224x128 : Shape := ⟨2, ![4224, 128]⟩
abbrev S4096x128 : Shape := ⟨2, ![4096, 128]⟩
abbrev S4224x1024 : Shape := ⟨2, ![4224, 1024]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4224x128, .bf16⟩
  | .hbm, ⟨2, _⟩ => ⟨S4096x128, .bf16⟩
  | .local _ .vmem, ⟨0, _⟩ => ⟨S4224x1024, .bf16⟩
  | .local _ .vmem, ⟨1, _⟩ => ⟨S4224x1024, .bf16⟩
  | .local _ .vmem, ⟨2, _⟩ => ⟨S4224x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4224x4096 : Shape := ⟨2, ![4224, 4096]⟩
abbrev S4224x128 : Shape := ⟨2, ![4224, 128]⟩
abbrev S_ : Shape := ⟨0, ![]⟩
abbrev S4096x128 : Shape := ⟨2, ![4096, 128]⟩
abbrev S128x4096 : Shape := ⟨2, ![128, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x128, .bf16⟩
  | .hbm, ⟨2, _⟩ => ⟨S_, .f32⟩
  | .hbm, ⟨3, _⟩ => ⟨S4096x128, .f32⟩
  | .hbm, ⟨4, _⟩ => ⟨S4224x4096, .f32⟩
  | .hbm, ⟨5, _⟩ => ⟨S4224x128, .f32⟩
  | .hbm, ⟨6, _⟩ => ⟨S4224x128, .f32⟩
  | .hbm, ⟨7, _⟩ => ⟨S128x4096, .f32⟩
  | .hbm, ⟨8, _⟩ => ⟨S4096x128, .f32⟩
  | .hbm, ⟨9, _⟩ => ⟨S4096x128, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4224x128 : Shape := ⟨2, ![4224, 128]⟩
abbrev S4096x24704 : Shape := ⟨2, ![4096, 24704]⟩
abbrev S8x128 : Shape := ⟨2, ![8, 128]⟩
abbrev S4224x4096 : Shape := ⟨2, ![4224, 4096]⟩
abbrev S1056x128 : Shape := ⟨2, ![1056, 128]⟩
abbrev S512x128 : Shape := ⟨2, ![512, 128]⟩
abbrev S1056x512 : Shape := ⟨2, ![1056, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x128, .bf16⟩
  | .hbm, ⟨1, _⟩ => ⟨S4096x24704, .bf16⟩
  | .hbm, ⟨2, _⟩ => ⟨S8x128, .f32⟩
  | .hbm, ⟨3, _⟩ => ⟨S4224x4096, .f32⟩
  | .local _ .vmem, ⟨0, _⟩ => ⟨S1056x128, .bf16⟩
  | .local _ .vmem, ⟨1, _⟩ => ⟨S1056x128, .bf16⟩
  | .local _ .vmem, ⟨2, _⟩ => ⟨S512x128, .bf16⟩
  | .local _ .vmem, ⟨3, _⟩ => ⟨S512x128, .bf16⟩
  | .local _ .vmem, ⟨4, _⟩ => ⟨S8x128, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | _, _ => ⟨S4224x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.addi c192_i32 arg2
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4224x128 : Shape := ⟨2, ![4224, 128]⟩
abbrev S4096x24704 : Shape := ⟨2, ![4096, 24704]⟩
abbrev S8x128 : Shape := ⟨2, ![8, 128]⟩
abbrev S4096x128 : Shape := ⟨2, ![4096, 128]⟩
abbrev S_ : Shape := ⟨0, ![]⟩
abbrev S4224x4096 : Shape := ⟨2, ![4224, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4224x128, .bf16⟩
  | .hbm, ⟨1, _⟩ => ⟨S4096x24704, .bf16⟩
  | .hbm, ⟨2, _⟩ => ⟨S8x128, .f32⟩
  | .hbm, ⟨3, _⟩ => ⟨S4096x128, .bf16⟩
  | .hbm, ⟨4, _⟩ => ⟨S_, .f32⟩
  | .hbm, ⟨5, _⟩ => ⟨S4224x4096, .f32⟩
  | .hbm, ⟨6, _⟩ => ⟨S4096x128, .f32⟩
  | .hbm, ⟨7, _⟩ => ⟨S4224x128, .f32⟩
  | .hbm, ⟨8, _⟩ => ⟨S4224x128, .f32⟩
  | .hbm, ⟨9, _⟩ => ⟨S4224x4096, .f32⟩
  | _, _ => ⟨S4224x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel16.lean ====
abbrev S4224x4096 : Shape := ⟨2, ![4224, 4096]⟩
abbrev S4096x24704 : Shape := ⟨2, ![4096, 24704]⟩
abbrev S4224x128 : Shape := ⟨2, ![4224, 128]⟩
abbrev S1056x4096 : Shape := ⟨2, ![1056, 4096]⟩
abbrev S4096x128 : Shape := ⟨2, ![4096, 128]⟩
abbrev S1056x128 : Shape := ⟨2, ![1056, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4096x24704, .bf16⟩
  | .hbm, ⟨2, _⟩ => ⟨S4224x128, .f32⟩
  | .local _ .vmem, ⟨0, _⟩ => ⟨S1056x4096, .bf16⟩
  | .local _ .vmem, ⟨1, _⟩ => ⟨S1056x4096, .bf16⟩
  | .local _ .vmem, ⟨2, _⟩ => ⟨S4096x128, .bf16⟩
  | .local _ .vmem, ⟨3, _⟩ => ⟨S1056x128, .f32⟩
  | .local _ .vmem, ⟨4, _⟩ => ⟨S1056x128, .f32⟩
  | .local _ .vmem, ⟨5, _⟩ => ⟨S1056x128, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.addi c192_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4224x4096 : Shape := ⟨2, ![4224, 4096]⟩
abbrev S4096x24704 : Shape := ⟨2, ![4096, 24704]⟩
abbrev S4096x128 : Shape := ⟨2, ![4096, 128]⟩
abbrev S4224x128 : Shape := ⟨2, ![4224, 128]⟩

abbrev nBuf : Space → Nat
  | .hbm => 6
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x24704, .bf16⟩
  | .hbm, ⟨2, _⟩ => ⟨S4224x4096, .f32⟩
  | .hbm, ⟨3, _⟩ => ⟨S4096x128, .bf16⟩
  | .hbm, ⟨4, _⟩ => ⟨S4096x128, .f32⟩
  | .hbm, ⟨5, _⟩ => ⟨S4224x128, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S3x4096x3088 : Shape := ⟨3, ![3, 4096, 3088]⟩
abbrev S4096x3088 : Shape := ⟨2, ![4096, 3088]⟩
abbrev S3x64x3088 : Shape := ⟨3, ![3, 64, 3088]⟩
abbrev S64x3088 : Shape := ⟨2, ![64, 3088]⟩
abbrev S1x64x3088 : Shape := ⟨3, ![1, 64, 3088]⟩

abbrev nBuf : Space → Nat
  | .hbm => 9
  | .vmem => 18
  | .smem => 0
  | _ => 0

abbrev bufTy : (tb : Table) → Fin (tcTables nBuf tb) → BufTy
  | .hbm, ⟨0, _⟩ => ⟨S3x4096x3088, .bf16⟩
  | .hbm, ⟨1, _⟩ => ⟨S4096x3088, .f32⟩
  | .hbm, ⟨2, _⟩ => ⟨S4096x3088, .f32⟩
  | .hbm, ⟨3, _⟩ => ⟨S4096x3088, .f32⟩
  | .hbm, ⟨4, _⟩ => ⟨S4096x3088, .bf16⟩
  | .hbm, ⟨5, _⟩ => ⟨S4096x3088, .f32⟩
  | .hbm, ⟨6, _⟩ => ⟨S4096x3088, .f32⟩
  | .hbm, ⟨7, _⟩ => ⟨S4096x3088, .f32⟩
  | .hbm, ⟨8, _⟩ => ⟨S4096x3088, .f32⟩
  | .local _ .vmem, ⟨0, _⟩ => ⟨S3x64x3088, .bf16⟩
  | .local _ .vmem, ⟨1, _⟩ => ⟨S3x64x3088, .bf16⟩
  | .local _ .vmem, ⟨2, _⟩ => ⟨S64x3088, .f32⟩
  | .local _ .vmem, ⟨3, _⟩ => ⟨S64x3088, .f32⟩
  | .local _ .vmem, ⟨4, _⟩ => ⟨S64x3088, .f32⟩
  | .local _ .vmem, ⟨5, _⟩ => ⟨S64x3088, .f32⟩
  | .local _ .vmem, ⟨6, _⟩ => ⟨S64x3088, .f32⟩
  | .local _ .vmem, ⟨7, _⟩ => ⟨S64x3088, .f32⟩
  | .local _ .vmem, ⟨8, _⟩ => ⟨S64x3088, .bf16⟩
  | .local _ .vmem, ⟨9, _⟩ => ⟨S64x3088, .bf16⟩
  | .local _ .vmem, ⟨10, _⟩ => ⟨S64x3088, .f32⟩
  | .local _ .vmem, ⟨11, _⟩ => ⟨S64x3088, .f32⟩
  | .local _ .vmem, ⟨12, _⟩ => ⟨S64x3088, .f32⟩
  | .local _ .vmem, ⟨13, _⟩ => ⟨S64x3088, .f32⟩
  | .local _ .vmem, ⟨14, _⟩ => ⟨S64x3088, .f32⟩
  | .local _ .vmem, ⟨15, _⟩ => ⟨S64x3088, .f32⟩
  | .local _ .vmem, ⟨16, _⟩ => ⟨S64x3088, .f32⟩
  | .local _ .vmem, ⟨17, _⟩ => ⟨S64x3088, .f32⟩
  | _, _ => ⟨S3x4096x3088, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x64x3088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3088 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3088 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x3088 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S3x4096x3088 : Shape := ⟨3, ![3, 4096, 3088]⟩
abbrev S4096x3088 : Shape := ⟨2, ![4096, 3088]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S3x4096x3088, .bf16⟩
  | .hbm, ⟨1, _⟩ => ⟨S4096x3088, .f32⟩
  | .hbm, ⟨2, _⟩ => ⟨S4096x3088, .f32⟩
  | .hbm, ⟨3, _⟩ => ⟨S4096x3088, .f32⟩
  | .hbm, ⟨4, _⟩ => ⟨S4096x3088, .bf16⟩
  | .hbm, ⟨5, _⟩ => ⟨S4096x3088, .f32⟩
  | .hbm, ⟨6, _⟩ => ⟨S3x4096x3088, .f32⟩
  | .hbm, ⟨7, _⟩ => ⟨S_, .f32⟩
  | .hbm, ⟨8, _⟩ => ⟨S4096x3088, .f32⟩
  | .hbm, ⟨9, _⟩ => ⟨S4096x3088, .f32⟩
  | .hbm, ⟨10, _⟩ => ⟨S_, .f32⟩
  | .hbm, ⟨11, _⟩ => ⟨S4096x3088, .f32⟩
  | .hbm, ⟨12, _⟩ => ⟨S4096x3088, .f32⟩
  | .hbm, ⟨13, _⟩ => ⟨S_, .f32⟩
  | .hbm, ⟨14, _⟩ => ⟨S4096x3088, .f32⟩
  | .hbm, ⟨15, _⟩ => ⟨S4096x3088, .f32⟩
  | .hbm, ⟨16, _⟩ => ⟨S4096x3088, .f32⟩
  | .hbm, ⟨17, _⟩ => ⟨S_, .f32⟩
  | .hbm, ⟨18, _⟩ => ⟨S4096x3088, .f32⟩
  | .hbm, ⟨19, _⟩ => ⟨S4096x3088, .f32⟩
  | .hbm, ⟨20, _⟩ => ⟨S4096x3088, .f32⟩
  | .hbm, ⟨21, _⟩ => ⟨S_, .f32⟩
  | .hbm, ⟨22, _⟩ => ⟨S4096x3088, .f32⟩
  | .hbm, ⟨23, _⟩ => ⟨S4096x3088, .f32⟩
  | .hbm, ⟨24, _⟩ => ⟨S4096x3088, .f32⟩
  | .hbm, ⟨25, _⟩ => ⟨S_, .f32⟩
  | .hbm, ⟨26, _⟩ => ⟨S4096x3088, .f32⟩
  | .hbm, ⟨27, _⟩ => ⟨S4096x3088, .f32⟩
  | .hbm, ⟨28, _⟩ => ⟨S_, .f32⟩
  | .hbm, ⟨29, _⟩ => ⟨S4096x3088, .f32⟩
  | .hbm, ⟨30, _⟩ => ⟨S4096x3088, .f32⟩
  | .hbm, ⟨31, _⟩ => ⟨S4096x3088, .f32⟩
  | .hbm, ⟨32, _⟩ => ⟨S_, .f32⟩
  | .hbm, ⟨33, _⟩ => ⟨S4096x3088, .f32⟩
  | .hbm, ⟨34, _⟩ => ⟨S4096x3088, .f32⟩
  | .hbm, ⟨35, _⟩ => ⟨S4096x3088, .f32⟩
  | .hbm, ⟨36, _⟩ => ⟨S_, .f32⟩
  | .hbm, ⟨37, _⟩ => ⟨S4096x3088, .f32⟩
  | .hbm, ⟨38, _⟩ => ⟨S4096x3088, .f32⟩
  | .hbm, ⟨39, _⟩ => ⟨S4096x3088, .f32⟩
  | .hbm, ⟨40, _⟩ => ⟨S_, .f32⟩
  | .hbm, ⟨41, _⟩ => ⟨S4096x3088, .f32⟩
  | .hbm, ⟨42, _⟩ => ⟨S4096x3088, .f32⟩
  | _, _ => ⟨S3x4096x3088, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel18.lean ====
abbrev S7x4096x2048 : Shape := ⟨3, ![7, 4096, 2048]⟩
abbrev S4096x2048 : Shape := ⟨2, ![4096, 2048]⟩
abbrev S7x128x2048 : Shape := ⟨3, ![7, 128, 2048]⟩
abbrev S128x2048 : Shape := ⟨2, ![128, 2048]⟩
abbrev S1x128x2048 : Shape := ⟨3, ![1, 128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S7x4096x2048, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .local _ .vmem, ⟨0, _⟩ => ⟨S7x128x2048, .bf16⟩
  | .local _ .vmem, ⟨1, _⟩ => ⟨S7x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S7x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S7x4096x2048 : Shape := ⟨3, ![7, 4096, 2048]⟩
abbrev S4096x2048 : Shape := ⟨2, ![4096, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S7x4096x2048, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x2048, .f32⟩
  | .hbm, ⟨6, _⟩ => ⟨S7x4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | _, _ => ⟨S7x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel19.lean ====
abbrev S7x1024x4096 : Shape := ⟨3, ![7, 1024, 4096]⟩
abbrev S1024x4096 : Shape := ⟨2, ![1024, 4096]⟩
abbrev S7x64x4096 : Shape := ⟨3, ![7, 64, 4096]⟩
abbrev S64x4096 : Shape := ⟨2, ![64, 4096]⟩
abbrev S1x64x4096 : Shape := ⟨3, ![1, 64, 4096]⟩

abbrev nBuf : Space → Nat
  | .hbm => 9
  | .vmem => 18
  | .smem => 0
  | _ => 0

abbrev bufTy : (tb : Table) → Fin (tcTables nBuf tb) → BufTy
  | .hbm, ⟨0, _⟩ => ⟨S7x1024x4096, .bf16⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .bf16⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S1024x4096, .f32⟩
  | .local _ .vmem, ⟨0, _⟩ => ⟨S7x64x4096, .bf16⟩
  | .local _ .vmem, ⟨1, _⟩ => ⟨S7x64x4096, .bf16⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .bf16⟩
  | .local _ .vmem, ⟨9, _⟩ => ⟨S64x4096, .bf16⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | _, _ => ⟨S7x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S7x1024x4096 : Shape := ⟨3, ![7, 1024, 4096]⟩
abbrev S1024x4096 : Shape := ⟨2, ![1024, 4096]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S7x1024x4096, .bf16⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .bf16⟩
  | .hbm, ⟨5, _⟩ => ⟨S1024x4096, .f32⟩
  | .hbm, ⟨6, _⟩ => ⟨S7x1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S_, .f32⟩
  | .hbm, ⟨11, _⟩ => ⟨S1024x4096, .f32⟩
  | .hbm, ⟨12, _⟩ => ⟨S1024x4096, .f32⟩
  | .hbm, ⟨13, _⟩ => ⟨S_, .f32⟩
  | .hbm, ⟨14, _⟩ => ⟨S1024x4096, .f32⟩
  | .hbm, ⟨15, _⟩ => ⟨S1024x4096, .f32⟩
  | .hbm, ⟨16, _⟩ => ⟨S1024x4096, .f32⟩
  | .hbm, ⟨17, _⟩ => ⟨S_, .f32⟩
  | .hbm, ⟨18, _⟩ => ⟨S1024x4096, .f32⟩
  | .hbm, ⟨19, _⟩ => ⟨S1024x4096, .f32⟩
  | .hbm, ⟨20, _⟩ => ⟨S1024x4096, .f32⟩
  | .hbm, ⟨21, _⟩ => ⟨S_, .f32⟩
  | .hbm, ⟨22, _⟩ => ⟨S1024x4096, .f32⟩
  | .hbm, ⟨23, _⟩ => ⟨S1024x4096, .f32⟩
  | .hbm, ⟨24, _⟩ => ⟨S1024x4096, .f32⟩
  | .hbm, ⟨25, _⟩ => ⟨S_, .f32⟩
  | .hbm, ⟨26, _⟩ => ⟨S1024x4096, .f32⟩
  | .hbm, ⟨27, _⟩ => ⟨S1024x4096, .f32⟩
  | .hbm, ⟨28, _⟩ => ⟨S_, .f32⟩
  | .hbm, ⟨29, _⟩ => ⟨S1024x4096, .f32⟩
  | .hbm, ⟨30, _⟩ => ⟨S1024x4096, .f32⟩
  | .hbm, ⟨31, _⟩ => ⟨S1024x4096, .f32⟩
  | .hbm, ⟨32, _⟩ => ⟨S_, .f32⟩
  | .hbm, ⟨33, _⟩ => ⟨S1024x4096, .f32⟩
  | .hbm, ⟨34, _⟩ => ⟨S1024x4096, .f32⟩
  | .hbm, ⟨35, _⟩ => ⟨S1024x4096, .f32⟩
  | .hbm, ⟨36, _⟩ => ⟨S_, .f32⟩
  | .hbm, ⟨37, _⟩ => ⟨S1024x4096, .f32⟩
  | .hbm, ⟨38, _⟩ => ⟨S1024x4096, .f32⟩
  | .hbm, ⟨39, _⟩ => ⟨S1024x4096, .f32⟩
  | .hbm, ⟨40, _⟩ => ⟨S_, .f32⟩
  | .hbm, ⟨41, _⟩ => ⟨S1024x4096, .f32⟩
  | .hbm, ⟨42, _⟩ => ⟨S1024x4096, .f32⟩
  | _, _ => ⟨S7x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel20.lean ====
abbrev S7x512x4096 : Shape := ⟨3, ![7, 512, 4096]⟩
abbrev S512x4096 : Shape := ⟨2, ![512, 4096]⟩
abbrev S7x64x4096 : Shape := ⟨3, ![7, 64, 4096]⟩
abbrev S64x4096 : Shape := ⟨2, ![64, 4096]⟩
abbrev S1x64x4096 : Shape := ⟨3, ![1, 64, 4096]⟩

abbrev nBuf : Space → Nat
  | .hbm => 9
  | .vmem => 18
  | .smem => 0
  | _ => 0

abbrev bufTy : (tb : Table) → Fin (tcTables nBuf tb) → BufTy
  | .hbm, ⟨0, _⟩ => ⟨S7x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .bf16⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .local _ .vmem, ⟨0, _⟩ => ⟨S7x64x4096, .bf16⟩
  | .local _ .vmem, ⟨1, _⟩ => ⟨S7x64x4096, .bf16⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .bf16⟩
  | .local _ .vmem, ⟨9, _⟩ => ⟨S64x4096, .bf16⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | _, _ => ⟨S7x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S7x512x4096 : Shape := ⟨3, ![7, 512, 4096]⟩
abbrev S512x4096 : Shape := ⟨2, ![512, 4096]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S7x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .bf16⟩
  | .hbm, ⟨5, _⟩ => ⟨S512x4096, .f32⟩
  | .hbm, ⟨6, _⟩ => ⟨S7x512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S_, .f32⟩
  | .hbm, ⟨14, _⟩ => ⟨S512x4096, .f32⟩
  | .hbm, ⟨15, _⟩ => ⟨S512x4096, .f32⟩
  | .hbm, ⟨16, _⟩ => ⟨S512x4096, .f32⟩
  | .hbm, ⟨17, _⟩ => ⟨S_, .f32⟩
  | .hbm, ⟨18, _⟩ => ⟨S512x4096, .f32⟩
  | .hbm, ⟨19, _⟩ => ⟨S512x4096, .f32⟩
  | .hbm, ⟨20, _⟩ => ⟨S512x4096, .f32⟩
  | .hbm, ⟨21, _⟩ => ⟨S_, .f32⟩
  | .hbm, ⟨22, _⟩ => ⟨S512x4096, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S_, .f32⟩
  | .hbm, ⟨29, _⟩ => ⟨S512x4096, .f32⟩
  | .hbm, ⟨30, _⟩ => ⟨S512x4096, .f32⟩
  | .hbm, ⟨31, _⟩ => ⟨S512x4096, .f32⟩
  | .hbm, ⟨32, _⟩ => ⟨S_, .f32⟩
  | .hbm, ⟨33, _⟩ => ⟨S512x4096, .f32⟩
  | .hbm, ⟨34, _⟩ => ⟨S512x4096, .f32⟩
  | .hbm, ⟨35, _⟩ => ⟨S512x4096, .f32⟩
  | .hbm, ⟨36, _⟩ => ⟨S_, .f32⟩
  | .hbm, ⟨37, _⟩ => ⟨S512x4096, .f32⟩
  | .hbm, ⟨38, _⟩ => ⟨S512x4096, .f32⟩
  | .hbm, ⟨39, _⟩ => ⟨S512x4096, .f32⟩
  | .hbm, ⟨40, _⟩ => ⟨S_, .f32⟩
  | .hbm, ⟨41, _⟩ => ⟨S512x4096, .f32⟩
  | .hbm, ⟨42, _⟩ => ⟨S512x4096, .f32⟩
  | _, _ => ⟨S7x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel21.lean ====
abbrev S8x4x2048 : Shape := ⟨3, ![8, 4, 2048]⟩
abbrev S4x2048 : Shape := ⟨2, ![4, 2048]⟩
abbrev S1x4x2048 : Shape := ⟨3, ![1, 4, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .local _ .vmem, ⟨0, _⟩ => ⟨S8x4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | .local _ .vmem, ⟨7, _⟩ => ⟨S4x2048, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x4x2048 : Shape := ⟨3, ![8, 4, 2048]⟩
abbrev S4x2048 : Shape := ⟨2, ![4, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048, .f32⟩
  | .hbm, ⟨17, _⟩ => ⟨S_, .f32⟩
  | .hbm, ⟨18, _⟩ => ⟨S4x2048, .f32⟩
  | .hbm, ⟨19, _⟩ => ⟨S4x2048, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S_, .f32⟩
  | .hbm, ⟨25, _⟩ => ⟨S4x2048, .f32⟩
  | .hbm, ⟨26, _⟩ => ⟨S4x2048, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S8x16x512 : Shape := ⟨3, ![8, 16, 512]⟩
abbrev S16x512 : Shape := ⟨2, ![16, 512]⟩
abbrev S1x16x512 : Shape := ⟨3, ![1, 16, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .local _ .vmem, ⟨0, _⟩ => ⟨S8x16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | _, _ => ⟨S8x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x16x512 : Shape := ⟨3, ![8, 16, 512]⟩
abbrev S16x512 : Shape := ⟨2, ![16, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S_, .f32⟩
  | .hbm, ⟨7, _⟩ => ⟨S16x512, .f32⟩
  | .hbm, ⟨8, _⟩ => ⟨S16x512, .f32⟩
  | .hbm, ⟨9, _⟩ => ⟨S_, .f32⟩
  | .hbm, ⟨10, _⟩ => ⟨S16x512, .f32⟩
  | .hbm, ⟨11, _⟩ => ⟨S16x512, .f32⟩
  | .hbm, ⟨12, _⟩ => ⟨S16x512, .f32⟩
  | .hbm, ⟨13, _⟩ => ⟨S_, .f32⟩
  | .hbm, ⟨14, _⟩ => ⟨S16x512, .f32⟩
  | .hbm, ⟨15, _⟩ => ⟨S16x512, .f32⟩
  | .hbm, ⟨16, _⟩ => ⟨S16x512, .f32⟩
  | .hbm, ⟨17, _⟩ => ⟨S_, .f32⟩
  | .hbm, ⟨18, _⟩ => ⟨S16x512, .f32⟩
  | .hbm, ⟨19, _⟩ => ⟨S16x512, .f32⟩
  | .hbm, ⟨20, _⟩ => ⟨S16x512, .f32⟩
  | .hbm, ⟨21, _⟩ => ⟨S_, .f32⟩
  | .hbm, ⟨22, _⟩ => ⟨S16x512, .f32⟩
  | .hbm, ⟨23, _⟩ => ⟨S16x512, .f32⟩
  | .hbm, ⟨24, _⟩ => ⟨S_, .f32⟩
  | .hbm, ⟨25, _⟩ => ⟨S16x512, .f32⟩
  | .hbm, ⟨26, _⟩ => ⟨S16x512, .f32⟩
  | .hbm, ⟨27, _⟩ => ⟨S16x512, .f32⟩
  | .hbm, ⟨28, _⟩ => ⟨S_, .f32⟩
  | .hbm, ⟨29, _⟩ => ⟨S16x512, .f32⟩
  | .hbm, ⟨30, _⟩ => ⟨S16x512, .f32⟩
  | .hbm, ⟨31, _⟩ => ⟨S16x512, .f32⟩
  | .hbm, ⟨32, _⟩ => ⟨S_, .f32⟩
  | .hbm, ⟨33, _⟩ => ⟨S16x512, .f32⟩
  | .hbm, ⟨34, _⟩ => ⟨S16x512, .f32⟩
  | .hbm, ⟨35, _⟩ => ⟨S16x512, .f32⟩
  | .hbm, ⟨36, _⟩ => ⟨S_, .f32⟩
  | .hbm, ⟨37, _⟩ => ⟨S16x512, .f32⟩
  | .hbm, ⟨38, _⟩ => ⟨S16x512, .f32⟩
  | _, _ => ⟨S8x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S8x1x512 : Shape := ⟨3, ![8, 1, 512]⟩
abbrev S1x512 : Shape := ⟨2, ![1, 512]⟩
abbrev S1x1x512 : Shape := ⟨3, ![1, 1, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S8x1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S8x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S8x1x512 : Shape := ⟨3, ![8, 1, 512]⟩
abbrev S1x512 : Shape := ⟨2, ![1, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S_, .f32⟩
  | .hbm, ⟨7, _⟩ => ⟨S1x512, .f32⟩
  | .hbm, ⟨8, _⟩ => ⟨S1x512, .f32⟩
  | .hbm, ⟨9, _⟩ => ⟨S_, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S_, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | _, _ => ⟨S8x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S8x1x4608 : Shape := ⟨3, ![8, 1, 4608]⟩
abbrev S1x4608 : Shape := ⟨2, ![1, 4608]⟩
abbrev S1x1x4608 : Shape := ⟨3, ![1, 1, 4608]⟩

abbrev nBuf : Space → Nat
  | .hbm => 8
  | .vmem => 8
  | .smem => 0
  | _ => 0

abbrev bufTy : (tb : Table) → Fin (tcTables nBuf tb) → BufTy
  | .hbm, ⟨0, _⟩ => ⟨S8x1x4608, .f32⟩
  | .hbm, ⟨1, _⟩ => ⟨S1x4608, .f32⟩
  | .hbm, ⟨2, _⟩ => ⟨S1x4608, .f32⟩
  | .hbm, ⟨3, _⟩ => ⟨S1x4608, .f32⟩
  | .hbm, ⟨4, _⟩ => ⟨S1x4608, .f32⟩
  | .hbm, ⟨5, _⟩ => ⟨S1x4608, .f32⟩
  | .hbm, ⟨6, _⟩ => ⟨S1x4608, .f32⟩
  | .hbm, ⟨7, _⟩ => ⟨S1x4608, .f32⟩
  | .local _ .vmem, ⟨0, _⟩ => ⟨S8x1x4608, .f32⟩
  | .local _ .vmem, ⟨1, _⟩ => ⟨S1x4608, .f32⟩
  | .local _ .vmem, ⟨2, _⟩ => ⟨S1x4608, .f32⟩
  | .local _ .vmem, ⟨3, _⟩ => ⟨S1x4608, .f32⟩
  | .local _ .vmem, ⟨4, _⟩ => ⟨S1x4608, .f32⟩
  | .local _ .vmem, ⟨5, _⟩ => ⟨S1x4608, .f32⟩
  | .local _ .vmem, ⟨6, _⟩ => ⟨S1x4608, .f32⟩
  | .local _ .vmem, ⟨7, _⟩ => ⟨S1x4608, .f32⟩
  | _, _ => ⟨S8x1x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x4608 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S8x1x4608 : Shape := ⟨3, ![8, 1, 4608]⟩
abbrev S1x4608 : Shape := ⟨2, ![1, 4608]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x4608, .f32⟩
  | .hbm, ⟨1, _⟩ => ⟨S1x4608, .f32⟩
  | .hbm, ⟨2, _⟩ => ⟨S1x4608, .f32⟩
  | .hbm, ⟨3, _⟩ => ⟨S1x4608, .f32⟩
  | .hbm, ⟨4, _⟩ => ⟨S_, .f32⟩
  | .hbm, ⟨5, _⟩ => ⟨S1x4608, .f32⟩
  | .hbm, ⟨6, _⟩ => ⟨S_, .f32⟩
  | .hbm, ⟨7, _⟩ => ⟨S1x4608, .f32⟩
  | .hbm, ⟨8, _⟩ => ⟨S1x4608, .f32⟩
  | .hbm, ⟨9, _⟩ => ⟨S_, .f32⟩
  | .hbm, ⟨10, _⟩ => ⟨S1x4608, .f32⟩
  | .hbm, ⟨11, _⟩ => ⟨S1x4608, .f32⟩
  | .hbm, ⟨12, _⟩ => ⟨S1x4608, .f32⟩
  | .hbm, ⟨13, _⟩ => ⟨S_, .f32⟩
  | .hbm, ⟨14, _⟩ => ⟨S1x4608, .f32⟩
  | .hbm, ⟨15, _⟩ => ⟨S1x4608, .f32⟩
  | .hbm, ⟨16, _⟩ => ⟨S1x4608, .f32⟩
  | .hbm, ⟨17, _⟩ => ⟨S_, .f32⟩
  | .hbm, ⟨18, _⟩ => ⟨S1x4608, .f32⟩
  | .hbm, ⟨19, _⟩ => ⟨S1x4608, .f32⟩
  | .hbm, ⟨20, _⟩ => ⟨S1x4608, .f32⟩
  | .hbm, ⟨21, _⟩ => ⟨S_, .f32⟩
  | .hbm, ⟨22, _⟩ => ⟨S1x4608, .f32⟩
  | .hbm, ⟨23, _⟩ => ⟨S1x4608, .f32⟩
  | .hbm, ⟨24, _⟩ => ⟨S_, .f32⟩
  | .hbm, ⟨25, _⟩ => ⟨S1x4608, .f32⟩
  | .hbm, ⟨26, _⟩ => ⟨S1x4608, .f32⟩
  | .hbm, ⟨27, _⟩ => ⟨S1x4608, .f32⟩
  | .hbm, ⟨28, _⟩ => ⟨S_, .f32⟩
  | .hbm, ⟨29, _⟩ => ⟨S1x4608, .f32⟩
  | .hbm, ⟨30, _⟩ => ⟨S1x4608, .f32⟩
  | .hbm, ⟨31, _⟩ => ⟨S1x4608, .f32⟩
  | .hbm, ⟨32, _⟩ => ⟨S_, .f32⟩
  | .hbm, ⟨33, _⟩ => ⟨S1x4608, .f32⟩
  | .hbm, ⟨34, _⟩ => ⟨S1x4608, .f32⟩
  | .hbm, ⟨35, _⟩ => ⟨S1x4608, .f32⟩
  | .hbm, ⟨36, _⟩ => ⟨S_, .f32⟩
  | .hbm, ⟨37, _⟩ => ⟨S1x4608, .f32⟩
  | .hbm, ⟨38, _⟩ => ⟨S1x4608, .f32⟩
  | _, _ => ⟨S8x1x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S4224x4096 : Shape := ⟨2, ![4224, 4096]⟩
abbrev S4096x4096 : Shape := ⟨2, ![4096, 4096]⟩
abbrev S1x1 : Shape := ⟨2, ![1, 1]⟩
abbrev S128x4096 : Shape := ⟨2, ![128, 4096]⟩
abbrev S1x128x4096 : Shape := ⟨3, ![1, 128, 4096]⟩
abbrev S1 : Shape := ⟨1, ![1]⟩
abbrev S1x1x1 : Shape := ⟨3, ![1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4224x4096, .f32⟩
  | .hbm, ⟨1, _⟩ => ⟨S4096x4096, .f32⟩
  | .hbm, ⟨2, _⟩ => ⟨S1x1, .f32⟩
  | .hbm, ⟨3, _⟩ => ⟨S4224x4096, .f32⟩
  | .hbm, ⟨4, _⟩ => ⟨S4224x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x1, .f32⟩
  | .local _ .vmem, ⟨5, _⟩ => ⟨S128x4096, .f32⟩
  | .local _ .vmem, ⟨6, _⟩ => ⟨S128x4096, .f32⟩
  | .local _ .vmem, ⟨7, _⟩ => ⟨S128x4096, .bf16⟩
  | .local _ .vmem, ⟨8, _⟩ => ⟨S128x4096, .bf16⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference25Ideal.lean ====
abbrev S4224x4096 : Shape := ⟨2, ![4224, 4096]⟩
abbrev S4096x4096 : Shape := ⟨2, ![4096, 4096]⟩
abbrev S_ : Shape := ⟨0, ![]⟩
abbrev S4096 : Shape := ⟨1, ![4096]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4224x4096, .f32⟩
  | .hbm, ⟨28, _⟩ => ⟨S1x1, .f32⟩
  | .hbm, ⟨29, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Kernel26.lean ====
abbrev S4x4096x3088 : Shape := ⟨3, ![4, 4096, 3088]⟩
abbrev S1x128x3088 : Shape := ⟨3, ![1, 128, 3088]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x3088, .bf16⟩
  | .hbm, ⟨1, _⟩ => ⟨S4x4096x3088, .bf16⟩
  | .hbm, ⟨2, _⟩ => ⟨S4x4096x3088, .bf16⟩
  | .local _ .vmem, ⟨0, _⟩ => ⟨S1x128x3088, .bf16⟩
  | .local _ .vmem, ⟨1, _⟩ => ⟨S1x128x3088, .bf16⟩
  | .local _ .vmem, ⟨2, _⟩ => ⟨S1x128x3088, .bf16⟩
  | .local _ .vmem, ⟨3, _⟩ => ⟨S1x128x3088, .bf16⟩
  | .local _ .vmem, ⟨4, _⟩ => ⟨S1x128x3088, .bf16⟩
  | .local _ .vmem, ⟨5, _⟩ => ⟨S1x128x3088, .bf16⟩
  | _, _ => ⟨S4x4096x3088, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3088 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x3088 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S4x4096x3088 : Shape := ⟨3, ![4, 4096, 3088]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x3088, .bf16⟩
  | .hbm, ⟨1, _⟩ => ⟨S4x4096x3088, .bf16⟩
  | .hbm, ⟨2, _⟩ => ⟨S4x4096x3088, .f32⟩
  | .hbm, ⟨3, _⟩ => ⟨S4x4096x3088, .f32⟩
  | .hbm, ⟨4, _⟩ => ⟨S4x4096x3088, .f32⟩
  | .hbm, ⟨5, _⟩ => ⟨S4x4096x3088, .bf16⟩
  | _, _ => ⟨S4x4096x3088, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel27.lean ====
abbrev S4224x4096 : Shape := ⟨2, ![4224, 4096]⟩
abbrev S1x4096 : Shape := ⟨2, ![1, 4096]⟩
abbrev S384x4096 : Shape := ⟨2, ![384, 4096]⟩
abbrev S384 : Shape := ⟨1, ![384]⟩
abbrev S384x1 : Shape := ⟨2, ![384, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x4096, .f32⟩
  | .hbm, ⟨1, _⟩ => ⟨S1x4096, .f32⟩
  | .hbm, ⟨2, _⟩ => ⟨S4224x4096, .bf16⟩
  | .local _ .vmem, ⟨0, _⟩ => ⟨S384x4096, .f32⟩
  | .local _ .vmem, ⟨1, _⟩ => ⟨S384x4096, .f32⟩
  | .local _ .vmem, ⟨2, _⟩ => ⟨S1x4096, .f32⟩
  | .local _ .vmem, ⟨3, _⟩ => ⟨S384x4096, .bf16⟩
  | .local _ .vmem, ⟨4, _⟩ => ⟨S384x4096, .bf16⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S4224x4096 : Shape := ⟨2, ![4224, 4096]⟩
abbrev S1x4096 : Shape := ⟨2, ![1, 4096]⟩
abbrev S4096 : Shape := ⟨1, ![4096]⟩
abbrev S_ : Shape := ⟨0, ![]⟩
abbrev S4224 : Shape := ⟨1, ![4224]⟩
abbrev S4224x1 : Shape := ⟨2, ![4224, 1]⟩

abbrev nBuf : Space → Nat
  | .hbm => 20
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S1x4096, .f32⟩
  | .hbm, ⟨2, _⟩ => ⟨S4096, .f32⟩
  | .hbm, ⟨3, _⟩ => ⟨S4224x4096, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x4096, .f32⟩
  | .hbm, ⟨15, _⟩ => ⟨S4224x4096, .f32⟩
  | .hbm, ⟨16, _⟩ => ⟨S1x4096, .f32⟩
  | .hbm, ⟨17, _⟩ => ⟨S4224x4096, .f32⟩
  | .hbm, ⟨18, _⟩ => ⟨S4224x4096, .f32⟩
  | .hbm, ⟨19, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel28.lean ====
abbrev S4224x4096 : Shape := ⟨2, ![4224, 4096]⟩
abbrev S1x4096 : Shape := ⟨2, ![1, 4096]⟩
abbrev S192x4096 : Shape := ⟨2, ![192, 4096]⟩
abbrev S192 : Shape := ⟨1, ![192]⟩
abbrev S192x1 : Shape := ⟨2, ![192, 1]⟩
abbrev S4096 : Shape := ⟨1, ![4096]⟩

abbrev nBuf : Space → Nat
  | .hbm => 7
  | .vmem => 12
  | .smem => 0
  | _ => 0

abbrev bufTy : (tb : Table) → Fin (tcTables nBuf tb) → BufTy
  | .hbm, ⟨0, _⟩ => ⟨S4224x4096, .f32⟩
  | .hbm, ⟨1, _⟩ => ⟨S1x4096, .f32⟩
  | .hbm, ⟨2, _⟩ => ⟨S4224x4096, .f32⟩
  | .hbm, ⟨3, _⟩ => ⟨S4224x4096, .f32⟩
  | .hbm, ⟨4, _⟩ => ⟨S4224x4096, .f32⟩
  | .hbm, ⟨5, _⟩ => ⟨S4224x4096, .bf16⟩
  | .hbm, ⟨6, _⟩ => ⟨S1x4096, .f32⟩
  | .local _ .vmem, ⟨0, _⟩ => ⟨S192x4096, .f32⟩
  | .local _ .vmem, ⟨1, _⟩ => ⟨S192x4096, .f32⟩
  | .local _ .vmem, ⟨2, _⟩ => ⟨S1x4096, .f32⟩
  | .local _ .vmem, ⟨3, _⟩ => ⟨S192x4096, .f32⟩
  | .local _ .vmem, ⟨4, _⟩ => ⟨S192x4096, .f32⟩
  | .local _ .vmem, ⟨5, _⟩ => ⟨S192x4096, .f32⟩
  | .local _ .vmem, ⟨6, _⟩ => ⟨S192x4096, .f32⟩
  | .local _ .vmem, ⟨7, _⟩ => ⟨S192x4096, .f32⟩
  | .local _ .vmem, ⟨8, _⟩ => ⟨S192x4096, .f32⟩
  | .local _ .vmem, ⟨9, _⟩ => ⟨S192x4096, .bf16⟩
  | .local _ .vmem, ⟨10, _⟩ => ⟨S192x4096, .bf16⟩
  | .local _ .vmem, ⟨11, _⟩ => ⟨S1x4096, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference28Ideal.lean ====
abbrev S4224x4096 : Shape := ⟨2, ![4224, 4096]⟩
abbrev S1x4096 : Shape := ⟨2, ![1, 4096]⟩
abbrev S4096 : Shape := ⟨1, ![4096]⟩
abbrev S_ : Shape := ⟨0, ![]⟩
abbrev S4224 : Shape := ⟨1, ![4224]⟩
abbrev S4224x1 : Shape := ⟨2, ![4224, 1]⟩

abbrev nBuf : Space → Nat
  | .hbm => 53
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S1x4096, .f32⟩
  | .hbm, ⟨2, _⟩ => ⟨S4224x4096, .f32⟩
  | .hbm, ⟨3, _⟩ => ⟨S4224x4096, .f32⟩
  | .hbm, ⟨4, _⟩ => ⟨S4096, .f32⟩
  | .hbm, ⟨5, _⟩ => ⟨S4224x4096, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x4096, .f32⟩
  | .hbm, ⟨21, _⟩ => ⟨S4224x4096, .f32⟩
  | .hbm, ⟨22, _⟩ => ⟨S1x4096, .f32⟩
  | .hbm, ⟨23, _⟩ => ⟨S4224x4096, .f32⟩
  | .hbm, ⟨24, _⟩ => ⟨S4224x4096, .f32⟩
  | .hbm, ⟨25, _⟩ => ⟨S4224x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S4224x4096, .f32⟩
  | .hbm, ⟨30, _⟩ => ⟨S4224x4096, .f32⟩
  | .hbm, ⟨31, _⟩ => ⟨S_, .f32⟩
  | .hbm, ⟨32, _⟩ => ⟨S4096, .f32⟩
  | .hbm, ⟨33, _⟩ => ⟨S4224x4096, .f32⟩
  | .hbm, ⟨34, _⟩ => ⟨S_, .f32⟩
  | .hbm, ⟨35, _⟩ => ⟨S4224, .f32⟩
  | .hbm, ⟨36, _⟩ => ⟨S4224x1, .f32⟩
  | .hbm, ⟨37, _⟩ => ⟨S4224x4096, .f32⟩
  | .hbm, ⟨38, _⟩ => ⟨S4224x4096, .f32⟩
  | .hbm, ⟨39, _⟩ => ⟨S4224x1, .f32⟩
  | .hbm, ⟨40, _⟩ => ⟨S_, .f32⟩
  | .hbm, ⟨41, _⟩ => ⟨S4224x1, .f32⟩
  | .hbm, ⟨42, _⟩ => ⟨S4224x1, .f32⟩
  | .hbm, ⟨43, _⟩ => ⟨S_, .f32⟩
  | .hbm, ⟨44, _⟩ => ⟨S4224, .f32⟩
  | .hbm, ⟨45, _⟩ => ⟨S4224x4096, .f32⟩
  | .hbm, ⟨46, _⟩ => ⟨S4224x4096, .f32⟩
  | .hbm, ⟨47, _⟩ => ⟨S4224x4096, .f32⟩
  | .hbm, ⟨48, _⟩ => ⟨S4224x4096, .f32⟩
  | .hbm, ⟨49, _⟩ => ⟨S4224x4096, .f32⟩
  | .hbm, ⟨50, _⟩ => ⟨S1x4096, .f32⟩
  | .hbm, ⟨51, _⟩ => ⟨S4224x4096, .f32⟩
  | .hbm, ⟨52, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel29.lean ====
abbrev S4224x16384 : Shape := ⟨2, ![4224, 16384]⟩
abbrev S1x128 : Shape := ⟨2, ![1, 128]⟩
abbrev S4224x4096 : Shape := ⟨2, ![4224, 4096]⟩
abbrev S1056x512 : Shape := ⟨2, ![1056, 512]⟩
abbrev S1056x128 : Shape := ⟨2, ![1056, 128]⟩
abbrev S1056 : Shape := ⟨1, ![1056]⟩
abbrev S1056x1 : Shape := ⟨2, ![1056, 1]⟩

abbrev nBuf : Space → Nat
  | .hbm => 6
  | .vmem => 14
  | .smem => 0
  | _ => 0

abbrev bufTy : (tb : Table) → Fin (tcTables nBuf tb) → BufTy
  | .hbm, ⟨0, _⟩ => ⟨S4224x16384, .f32⟩
  | .hbm, ⟨1, _⟩ => ⟨S1x128, .f32⟩
  | .hbm, ⟨2, _⟩ => ⟨S1x128, .f32⟩
  | .hbm, ⟨3, _⟩ => ⟨S4224x4096, .bf16⟩
  | .hbm, ⟨4, _⟩ => ⟨S4224x4096, .bf16⟩
  | .hbm, ⟨5, _⟩ => ⟨S4224x4096, .bf16⟩
  | .local _ .vmem, ⟨0, _⟩ => ⟨S1056x512, .f32⟩
  | .local _ .vmem, ⟨1, _⟩ => ⟨S1056x512, .f32⟩
  | .local _ .vmem, ⟨2, _⟩ => ⟨S1056x512, .f32⟩
  | .local _ .vmem, ⟨3, _⟩ => ⟨S1056x512, .f32⟩
  | .local _ .vmem, ⟨4, _⟩ => ⟨S1056x512, .f32⟩
  | .local _ .vmem, ⟨5, _⟩ => ⟨S1056x512, .f32⟩
  | .local _ .vmem, ⟨6, _⟩ => ⟨S1x128, .f32⟩
  | .local _ .vmem, ⟨7, _⟩ => ⟨S1x128, .f32⟩
  | .local _ .vmem, ⟨8, _⟩ => ⟨S1056x512, .bf16⟩
  | .local _ .vmem, ⟨9, _⟩ => ⟨S1056x512, .bf16⟩
  | .local _ .vmem, ⟨10, _⟩ => ⟨S1056x512, .bf16⟩
  | .local _ .vmem, ⟨11, _⟩ => ⟨S1056x512, .bf16⟩
  | .local _ .vmem, ⟨12, _⟩ => ⟨S1056x512, .bf16⟩
  | .local _ .vmem, ⟨13, _⟩ => ⟨S1056x512, .bf16⟩
  | _, _ => ⟨S4224x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1056x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1056x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1056x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1056x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1056x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference29Ideal.lean ====
abbrev S4224x16384 : Shape := ⟨2, ![4224, 16384]⟩
abbrev S1x128 : Shape := ⟨2, ![1, 128]⟩
abbrev S4224x4096 : Shape := ⟨2, ![4224, 4096]⟩
abbrev S4224x32x128 : Shape := ⟨3, ![4224, 32, 128]⟩
abbrev S128 : Shape := ⟨1, ![128]⟩
abbrev S_ : Shape := ⟨0, ![]⟩
abbrev S4224x32 : Shape := ⟨2, ![4224, 32]⟩
abbrev S4224x32x1 : Shape := ⟨3, ![4224, 32, 1]⟩
abbrev S1x1x128 : Shape := ⟨3, ![1, 1, 128]⟩

abbrev nBuf : Space → Nat
  | .hbm => 48
  | .vmem => 0
  | .smem => 0
  | _ => 0

abbrev bufTy : (tb : Table) → Fin (tcTables nBuf tb) → BufTy
  | .hbm, ⟨0, _⟩ => ⟨S4224x16384, .f32⟩
  | .hbm, ⟨1, _⟩ => ⟨S1x128, .f32⟩
  | .hbm, ⟨2, _⟩ => ⟨S1x128, .f32⟩
  | .hbm, ⟨3, _⟩ => ⟨S4224x4096, .f32⟩
  | .hbm, ⟨4, _⟩ => ⟨S4224x4096, .f32⟩
  | .hbm, ⟨5, _⟩ => ⟨S4224x4096, .f32⟩
  | .hbm, ⟨6, _⟩ => ⟨S4224x4096, .f32⟩
  | .hbm, ⟨7, _⟩ => ⟨S4224x32x128, .f32⟩
  | .hbm, ⟨8, _⟩ => ⟨S128, .f32⟩
  | .hbm, ⟨9, _⟩ => ⟨S4224x32x128, .f32⟩
  | .hbm, ⟨10, _⟩ => ⟨S_, .f32⟩
  | .hbm, ⟨11, _⟩ => ⟨S4224x32, .f32⟩
  | .hbm, ⟨12, _⟩ => ⟨S4224x32x1, .f32⟩
  | .hbm, ⟨13, _⟩ => ⟨S_, .f32⟩
  | .hbm, ⟨14, _⟩ => ⟨S4224x32x1, .f32⟩
  | .hbm, ⟨15, _⟩ => ⟨S4224x32x1, .f32⟩
  | .hbm, ⟨16, _⟩ => ⟨S_, .f32⟩
  | .hbm, ⟨17, _⟩ => ⟨S4224x32x1, .f32⟩
  | .hbm, ⟨18, _⟩ => ⟨S4224x32x1, .f32⟩
  | .hbm, ⟨19, _⟩ => ⟨S4224x32x1, .f32⟩
  | .hbm, ⟨20, _⟩ => ⟨S4224x32x128, .f32⟩
  | .hbm, ⟨21, _⟩ => ⟨S4224x32x128, .f32⟩
  | .hbm, ⟨22, _⟩ => ⟨S1x1x128, .f32⟩
  | .hbm, ⟨23, _⟩ => ⟨S4224x32x128, .f32⟩
  | .hbm, ⟨24, _⟩ => ⟨S4224x32x128, .f32⟩
  | .hbm, ⟨25, _⟩ => ⟨S4224x32x128, .f32⟩
  | .hbm, ⟨26, _⟩ => ⟨S128, .f32⟩
  | .hbm, ⟨27, _⟩ => ⟨S4224x32x128, .f32⟩
  | .hbm, ⟨28, _⟩ => ⟨S_, .f32⟩
  | .hbm, ⟨29, _⟩ => ⟨S4224x32, .f32⟩
  | .hbm, ⟨30, _⟩ => ⟨S4224x32x1, .f32⟩
  | .hbm, ⟨31, _⟩ => ⟨S_, .f32⟩
  | .hbm, ⟨32, _⟩ => ⟨S4224x32x1, .f32⟩
  | .hbm, ⟨33, _⟩ => ⟨S4224x32x1, .f32⟩
  | .hbm, ⟨34, _⟩ => ⟨S_, .f32⟩
  | .hbm, ⟨35, _⟩ => ⟨S4224x32x1, .f32⟩
  | .hbm, ⟨36, _⟩ => ⟨S4224x32x1, .f32⟩
  | .hbm, ⟨37, _⟩ => ⟨S4224x32x1, .f32⟩
  | .hbm, ⟨38, _⟩ => ⟨S4224x32x128, .f32⟩
  | .hbm, ⟨39, _⟩ => ⟨S4224x32x128, .f32⟩
  | .hbm, ⟨40, _⟩ => ⟨S1x1x128, .f32⟩
  | .hbm, ⟨41, _⟩ => ⟨S4224x32x128, .f32⟩
  | .hbm, ⟨42, _⟩ => ⟨S4224x32x128, .f32⟩
  | .hbm, ⟨43, _⟩ => ⟨S4224x4096, .f32⟩
  | .hbm, ⟨44, _⟩ => ⟨S4224x4096, .bf16⟩
  | .hbm, ⟨45, _⟩ => ⟨S4224x4096, .f32⟩
  | .hbm, ⟨46, _⟩ => ⟨S4224x4096, .bf16⟩
  | .hbm, ⟨47, _⟩ => ⟨S4224x4096, .bf16⟩
  | _, _ => ⟨S4224x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Kernel30.lean ====
abbrev S4224x8192 : Shape := ⟨2, ![4224, 8192]⟩
abbrev S4224x24576 : Shape := ⟨2, ![4224, 24576]⟩
abbrev S1x128 : Shape := ⟨2, ![1, 128]⟩
abbrev S1056x512 : Shape := ⟨2, ![1056, 512]⟩
abbrev S1056x128 : Shape := ⟨2, ![1056, 128]⟩
abbrev S1056 : Shape := ⟨1, ![1056]⟩
abbrev S1056x1 : Shape := ⟨2, ![1056, 1]⟩

abbrev nBuf : Space → Nat
  | .hbm => 4
  | .vmem => 7
  | .smem => 0
  | _ => 0

abbrev bufTy : (tb : Table) → Fin (tcTables nBuf tb) → BufTy
  | .hbm, ⟨0, _⟩ => ⟨S4224x8192, .f32⟩
  | .hbm, ⟨1, _⟩ => ⟨S4224x24576, .f32⟩
  | .hbm, ⟨2, _⟩ => ⟨S1x128, .f32⟩
  | .hbm, ⟨3, _⟩ => ⟨S4224x8192, .bf16⟩
  | .local _ .vmem, ⟨0, _⟩ => ⟨S1056x512, .f32⟩
  | .local _ .vmem, ⟨1, _⟩ => ⟨S1056x512, .f32⟩
  | .local _ .vmem, ⟨2, _⟩ => ⟨S1056x512, .f32⟩
  | .local _ .vmem, ⟨3, _⟩ => ⟨S1056x512, .f32⟩
  | .local _ .vmem, ⟨4, _⟩ => ⟨S1x128, .f32⟩
  | .local _ .vmem, ⟨5, _⟩ => ⟨S1056x512, .bf16⟩
  | .local _ .vmem, ⟨6, _⟩ => ⟨S1056x512, .bf16⟩
  | _, _ => ⟨S4224x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1056x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1056x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference30Ideal.lean ====
abbrev S4224x8192 : Shape := ⟨2, ![4224, 8192]⟩
abbrev S4224x24576 : Shape := ⟨2, ![4224, 24576]⟩
abbrev S1x128 : Shape := ⟨2, ![1, 128]⟩
abbrev S4224x64x128 : Shape := ⟨3, ![4224, 64, 128]⟩
abbrev S128 : Shape := ⟨1, ![128]⟩
abbrev S_ : Shape := ⟨0, ![]⟩
abbrev S4224x64 : Shape := ⟨2, ![4224, 64]⟩
abbrev S4224x64x1 : Shape := ⟨3, ![4224, 64, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S4224x8192, .f32⟩
  | .hbm, ⟨1, _⟩ => ⟨S4224x24576, .f32⟩
  | .hbm, ⟨2, _⟩ => ⟨S1x128, .f32⟩
  | .hbm, ⟨3, _⟩ => ⟨S4224x64x128, .f32⟩
  | .hbm, ⟨4, _⟩ => ⟨S128, .f32⟩
  | .hbm, ⟨5, _⟩ => ⟨S4224x64x128, .f32⟩
  | .hbm, ⟨6, _⟩ => ⟨S_, .f32⟩
  | .hbm, ⟨7, _⟩ => ⟨S4224x64, .f32⟩
  | .hbm, ⟨8, _⟩ => ⟨S4224x64x1, .f32⟩
  | .hbm, ⟨9, _⟩ => ⟨S_, .f32⟩
  | .hbm, ⟨10, _⟩ => ⟨S4224x64x1, .f32⟩
  | .hbm, ⟨11, _⟩ => ⟨S4224x64x1, .f32⟩
  | .hbm, ⟨12, _⟩ => ⟨S_, .f32⟩
  | .hbm, ⟨13, _⟩ => ⟨S4224x64x1, .f32⟩
  | .hbm, ⟨14, _⟩ => ⟨S4224x64x1, .f32⟩
  | .hbm, ⟨15, _⟩ => ⟨S4224x64x1, .f32⟩
  | .hbm, ⟨16, _⟩ => ⟨S4224x64x128, .f32⟩
  | .hbm, ⟨17, _⟩ => ⟨S4224x64x128, .f32⟩
  | .hbm, ⟨18, _⟩ => ⟨S1x1x128, .f32⟩
  | .hbm, ⟨19, _⟩ => ⟨S4224x64x128, .f32⟩
  | .hbm, ⟨20, _⟩ => ⟨S4224x64x128, .f32⟩
  | .hbm, ⟨21, _⟩ => ⟨S4224x8192, .f32⟩
  | .hbm, ⟨22, _⟩ => ⟨S4224x64x128, .f32⟩
  | .hbm, ⟨23, _⟩ => ⟨S4224x64x128, .f32⟩
  | .hbm, ⟨24, _⟩ => ⟨S4224x64x128, .f32⟩
  | .hbm, ⟨25, _⟩ => ⟨S_, .f32⟩
  | .hbm, ⟨26, _⟩ => ⟨S4224x64x128, .f32⟩
  | .hbm, ⟨27, _⟩ => ⟨S4224x64x128, .f32⟩
  | .hbm, ⟨28, _⟩ => ⟨S_, .f32⟩
  | .hbm, ⟨29, _⟩ => ⟨S4224x64x128, .f32⟩
  | .hbm, ⟨30, _⟩ => ⟨S4224x64x128, .f32⟩
  | .hbm, ⟨31, _⟩ => ⟨S4224x64x128, .f32⟩
  | .hbm, ⟨32, _⟩ => ⟨S4224x64x128, .f32⟩
  | .hbm, ⟨33, _⟩ => ⟨S4224x8192, .f32⟩
  | .hbm, ⟨34, _⟩ => ⟨S4224x8192, .bf16⟩
  | _, _ => ⟨S4224x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Kernel31.lean ====
abbrev S4224x128 : Shape := ⟨2, ![4224, 128]⟩
abbrev S1x64 : Shape := ⟨2, ![1, 64]⟩
abbrev S_ : Shape := ⟨0, ![]⟩
abbrev S1x128 : Shape := ⟨2, ![1, 128]⟩
abbrev S4224x1 : Shape := ⟨2, ![4224, 1]⟩

abbrev nBuf : Space → Nat
  | .hbm => 10
  | .vmem => 4
  | .smem => 0
  | _ => 0

abbrev bufTy : (tb : Table) → Fin (tcTables nBuf tb) → BufTy
  | .hbm, ⟨0, _⟩ => ⟨S4224x128, .f32⟩
  | .hbm, ⟨1, _⟩ => ⟨S1x64, .f32⟩
  | .hbm, ⟨2, _⟩ => ⟨S1x64, .f32⟩
  | .hbm, ⟨3, _⟩ => ⟨S_, .f32⟩
  | .hbm, ⟨4, _⟩ => ⟨S1x64, .f32⟩
  | .hbm, ⟨5, _⟩ => ⟨S1x128, .f32⟩
  | .hbm, ⟨6, _⟩ => ⟨S_, .f32⟩
  | .hbm, ⟨7, _⟩ => ⟨S1x64, .f32⟩
  | .hbm, ⟨8, _⟩ => ⟨S1x128, .f32⟩
  | .hbm, ⟨9, _⟩ => ⟨S4224x128, .f32⟩
  | .local _ .vmem, ⟨0, _⟩ => ⟨S4224x128, .f32⟩
  | .local _ .vmem, ⟨1, _⟩ => ⟨S1x128, .f32⟩
  | .local _ .vmem, ⟨2, _⟩ => ⟨S1x128, .f32⟩
  | .local _ .vmem, ⟨3, _⟩ => ⟨S4224x128, .f32⟩
  | _, _ => ⟨S4224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4224x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4224x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference31Ideal.lean ====
abbrev S4224x128 : Shape := ⟨2, ![4224, 128]⟩
abbrev S1x64 : Shape := ⟨2, ![1, 64]⟩
abbrev S4112x64 : Shape := ⟨2, ![4112, 64]⟩
abbrev S_ : Shape := ⟨0, ![]⟩
abbrev S64 : Shape := ⟨1, ![64]⟩
abbrev S4112x128 : Shape := ⟨2, ![4112, 128]⟩

abbrev nBuf : Space → Nat
  | .hbm => 41
  | .vmem => 0
  | .smem => 0
  | _ => 0

abbrev bufTy : (tb : Table) → Fin (tcTables nBuf tb) → BufTy
  | .hbm, ⟨0, _⟩ => ⟨S4224x128, .f32⟩
  | .hbm, ⟨1, _⟩ => ⟨S1x64, .f32⟩
  | .hbm, ⟨2, _⟩ => ⟨S1x64, .f32⟩
  | .hbm, ⟨3, _⟩ => ⟨S4112x64, .f32⟩
  | .hbm, ⟨4, _⟩ => ⟨S4112x64, .f32⟩
  | .hbm, ⟨5, _⟩ => ⟨S4112x64, .f32⟩
  | .hbm, ⟨6, _⟩ => ⟨S_, .f32⟩
  | .hbm, ⟨7, _⟩ => ⟨S4112x64, .f32⟩
  | .hbm, ⟨8, _⟩ => ⟨S4112x64, .f32⟩
  | .hbm, ⟨9, _⟩ => ⟨S_, .f32⟩
  | .hbm, ⟨10, _⟩ => ⟨S4112x64, .f32⟩
  | .hbm, ⟨11, _⟩ => ⟨S4112x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S4112x64, .f32⟩
  | .hbm, ⟨16, _⟩ => ⟨S64, .f32⟩
  | .hbm, ⟨17, _⟩ => ⟨S1x64, .f32⟩
  | .hbm, ⟨18, _⟩ => ⟨S4112x64, .f32⟩
  | .hbm, ⟨19, _⟩ => ⟨S4112x64, .f32⟩
  | .hbm, ⟨20, _⟩ => ⟨S_, .f32⟩
  | .hbm, ⟨21, _⟩ => ⟨S4112x64, .f32⟩
  | .hbm, ⟨22, _⟩ => ⟨S4112x64, .f32⟩
  | .hbm, ⟨23, _⟩ => ⟨S4112x64, .f32⟩
  | .hbm, ⟨24, _⟩ => ⟨S4112x64, .f32⟩
  | .hbm, ⟨25, _⟩ => ⟨S4112x64, .i1⟩
  | .hbm, ⟨26, _⟩ => ⟨S4112x64, .f32⟩
  | .hbm, ⟨27, _⟩ => ⟨S4112x64, .f32⟩
  | .hbm, ⟨28, _⟩ => ⟨S4112x64, .f32⟩
  | .hbm, ⟨29, _⟩ => ⟨S4112x64, .f32⟩
  | .hbm, ⟨30, _⟩ => ⟨S4112x64, .f32⟩
  | .hbm, ⟨31, _⟩ => ⟨S4112x64, .f32⟩
  | .hbm, ⟨32, _⟩ => ⟨S4112x64, .f32⟩
  | .hbm, ⟨33, _⟩ => ⟨S4112x64, .f32⟩
  | .hbm, ⟨34, _⟩ => ⟨S1x64, .f32⟩
  | .hbm, ⟨35, _⟩ => ⟨S4112x64, .f32⟩
  | .hbm, ⟨36, _⟩ => ⟨S4112x64, .f32⟩
  | .hbm, ⟨37, _⟩ => ⟨S4112x128, .f32⟩
  | .hbm, ⟨38, _⟩ => ⟨S_, .i32⟩
  | .hbm, ⟨39, _⟩ => ⟨S_, .f32⟩
  | .hbm, ⟨40, _⟩ => ⟨S4224x128, .f32⟩
  | _, _ => ⟨S4224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_call1_v0 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Kernel32.lean ====
abbrev S4224x24576 : Shape := ⟨2, ![4224, 24576]⟩
abbrev S4x16384 : Shape := ⟨2, ![4, 16384]⟩
abbrev S4224x16384 : Shape := ⟨2, ![4224, 16384]⟩
abbrev S384x1024 : Shape := ⟨2, ![384, 1024]⟩
abbrev S8x1024 : Shape := ⟨2, ![8, 1024]⟩
abbrev S4x1024 : Shape := ⟨2, ![4, 1024]⟩
abbrev S392x1024 : Shape := ⟨2, ![392, 1024]⟩
abbrev S1x1024 : Shape := ⟨2, ![1, 1024]⟩

abbrev nBuf : Space → Nat
  | .hbm => 3
  | .vmem => 8
  | .smem => 0
  | _ => 0

abbrev bufTy : (tb : Table) → Fin (tcTables nBuf tb) → BufTy
  | .hbm, ⟨0, _⟩ => ⟨S4224x24576, .f32⟩
  | .hbm, ⟨1, _⟩ => ⟨S4x16384, .f32⟩
  | .hbm, ⟨2, _⟩ => ⟨S4224x16384, .f32⟩
  | .local _ .vmem, ⟨0, _⟩ => ⟨S384x1024, .f32⟩
  | .local _ .vmem, ⟨1, _⟩ => ⟨S384x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S384x1024, .f32⟩
  | .local _ .vmem, ⟨7, _⟩ => ⟨S384x1024, .f32⟩
  | _, _ => ⟨S4224x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg0 c48_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference32Ideal.lean ====
abbrev S4224x24576 : Shape := ⟨2, ![4224, 24576]⟩
abbrev S4x16384 : Shape := ⟨2, ![4, 16384]⟩
abbrev S4224x16384 : Shape := ⟨2, ![4224, 16384]⟩
abbrev S_ : Shape := ⟨0, ![]⟩
abbrev S4227x16384 : Shape := ⟨2, ![4227, 16384]⟩
abbrev S1x16384 : Shape := ⟨2, ![1, 16384]⟩
abbrev S16384 : Shape := ⟨1, ![16384]⟩

abbrev nBuf : Space → Nat
  | .hbm => 45
  | .vmem => 0
  | .smem => 0
  | _ => 0

abbrev bufTy : (tb : Table) → Fin (tcTables nBuf tb) → BufTy
  | .hbm, ⟨0, _⟩ => ⟨S4224x24576, .f32⟩
  | .hbm, ⟨1, _⟩ => ⟨S4x16384, .f32⟩
  | .hbm, ⟨2, _⟩ => ⟨S4224x16384, .f32⟩
  | .hbm, ⟨3, _⟩ => ⟨S_, .i32⟩
  | .hbm, ⟨4, _⟩ => ⟨S_, .f32⟩
  | .hbm, ⟨5, _⟩ => ⟨S4227x16384, .f32⟩
  | .hbm, ⟨6, _⟩ => ⟨S4224x16384, .f32⟩
  | .hbm, ⟨7, _⟩ => ⟨S1x16384, .f32⟩
  | .hbm, ⟨8, _⟩ => ⟨S16384, .f32⟩
  | .hbm, ⟨9, _⟩ => ⟨S1x16384, .f32⟩
  | .hbm, ⟨10, _⟩ => ⟨S4224x16384, .f32⟩
  | .hbm, ⟨11, _⟩ => ⟨S4224x16384, .f32⟩
  | .hbm, ⟨12, _⟩ => ⟨S_, .f32⟩
  | .hbm, ⟨13, _⟩ => ⟨S4224x16384, .f32⟩
  | .hbm, ⟨14, _⟩ => ⟨S4224x16384, .f32⟩
  | .hbm, ⟨15, _⟩ => ⟨S4224x16384, .f32⟩
  | .hbm, ⟨16, _⟩ => ⟨S1x16384, .f32⟩
  | .hbm, ⟨17, _⟩ => ⟨S16384, .f32⟩
  | .hbm, ⟨18, _⟩ => ⟨S1x16384, .f32⟩
  | .hbm, ⟨19, _⟩ => ⟨S4224x16384, .f32⟩
  | .hbm, ⟨20, _⟩ => ⟨S4224x16384, .f32⟩
  | .hbm, ⟨21, _⟩ => ⟨S4224x16384, .f32⟩
  | .hbm, ⟨22, _⟩ => ⟨S4224x16384, .f32⟩
  | .hbm, ⟨23, _⟩ => ⟨S1x16384, .f32⟩
  | .hbm, ⟨24, _⟩ => ⟨S16384, .f32⟩
  | .hbm, ⟨25, _⟩ => ⟨S1x16384, .f32⟩
  | .hbm, ⟨26, _⟩ => ⟨S4224x16384, .f32⟩
  | .hbm, ⟨27, _⟩ => ⟨S4224x16384, .f32⟩
  | .hbm, ⟨28, _⟩ => ⟨S4224x16384, .f32⟩
  | .hbm, ⟨29, _⟩ => ⟨S4224x16384, .f32⟩
  | .hbm, ⟨30, _⟩ => ⟨S1x16384, .f32⟩
  | .hbm, ⟨31, _⟩ => ⟨S16384, .f32⟩
  | .hbm, ⟨32, _⟩ => ⟨S1x16384, .f32⟩
  | .hbm, ⟨33, _⟩ => ⟨S4224x16384, .f32⟩
  | .hbm, ⟨34, _⟩ => ⟨S4224x16384, .f32⟩
  | .hbm, ⟨35, _⟩ => ⟨S4224x16384, .f32⟩
  | .hbm, ⟨36, _⟩ => ⟨S4224x16384, .f32⟩
  | .hbm, ⟨37, _⟩ => ⟨S4224x16384, .f32⟩
  | .hbm, ⟨38, _⟩ => ⟨S_, .f32⟩
  | .hbm, ⟨39, _⟩ => ⟨S4224x16384, .f32⟩
  | .hbm, ⟨40, _⟩ => ⟨S4224x16384, .f32⟩
  | .hbm, ⟨41, _⟩ => ⟨S_, .f32⟩
  | .hbm, ⟨42, _⟩ => ⟨S4224x16384, .f32⟩
  | .hbm, ⟨43, _⟩ => ⟨S4224x16384, .f32⟩
  | .hbm, ⟨44, _⟩ => ⟨S4224x16384, .f32⟩
  | _, _ => ⟨S4224x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel33.lean ====
abbrev S4224x16384 : Shape := ⟨2, ![4224, 16384]⟩
abbrev S1x128 : Shape := ⟨2, ![1, 128]⟩
abbrev S4224x4096 : Shape := ⟨2, ![4224, 4096]⟩
abbrev S1056x512 : Shape := ⟨2, ![1056, 512]⟩
abbrev S1056x128 : Shape := ⟨2, ![1056, 128]⟩
abbrev S1056 : Shape := ⟨1, ![1056]⟩
abbrev S1056x1 : Shape := ⟨2, ![1056, 1]⟩
abbrev S128 : Shape := ⟨1, ![128]⟩

abbrev nBuf : Space → Nat
  | .hbm => 9
  | .vmem => 16
  | .smem => 0
  | _ => 0

abbrev bufTy : (tb : Table) → Fin (tcTables nBuf tb) → BufTy
  | .hbm, ⟨0, _⟩ => ⟨S4224x16384, .f32⟩
  | .hbm, ⟨1, _⟩ => ⟨S1x128, .f32⟩
  | .hbm, ⟨2, _⟩ => ⟨S1x128, .f32⟩
  | .hbm, ⟨3, _⟩ => ⟨S4224x4096, .f32⟩
  | .hbm, ⟨4, _⟩ => ⟨S4224x4096, .f32⟩
  | .hbm, ⟨5, _⟩ => ⟨S4224x4096, .bf16⟩
  | .hbm, ⟨6, _⟩ => ⟨S4224x4096, .bf16⟩
  | .hbm, ⟨7, _⟩ => ⟨S1x128, .f32⟩
  | .hbm, ⟨8, _⟩ => ⟨S1x128, .f32⟩
  | .local _ .vmem, ⟨0, _⟩ => ⟨S1056x512, .f32⟩
  | .local _ .vmem, ⟨1, _⟩ => ⟨S1056x512, .f32⟩
  | .local _ .vmem, ⟨2, _⟩ => ⟨S1056x512, .f32⟩
  | .local _ .vmem, ⟨3, _⟩ => ⟨S1056x512, .f32⟩
  | .local _ .vmem, ⟨4, _⟩ => ⟨S1x128, .f32⟩
  | .local _ .vmem, ⟨5, _⟩ => ⟨S1x128, .f32⟩
  | .local _ .vmem, ⟨6, _⟩ => ⟨S1056x512, .f32⟩
  | .local _ .vmem, ⟨7, _⟩ => ⟨S1056x512, .f32⟩
  | .local _ .vmem, ⟨8, _⟩ => ⟨S1056x512, .f32⟩
  | .local _ .vmem, ⟨9, _⟩ => ⟨S1056x512, .f32⟩
  | .local _ .vmem, ⟨10, _⟩ => ⟨S1056x512, .bf16⟩
  | .local _ .vmem, ⟨11, _⟩ => ⟨S1056x512, .bf16⟩
  | .local _ .vmem, ⟨12, _⟩ => ⟨S1056x512, .bf16⟩
  | .local _ .vmem, ⟨13, _⟩ => ⟨S1056x512, .bf16⟩
  | .local _ .vmem, ⟨14, _⟩ => ⟨S1x128, .f32⟩
  | .local _ .vmem, ⟨15, _⟩ => ⟨S1x128, .f32⟩
  | _, _ => ⟨S4224x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1056x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1056x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1056x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1056x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference33Ideal.lean ====
abbrev S4224x16384 : Shape := ⟨2, ![4224, 16384]⟩
abbrev S1x128 : Shape := ⟨2, ![1, 128]⟩
abbrev S4224x4096 : Shape := ⟨2, ![4224, 4096]⟩
abbrev S4224x32x128 : Shape := ⟨3, ![4224, 32, 128]⟩
abbrev S128 : Shape := ⟨1, ![128]⟩
abbrev S_ : Shape := ⟨0, ![]⟩
abbrev S4224x32 : Shape := ⟨2, ![4224, 32]⟩
abbrev S4224x32x1 : Shape := ⟨3, ![4224, 32, 1]⟩
abbrev S1x1x128 : Shape := ⟨3, ![1, 1, 128]⟩

abbrev nBuf : Space → Nat
  | .hbm => 111
  | .vmem => 0
  | .smem => 0
  | _ => 0

abbrev bufTy : (tb : Table) → Fin (tcTables nBuf tb) → BufTy
  | .hbm, ⟨0, _⟩ => ⟨S4224x16384, .f32⟩
  | .hbm, ⟨1, _⟩ => ⟨S1x128, .f32⟩
  | .hbm, ⟨2, _⟩ => ⟨S1x128, .f32⟩
  | .hbm, ⟨3, _⟩ => ⟨S4224x4096, .f32⟩
  | .hbm, ⟨4, _⟩ => ⟨S4224x4096, .f32⟩
  | .hbm, ⟨5, _⟩ => ⟨S4224x4096, .f32⟩
  | .hbm, ⟨6, _⟩ => ⟨S4224x32x128, .f32⟩
  | .hbm, ⟨7, _⟩ => ⟨S128, .f32⟩
  | .hbm, ⟨8, _⟩ => ⟨S4224x32x128, .f32⟩
  | .hbm, ⟨9, _⟩ => ⟨S_, .f32⟩
  | .hbm, ⟨10, _⟩ => ⟨S4224x32, .f32⟩
  | .hbm, ⟨11, _⟩ => ⟨S4224x32x1, .f32⟩
  | .hbm, ⟨12, _⟩ => ⟨S_, .f32⟩
  | .hbm, ⟨13, _⟩ => ⟨S4224x32x1, .f32⟩
  | .hbm, ⟨14, _⟩ => ⟨S4224x32x1, .f32⟩
  | .hbm, ⟨15, _⟩ => ⟨S_, .f32⟩
  | .hbm, ⟨16, _⟩ => ⟨S4224x32x1, .f32⟩
  | .hbm, ⟨17, _⟩ => ⟨S4224x32x1, .f32⟩
  | .hbm, ⟨18, _⟩ => ⟨S4224x32x1, .f32⟩
  | .hbm, ⟨19, _⟩ => ⟨S4224x32x1, .f32⟩
  | .hbm, ⟨20, _⟩ => ⟨S_, .f32⟩
  | .hbm, ⟨21, _⟩ => ⟨S4224x32x1, .f32⟩
  | .hbm, ⟨22, _⟩ => ⟨S4224x32x1, .f32⟩
  | .hbm, ⟨23, _⟩ => ⟨S4224x32x128, .f32⟩
  | .hbm, ⟨24, _⟩ => ⟨S4224x32x128, .f32⟩
  | .hbm, ⟨25, _⟩ => ⟨S1x1x128, .f32⟩
  | .hbm, ⟨26, _⟩ => ⟨S4224x32x128, .f32⟩
  | .hbm, ⟨27, _⟩ => ⟨S4224x32x128, .f32⟩
  | .hbm, ⟨28, _⟩ => ⟨S4224x4096, .f32⟩
  | .hbm, ⟨29, _⟩ => ⟨S4224x32x128, .f32⟩
  | .hbm, ⟨30, _⟩ => ⟨S4224x32x128, .f32⟩
  | .hbm, ⟨31, _⟩ => ⟨S_, .f32⟩
  | .hbm, ⟨32, _⟩ => ⟨S128, .f32⟩
  | .hbm, ⟨33, _⟩ => ⟨S1x1x128, .f32⟩
  | .hbm, ⟨34, _⟩ => ⟨S4224x32x128, .f32⟩
  | .hbm, ⟨35, _⟩ => ⟨S4224x32x128, .f32⟩
  | .hbm, ⟨36, _⟩ => ⟨S_, .f32⟩
  | .hbm, ⟨37, _⟩ => ⟨S128, .f32⟩
  | .hbm, ⟨38, _⟩ => ⟨S4224x32x128, .f32⟩
  | .hbm, ⟨39, _⟩ => ⟨S_, .f32⟩
  | .hbm, ⟨40, _⟩ => ⟨S4224x32, .f32⟩
  | .hbm, ⟨41, _⟩ => ⟨S4224x32x1, .f32⟩
  | .hbm, ⟨42, _⟩ => ⟨S4224x32x128, .f32⟩
  | .hbm, ⟨43, _⟩ => ⟨S4224x32x128, .f32⟩
  | .hbm, ⟨44, _⟩ => ⟨S4224x32x1, .f32⟩
  | .hbm, ⟨45, _⟩ => ⟨S_, .f32⟩
  | .hbm, ⟨46, _⟩ => ⟨S4224x32x1, .f32⟩
  | .hbm, ⟨47, _⟩ => ⟨S4224x32x1, .f32⟩
  | .hbm, ⟨48, _⟩ => ⟨S_, .f32⟩
  | .hbm, ⟨49, _⟩ => ⟨S4224x32, .f32⟩
  | .hbm, ⟨50, _⟩ => ⟨S4224x32x128, .f32⟩
  | .hbm, ⟨51, _⟩ => ⟨S4224x32x128, .f32⟩
  | .hbm, ⟨52, _⟩ => ⟨S4224x32x128, .f32⟩
  | .hbm, ⟨53, _⟩ => ⟨S4224x32x128, .f32⟩
  | .hbm, ⟨54, _⟩ => ⟨S4224x32x128, .f32⟩
  | .hbm, ⟨55, _⟩ => ⟨S1x128, .f32⟩
  | .hbm, ⟨56, _⟩ => ⟨S4224x4096, .f32⟩
  | .hbm, ⟨57, _⟩ => ⟨S4224x4096, .f32⟩
  | .hbm, ⟨58, _⟩ => ⟨S4224x32x128, .f32⟩
  | .hbm, ⟨59, _⟩ => ⟨S128, .f32⟩
  | .hbm, ⟨60, _⟩ => ⟨S4224x32x128, .f32⟩
  | .hbm, ⟨61, _⟩ => ⟨S_, .f32⟩
  | .hbm, ⟨62, _⟩ => ⟨S4224x32, .f32⟩
  | .hbm, ⟨63, _⟩ => ⟨S4224x32x1, .f32⟩
  | .hbm, ⟨64, _⟩ => ⟨S_, .f32⟩
  | .hbm, ⟨65, _⟩ => ⟨S4224x32x1, .f32⟩
  | .hbm, ⟨66, _⟩ => ⟨S4224x32x1, .f32⟩
  | .hbm, ⟨67, _⟩ => ⟨S_, .f32⟩
  | .hbm, ⟨68, _⟩ => ⟨S4224x32x1, .f32⟩
  | .hbm, ⟨69, _⟩ => ⟨S4224x32x1, .f32⟩
  | .hbm, ⟨70, _⟩ => ⟨S4224x32x1, .f32⟩
  | .hbm, ⟨71, _⟩ => ⟨S4224x32x1, .f32⟩
  | .hbm, ⟨72, _⟩ => ⟨S_, .f32⟩
  | .hbm, ⟨73, _⟩ => ⟨S4224x32x1, .f32⟩
  | .hbm, ⟨74, _⟩ => ⟨S4224x32x1, .f32⟩
  | .hbm, ⟨75, _⟩ => ⟨S4224x32x128, .f32⟩
  | .hbm, ⟨76, _⟩ => ⟨S4224x32x128, .f32⟩
  | .hbm, ⟨77, _⟩ => ⟨S1x1x128, .f32⟩
  | .hbm, ⟨78, _⟩ => ⟨S4224x32x128, .f32⟩
  | .hbm, ⟨79, _⟩ => ⟨S4224x32x128, .f32⟩
  | .hbm, ⟨80, _⟩ => ⟨S4224x4096, .f32⟩
  | .hbm, ⟨81, _⟩ => ⟨S4224x32x128, .f32⟩
  | .hbm, ⟨82, _⟩ => ⟨S4224x32x128, .f32⟩
  | .hbm, ⟨83, _⟩ => ⟨S_, .f32⟩
  | .hbm, ⟨84, _⟩ => ⟨S128, .f32⟩
  | .hbm, ⟨85, _⟩ => ⟨S1x1x128, .f32⟩
  | .hbm, ⟨86, _⟩ => ⟨S4224x32x128, .f32⟩
  | .hbm, ⟨87, _⟩ => ⟨S4224x32x128, .f32⟩
  | .hbm, ⟨88, _⟩ => ⟨S_, .f32⟩
  | .hbm, ⟨89, _⟩ => ⟨S128, .f32⟩
  | .hbm, ⟨90, _⟩ => ⟨S4224x32x128, .f32⟩
  | .hbm, ⟨91, _⟩ => ⟨S_, .f32⟩
  | .hbm, ⟨92, _⟩ => ⟨S4224x32, .f32⟩
  | .hbm, ⟨93, _⟩ => ⟨S4224x32x1, .f32⟩
  | .hbm, ⟨94, _⟩ => ⟨S4224x32x128, .f32⟩
  | .hbm, ⟨95, _⟩ => ⟨S4224x32x128, .f32⟩
  | .hbm, ⟨96, _⟩ => ⟨S4224x32x1, .f32⟩
  | .hbm, ⟨97, _⟩ => ⟨S_, .f32⟩
  | .hbm, ⟨98, _⟩ => ⟨S4224x32x1, .f32⟩
  | .hbm, ⟨99, _⟩ => ⟨S4224x32x1, .f32⟩
  | .hbm, ⟨100, _⟩ => ⟨S_, .f32⟩
  | .hbm, ⟨101, _⟩ => ⟨S4224x32, .f32⟩
  | .hbm, ⟨102, _⟩ => ⟨S4224x32x128, .f32⟩
  | .hbm, ⟨103, _⟩ => ⟨S4224x32x128, .f32⟩
  | .hbm, ⟨104, _⟩ => ⟨S4224x32x128, .f32⟩
  | .hbm, ⟨105, _⟩ => ⟨S4224x32x128, .f32⟩
  | .hbm, ⟨106, _⟩ => ⟨S4224x32x128, .f32⟩
  | .hbm, ⟨107, _⟩ => ⟨S1x128, .f32⟩
  | .hbm, ⟨108, _⟩ => ⟨S4224x4096, .f32⟩
  | .hbm, ⟨109, _⟩ => ⟨S4224x4096, .bf16⟩
  | .hbm, ⟨110, _⟩ => ⟨S4224x4096, .bf16⟩
  | _, _ => ⟨S4224x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_13 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_15 : Ref sig .tc := ⟨.hbm, 97, rfl⟩
abbrev main_v76 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩

abbrev nD : Nat := 1
abbrev τ : Topo := Topo.v7x

variable {F : FTy → Type} [FloatOps F]
-- ==== Proof.Prod.DnInWgrad.lean ====
/- The weight gradient of the scan layer's input projection: the call's result is the reference's product over the rows. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Kernel2Ideal.Val

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the layer's input and the gradient of its projection. -/
abbrev ref (x : FVec Ideal S4224x4096 .bf16) (y : FVec Ideal S4224x24576 .bf16) : FVec Ideal S4096x24576 .bf16 :=
  truncf .bf16 (transpose S4096x24576 [1, 0] (Host.dotGeneral Cert.Reference2Ideal.dot_S4224x24576_S4224x4096_S24576x4096_0_0_1_1_n_n none
    (extf .f32 y Cert.Reference2Ideal.Gen.bitsLt_bf16_f32) (extf .f32 x Cert.Reference2Ideal.Gen.bitsLt_bf16_f32))
    Cert.Reference2Ideal.Gen.transposes_S24576x4096_S4096x24576_1_0) Cert.Reference2Ideal.Gen.bitsLt_bf16_f32

/-- The index maps over the grid. -/
theorem idx : ∀ t : Fin cfg0.N, win0_0.index t = ![0, t.val / 48] ∧ win0_1.index t = ![0, t.val % 48]
    ∧ win0_2.index t = ![t.val / 48, t.val % 48] :=
  (by decide +kernel : ∀ t : Fin grid0.N, _)

/-- What a grid point stores at an index of its block is the reference at the index's place in the array. -/
theorem point (c : Dev nD) (t : Fin cfg0.N) (y) :
    k0_pay3 (k0_pay2 (k0_pay1 (F := Ideal)) (iblk m c 0 t) (iblk m c 1 t)) y
      = ref (m ((c : Thread nD τ).loc main_arg0)) (m ((c : Thread nD τ).loc main_arg1)) (((cfg0.win 2).blk t).view.emb y) := by
  pointwise [k0_pay3, k0_pay2, k0_pay1, ref]
  refine Fin.sum_fin_congr fun l => (mul_comm (_ : EReal) _).trans ?_
  blk_point [iblk, V, idx t]

/-- The result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.Kernel2Ideal.Val

end
-- ==== Proof.Prod.DnInDgrad.lean ====
/- The data gradient of the scan layer's input projection: the call's result is the reference's sum. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the gradient of the projection, the weights and the gradient from the gate columns. -/
abbrev ref (y : FVec Ideal S4224x24576 .bf16) (w : FVec Ideal S4096x24704 .bf16) (g : FVec Ideal S4224x4096 .f32) : FVec Ideal S4224x4096 .f32 :=
  addf g (Host.dotGeneral Cert.Reference3Ideal.dot_S4224x24576_S4096x24576_S4224x4096_1_1_0_0_n_n none
    (extf .f32 y Cert.Reference3Ideal.Gen.bitsLt_bf16_f32)
    (extf .f32 (extractStridedSlice Cert.Reference3Ideal.S4096x24576 ![0, 0] w Cert.Reference3Ideal.Gen.slices_S4096x24704_S4096x24576_0_0)
      Cert.Reference3Ideal.Gen.bitsLt_bf16_f32))

/-- The index maps over the grid. -/
theorem idx : ∀ t : Fin cfg0.N, win0_0.index t = ![t.val / 48, t.val % 6] ∧ win0_1.index t = ![t.val / 6 % 8, t.val % 6]
    ∧ win0_2.index t = ![t.val / 48, t.val / 6 % 8] ∧ win0_4.index t = ![t.val / 48, t.val / 6 % 8] :=
  (by decide +kernel : ∀ t : Fin grid0.N, _)

/-- The sum starts at zero. -/
theorem pay_zero (j) : k0_pay1 (F := Ideal) j = 0 := by pointwise [k0_pay1]

/-- A grid point adds the product over its 4096 columns. -/
theorem pay_add (acc : Vec Ideal S1056x512 .f32) (y : Vec Ideal S1056x4096 .bf16) (w : Vec Ideal S512x4096 .bf16) (j) :
    k0_pay2 acc y w j = acc j + ∑ k : Fin 4096, y (ix2 (j 0) k) * w (ix2 (j 1) k) := by
  pointwise [k0_pay2]

/-- The last point of a run adds the gradient from the gate columns. -/
theorem pay_last (acc : Vec Ideal S1056x512 .f32) (g : Vec Ideal S1056x512 .f32) (j) : k0_pay3 acc g j = acc j + g j := by
  pointwise [k0_pay3]

/-- The partial sums after a run's last grid point: the products over the run's 6 blocks of columns. -/
theorem sums (c : Dev nD) (t : Fin cfg0.N) (h : t.val % 6 = 5) (j) : (outsAt0 m c t.val t.isLt).2 j
    = ∑ s : Fin 6, ∑ k : Fin 4096, (show FVec Ideal S1056x4096 .bf16 from iblk m c 0 ⟨6 * (t.val / 6) + s.val, Pipeline.run_point_lt_of_flush t h s⟩) (ix2 (j 0) k)
        * (show FVec Ideal S512x4096 .bf16 from X0_1 m c ⟨6 * (t.val / 6) + s.val, Pipeline.run_point_lt_of_flush t h s⟩) (ix2 (j 1) k) := by
  rw [Pipeline.eq_sum_fin_of_reset_step_apply_of_flush (fun n h => (outsAt0 m c n h).2) 6 (fun _ => 0) _
    (fun t h j => by rw [outsAt0_A m c t h (by omega)]; frame_out; rw [pay_add, pay_zero])
    (fun t h j => by
      by_cases h1 : t.val % 6 = 5
      · rw [outsAt0_C m c t h h1]; frame_out; simp only [read_unread_whole]; rw [pay_add]
      · rw [outsAt0_B m c t h h1]; frame_out; simp only [read_unread_whole]; rw [pay_add])
    t h j, zero_add]

/-- The block a run's last grid point writes: the sums and the gradient from the gate columns. -/
theorem out_eq (c : Dev nD) (t : Fin cfg0.N) (h : t.val % 6 = 5) :
    (outsAt0 m c t.val t.isLt).1 = k0_pay3 (outsAt0 m c t.val t.isLt).2 (iblk m c 2 t) := by
  rw [outsAt0_C m c t (by omega) h]
  frame_out

/-- The result array is the reference's. -/
theorem final (c : Dev nD) : (dats m 0 c).arrAt 4 (cfgs 0).N
    = ref (m ((c : Thread nD τ).loc main_arg0)) (m ((c : Thread nD τ).loc main_arg1)) (m ((c : Thread nD τ).loc main_arg2)) := by
  refine (dats m 0 c).arrAt_eq_of_covers 4 _ (by decide +kernel) fun t hf y => ?_
  have h5 := (flush0_4 t).mp hf
  blk_simp
  rw [after0_4, out_eq m c t h5]
  refine (pay_last _ _ _).trans ?_
  rw [sums m c t h5]
  pointwise [ref]
  refine (add_comm (_ : EReal) _).trans (congrArg₂ (fun a b : EReal => a + b) ?_ ?_)
  · blk_ext [iblk, V, idx t]
  · refine Fin.sum_mul_add_congr fun s k hl => ?_
    have hs := idx ⟨6 * (t.val / 6) + s.val, Pipeline.run_point_lt_of_flush t h5 s⟩
    blk_point [iblk, V, idx t, hs]
    · unfold Pipeline.Window.fill
      rw [dif_pos (moved0_1 _ _)]
      blk_ext [iblk, V, idx t, hs]

end Cert.Kernel3Ideal.Val

end
-- ==== Proof.Prod.DnInProj.lean ====
/- The scan layer's input projection: the call's result is the reference's product. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Kernel4Ideal.Val

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the layer's input and the projection's weights. -/
abbrev ref (x : FVec Ideal S4224x4096 .bf16) (w : FVec Ideal S4096x24704 .bf16) : FVec Ideal S4224x24576 .f32 :=
  Host.dotGeneral Cert.Reference4Ideal.dot_S4224x4096_S4096x24576_S4224x24576_1_0_0_1_n_n none
    (extf .f32 x Cert.Reference4Ideal.Gen.bitsLt_bf16_f32)
    (extf .f32 (extractStridedSlice Cert.Reference4Ideal.S4096x24576 ![0, 0] w Cert.Reference4Ideal.Gen.slices_S4096x24704_S4096x24576_0_0)
      Cert.Reference4Ideal.Gen.bitsLt_bf16_f32)

/-- The index maps over the grid. -/
theorem idx : ∀ t : Fin cfg0.N, win0_0.index t = ![t.val / 48, 0] ∧ win0_1.index t = ![0, t.val % 48]
    ∧ win0_2.index t = ![t.val / 48, t.val % 48] :=
  (by decide +kernel : ∀ t : Fin grid0.N, _)

/-- What a grid point stores at an index of its block is the reference at the index's place in the array. -/
theorem point (c : Dev nD) (t : Fin cfg0.N) (y) :
    k0_pay2 (k0_pay1 (F := Ideal)) (iblk m c 0 t) (X0_1 m c t) y
      = ref (m ((c : Thread nD τ).loc main_arg0)) (m ((c : Thread nD τ).loc main_arg1)) (((cfg0.win 2).blk t).view.emb y) := by
  pointwise [k0_pay2, k0_pay1, ref]
  blk_point [iblk, V, idx t]
  unfold Pipeline.Window.fill
  rw [dif_pos (moved0_1 t _)]
  blk_ext [iblk, V, idx t]

/-- The result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.Kernel4Ideal.Val

end
-- ==== Proof.Prod.SbInWgrad.lean ====
/- The weight gradient of the attention layer's input projection, by the devices' blocks of columns: the call's result is the reference's product over the rows. -/
module

public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.Kernel5Ideal.Val

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the layer's input and the gradient of its projection. -/
abbrev ref (x : FVec Ideal S4224x4096 .bf16) (y : FVec Ideal S4224x16384 .bf16) : FVec Ideal S8x4096x2048 .bf16 :=
  truncf .bf16 (transpose S8x4096x2048 [1, 0, 2] (shapeCast Cert.Reference5Ideal.S4096x8x2048 (transpose Cert.Reference5Ideal.S4096x16384 [1, 0]
    (Host.dotGeneral Cert.Reference5Ideal.dot_S4224x16384_S4224x4096_S16384x4096_0_0_1_1_n_n none
      (extf .f32 y Cert.Reference5Ideal.Gen.bitsLt_bf16_f32) (extf .f32 x Cert.Reference5Ideal.Gen.bitsLt_bf16_f32))
    Cert.Reference5Ideal.Gen.transposes_S16384x4096_S4096x16384_1_0) Cert.Reference5Ideal.Gen.shapeCasts_S4096x16384_S4096x8x2048)
    Cert.Reference5Ideal.Gen.transposes_S4096x8x2048_S8x4096x2048_1_0_2) Cert.Reference5Ideal.Gen.bitsLt_bf16_f32

/-- The index maps over the grid. -/
theorem idx : ∀ t : Fin cfg0.N, win0_0.index t = ![0, t.val / 32]
    ∧ win0_1.index t = ![0, t.val % 32]
    ∧ win0_2.index t = ![t.val % 32 / 4, t.val / 32, t.val % 4] :=
  (by decide +kernel : ∀ t : Fin grid0.N, _)

/-- What a grid point stores at an index of its block is the reference at the index's place in the array. -/
theorem point (c : Dev nD) (t : Fin cfg0.N) (y) :
    k0_pay3 (k0_pay2 (k0_pay1 (F := Ideal)) (iblk m c 0 t) (iblk m c 1 t)) y
      = ref (m ((c : Thread nD τ).loc main_arg0)) (m ((c : Thread nD τ).loc main_arg1)) (((cfg0.win 2).blk t).view.emb y) := by
  pointwise [k0_pay3, k0_pay2, k0_pay1, ref]
  refine Fin.sum_fin_congr fun l => (mul_comm (_ : EReal) _).trans ?_
  blk_point [iblk, V, idx t]

/-- The result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.Kernel5Ideal.Val

end
-- ==== Proof.Prod.SbInDgrad.lean ====
/- The data gradient of the attention layer's input projection, of weights given by the devices' blocks of columns: the call's
   result is the reference's product. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel6Ideal.Val

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the gradient of the projection and the gathered weights. -/
abbrev ref (y : FVec Ideal S4224x16384 .bf16) (g : FVec Ideal S8x4096x2048 .bf16) : FVec Ideal S4224x4096 .f32 :=
  Host.dotGeneral Cert.Reference6Ideal.dot_S4224x16384_S4096x16384_S4224x4096_1_1_0_0_n_n none
    (extf .f32 y Cert.Reference6Ideal.Gen.bitsLt_bf16_f32)
    (extf .f32 (shapeCast Cert.Reference6Ideal.S4096x16384 (transpose Cert.Reference6Ideal.S4096x8x2048 [1, 0, 2] g
      Cert.Reference6Ideal.Gen.transposes_S8x4096x2048_S4096x8x2048_1_0_2)
      Cert.Reference6Ideal.Gen.shapeCasts_S4096x8x2048_S4096x16384) Cert.Reference6Ideal.Gen.bitsLt_bf16_f32)

/-- The index maps over the grid. -/
theorem idx : ∀ t : Fin cfg0.N, win0_0.index t = ![t.val / 64, t.val % 8] ∧ win0_1.index t = ![t.val % 8, t.val / 8 % 8, 0]
    ∧ win0_3.index t = ![t.val / 64, t.val / 8 % 8] :=
  (by decide +kernel : ∀ t : Fin grid0.N, _)

/-- The sum starts at zero. -/
theorem pay_zero (j) : k0_pay1 (F := Ideal) j = 0 := by pointwise [k0_pay1]

/-- A grid point adds the product over its 2048 columns. -/
theorem pay_add (acc : Vec Ideal S1056x512 .f32) (y : Vec Ideal S1056x2048 .bf16) (w : Vec Ideal S1x512x2048 .bf16) (j) :
    k0_pay2 acc y w j = acc j + ∑ k : Fin 2048, y (ix2 (j 0) k) * w (ix3 0 (j 1) k) := by
  pointwise [k0_pay2]

/-- The partial sums after a run's last grid point: the products over the run's 8 blocks of columns. -/
theorem sums (c : Dev nD) (t : Fin cfg0.N) (h : t.val % 8 = 7) (j) : (outsAt0 m c t.val t.isLt).2 j
    = ∑ s : Fin 8, ∑ k : Fin 2048, (show FVec Ideal S1056x2048 .bf16 from iblk m c 0 ⟨8 * (t.val / 8) + s.val, Pipeline.run_point_lt_of_flush t h s⟩) (ix2 (j 0) k)
        * (show FVec Ideal S1x512x2048 .bf16 from iblk m c 1 ⟨8 * (t.val / 8) + s.val, Pipeline.run_point_lt_of_flush t h s⟩) (ix3 0 (j 1) k) := by
  rw [Pipeline.eq_sum_fin_of_reset_step_apply_of_flush (fun n h => (outsAt0 m c n h).2) 8 (fun _ => 0) _
    (fun t h j => by rw [outsAt0_A m c t h (by omega)]; frame_out; rw [pay_add, pay_zero])
    (fun t h j => by
      by_cases h1 : t.val % 8 = 7
      · rw [outsAt0_C m c t h h1]; frame_out; simp only [read_unread_whole]; rw [pay_add]
      · rw [outsAt0_B m c t h h1]; frame_out; simp only [read_unread_whole]; rw [pay_add])
    t h j, zero_add]

/-- The block a run's last grid point writes: the sums. -/
theorem out_eq (c : Dev nD) (t : Fin cfg0.N) (h : t.val % 8 = 7) :
    (outsAt0 m c t.val t.isLt).1 = (outsAt0 m c t.val t.isLt).2 := by
  rw [outsAt0_C m c t (by omega) h]
  frame_out

/-- The result array is the reference's. -/
theorem final (c : Dev nD) : (dats m 0 c).arrAt 3 (cfgs 0).N
    = ref (m ((c : Thread nD τ).loc main_arg0)) (m ((c : Thread nD τ).loc main_arg1)) := by
  refine (dats m 0 c).arrAt_eq_of_covers 3 _ (by decide +kernel) fun t hf y => ?_
  have h7 := (flush0_3 t).mp hf
  blk_simp
  rw [after0_3, out_eq m c t h7]
  rw [sums m c t h7]
  pointwise [ref]
  refine Fin.sum_mul_add_congr fun s k hl => ?_
  have hs := idx ⟨8 * (t.val / 8) + s.val, Pipeline.run_point_lt_of_flush t h7 s⟩
  blk_point [iblk, V, idx t, hs]

end Cert.Kernel6Ideal.Val

end
-- ==== Proof.Prod.SbInProj.lean ====
/- The attention layer's input projection, of weights given by the devices' blocks of columns: the call's result is the reference's product. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.ValueKit

@[expose] public section

set_option maxRecDepth 16384

noncomputable section

namespace Cert.Kernel7Ideal.Val

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the layer's input and the gathered weights. -/
abbrev ref (x : FVec Ideal S4224x4096 .bf16) (g : FVec Ideal S8x4096x2048 .bf16) : FVec Ideal S4224x16384 .f32 :=
  Host.dotGeneral Cert.Reference7Ideal.dot_S4224x4096_S4096x16384_S4224x16384_1_0_0_1_n_n none (extf .f32 x Cert.Reference7Ideal.Gen.bitsLt_bf16_f32)
    (extf .f32 (shapeCast Cert.Reference7Ideal.S4096x16384 (transpose Cert.Reference7Ideal.S4096x8x2048 [1, 0, 2] g
      Cert.Reference7Ideal.Gen.transposes_S8x4096x2048_S4096x8x2048_1_0_2) Cert.Reference7Ideal.Gen.shapeCasts_S4096x8x2048_S4096x16384) Cert.Reference7Ideal.Gen.bitsLt_bf16_f32)

/-- The index maps over the grid. -/
theorem idx : ∀ t : Fin cfg0.N, win0_0.index t = ![t.val / 32, 0]
    ∧ win0_1.index t = ![t.val % 32 / 4, 0, t.val % 4]
    ∧ win0_2.index t = ![t.val / 32, t.val % 32] :=
  (by decide +kernel : ∀ t : Fin grid0.N, _)

/-- What a grid point stores at an index of its block is the reference at the index's place in the array. -/
theorem point (c : Dev nD) (t : Fin cfg0.N) (y) :
    k0_pay2 (k0_pay1 (F := Ideal)) (iblk m c 0 t) (iblk m c 1 t) y
      = ref (m ((c : Thread nD τ).loc main_arg0)) (m ((c : Thread nD τ).loc main_arg1)) (((cfg0.win 2).blk t).view.emb y) := by
  pointwise [k0_pay2, k0_pay1, ref]
  blk_point [iblk, V, idx t]

/-- The result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.Kernel7Ideal.Val

end
-- ==== Proof.Prod.DnOutWgrad.lean ====
/- The weight gradient of the scan layer's output projection: the call's result is the reference's product over the rows. -/
module

public import proofs.«01_k».proof.Proof.Gen.Kernel8Ideal.Value
public import proofs.«01_k».proof.Proof.Gen.Reference8Ideal.Run
public import Idealize.ShloMosaic.Lib.Pointwise
public import Idealize.ShloMosaic.Lib.Pipeline.ValueKit

@[expose] public section

set_option maxRecDepth 16384

noncomputable section

namespace Cert.Kernel8Ideal.Val

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the projection's input and the gradient of the stream. -/
abbrev ref (x : FVec Ideal S4224x8192 .bf16) (y : FVec Ideal S4224x4096 .bf16) : FVec Ideal S8192x4096 .bf16 :=
  truncf .bf16 (transpose S8192x4096 [1, 0] (Host.dotGeneral Cert.Reference8Ideal.dot_S4224x4096_S4224x8192_S4096x8192_0_0_1_1_n_n none
    (extf .f32 y Cert.Reference8Ideal.Gen.bitsLt_bf16_f32) (extf .f32 x Cert.Reference8Ideal.Gen.bitsLt_bf16_f32))
    Cert.Reference8Ideal.Gen.transposes_S4096x8192_S8192x4096_1_0) Cert.Reference8Ideal.Gen.bitsLt_bf16_f32

/-- The index maps over the grid. -/
theorem idx : ∀ t : Fin cfg0.N, win0_0.index t = ![0, t.val / 8]
    ∧ win0_1.index t = ![0, t.val % 8]
    ∧ win0_2.index t = ![t.val / 8, t.val % 8] :=
  (by decide +kernel : ∀ t : Fin grid0.N, _)

/-- What a grid point stores at an index of its block is the reference at the index's place in the array. -/
theorem point (c : Dev nD) (t : Fin cfg0.N) (y) :
    k0_pay3 (k0_pay2 (k0_pay1 (F := Ideal)) (iblk m c 0 t) (iblk m c 1 t)) y
      = ref (m ((c : Thread nD τ).loc main_arg0)) (m ((c : Thread nD τ).loc main_arg1)) (((cfg0.win 2).blk t).view.emb y) := by
  pointwise [k0_pay3, k0_pay2, k0_pay1, ref]
  refine Fin.sum_fin_congr fun l => (mul_comm (_ : EReal) _).trans ?_
  blk_point [iblk, V, idx t]

/-- The result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.Kernel8Ideal.Val

end
-- ==== Proof.Prod.DnOutDgrad.lean ====
/- The data gradient of the scan layer's output projection: the call's result is the reference's product. -/
module

public import proofs.«01_k».proof.Proof.Gen.Kernel9Ideal.Value
public import proofs.«01_k».proof.Proof.Gen.Reference9Ideal.Run
public import Idealize.ShloMosaic.Lib.Pointwise
public import Idealize.ShloMosaic.Lib.Pipeline.ValueKit

@[expose] public section

set_option maxRecDepth 16384

noncomputable section

namespace Cert.Kernel9Ideal.Val

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the gradient of the stream and the weights. -/
abbrev ref (y : FVec Ideal S4224x4096 .bf16) (w : FVec Ideal S8192x4096 .bf16) : FVec Ideal S4224x8192 .f32 :=
  Host.dotGeneral Cert.Reference9Ideal.dot_S4224x4096_S8192x4096_S4224x8192_1_1_0_0_n_n none
    (extf .f32 y Cert.Reference9Ideal.Gen.bitsLt_bf16_f32) (extf .f32 w Cert.Reference9Ideal.Gen.bitsLt_bf16_f32)

/-- The index maps over the grid. -/
theorem idx : ∀ t : Fin cfg0.N, win0_0.index t = ![t.val / 16, 0]
    ∧ win0_1.index t = ![t.val % 16, 0]
    ∧ win0_3.index t = ![t.val / 16, t.val % 16] :=
  (by decide +kernel : ∀ t : Fin grid0.N, _)

/-- What a grid point stores at an index of its block is the reference at the index's place in the array. -/
theorem point (c : Dev nD) (t : Fin cfg0.N) (y) :
    k0_pay2 (k0_pay1 (F := Ideal)) (iblk m c 0 t) (iblk m c 1 t) y
      = ref (m ((c : Thread nD τ).loc main_arg0)) (m ((c : Thread nD τ).loc main_arg1)) (((cfg0.win 3).blk t).view.emb y) := by
  pointwise [k0_pay2, k0_pay1, ref]
  blk_point [iblk, V, idx t]

/-- The result array is the reference's. -/
theorem final (c : Dev nD) : (dats m 0 c).arrAt 3 (cfgs 0).N
    = ref (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  frame_out
  exact point m c t y

end Cert.Kernel9Ideal.Val

end
-- ==== Proof.Prod.DnOutProj.lean ====
/- The scan layer's output projection, added to the stream: the call's result is the reference's sum. -/
module

public import proofs.«01_k».proof.Proof.Gen.Kernel10Ideal.Value
public import proofs.«01_k».proof.Proof.Gen.Reference10Ideal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel10Ideal.Val

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the projection's input, the weights and the stream. -/
abbrev ref (x : FVec Ideal S4224x8192 .bf16) (w : FVec Ideal S8192x4096 .bf16) (h : FVec Ideal S4224x4096 .f32) : FVec Ideal S4224x4096 .f32 :=
  addf h (Host.dotGeneral Cert.Reference10Ideal.dot_S4224x8192_S8192x4096_S4224x4096_1_0_0_1_n_n none
    (extf .f32 x Cert.Reference10Ideal.Gen.bitsLt_bf16_f32) (extf .f32 w Cert.Reference10Ideal.Gen.bitsLt_bf16_f32))

/-- The index maps over the grid. -/
theorem idx : ∀ t : Fin cfg0.N, win0_0.index t = ![t.val / 16, t.val % 2] ∧ win0_1.index t = ![t.val % 2, t.val / 2 % 8]
    ∧ win0_2.index t = ![t.val / 16, t.val / 2 % 8] ∧ win0_3.index t = ![t.val / 16, t.val / 2 % 8] :=
  (by decide +kernel : ∀ t : Fin grid0.N, _)

/-- The sum starts at zero. -/
theorem pay_zero (j) : k0_pay1 (F := Ideal) j = 0 := by pointwise [k0_pay1]

/-- A grid point adds the product over its 4096 columns. -/
theorem pay_add (acc : Vec Ideal S1056x512 .f32) (x : Vec Ideal S1056x4096 .bf16) (w : Vec Ideal S4096x512 .bf16) (j) :
    k0_pay2 acc x w j = acc j + ∑ k : Fin 4096, x (ix2 (j 0) k) * w (ix2 k (j 1)) := by
  pointwise [k0_pay2]

/-- The last point of a run adds the stream. -/
theorem pay_last (acc : Vec Ideal S1056x512 .f32) (g : Vec Ideal S1056x512 .f32) (j) : k0_pay3 acc g j = acc j + g j := by
  pointwise [k0_pay3]

/-- The partial sums after a run's last grid point: the products over the run's 2 blocks of columns. -/
theorem sums (c : Dev nD) (t : Fin cfg0.N) (h : t.val % 2 = 1) (j) : (outsAt0 m c t.val t.isLt).2 j
    = ∑ s : Fin 2, ∑ k : Fin 4096, (show FVec Ideal S1056x4096 .bf16 from iblk m c 0 ⟨2 * (t.val / 2) + s.val, Pipeline.run_point_lt_of_flush t h s⟩) (ix2 (j 0) k)
        * (show FVec Ideal S4096x512 .bf16 from iblk m c 1 ⟨2 * (t.val / 2) + s.val, Pipeline.run_point_lt_of_flush t h s⟩) (ix2 k (j 1)) := by
  rw [Pipeline.eq_sum_fin_of_reset_step_apply_of_flush (fun n h => (outsAt0 m c n h).2) 2 (fun _ => 0) _
    (fun t h j => by rw [outsAt0_A m c t h (by omega)]; frame_out; rw [pay_add, pay_zero])
    (fun t h j => by
      rw [outsAt0_B m c t h (by omega)]; frame_out; simp only [read_unread_whole]; rw [pay_add])
    t h j, zero_add]

/-- The block a run's last grid point writes: the sums and the stream. -/
theorem out_eq (c : Dev nD) (t : Fin cfg0.N) (h : t.val % 2 = 1) :
    (outsAt0 m c t.val t.isLt).1 = k0_pay3 (outsAt0 m c t.val t.isLt).2 (iblk m c 2 t) := by
  rw [outsAt0_B m c t (by omega) h]
  frame_out

/-- The result array is the reference's. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  have h1 := (flush0_3 t).mp hf
  blk_simp
  rw [after0_3, out_eq m c t h1]
  refine (pay_last _ _ _).trans ?_
  rw [sums m c t h1]
  pointwise [ref]
  refine (add_comm (_ : EReal) _).trans (congrArg₂ (fun a b : EReal => a + b) ?_ ?_)
  · blk_ext [iblk, V, idx t]
  · refine Fin.sum_mul_add_congr fun s k hl => ?_
    have hs := idx ⟨2 * (t.val / 2) + s.val, Pipeline.run_point_lt_of_flush t h1 s⟩
    blk_point [iblk, V, idx t, hs]

end Cert.Kernel10Ideal.Val

end
-- ==== Proof.Prod.SbOutWgrad.lean ====
/- The weight gradient of the attention layer's output projection: the call's result is the reference's product over the rows. -/
module

public import proofs.«01_k».proof.Proof.Gen.Kernel11Ideal.Value
public import proofs.«01_k».proof.Proof.Gen.Reference11Ideal.Run
public import Idealize.ShloMosaic.Lib.Pointwise
public import Idealize.ShloMosaic.Lib.Pipeline.ValueKit

@[expose] public section

set_option maxRecDepth 16384

noncomputable section

namespace Cert.Kernel11Ideal.Val

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the projection's input and the gradient of the stream. -/
abbrev ref (x : FVec Ideal S4224x4096 .bf16) (y : FVec Ideal S4224x4096 .bf16) : FVec Ideal S4096x4096 .bf16 :=
  truncf .bf16 (transpose S4096x4096 [1, 0] (Host.dotGeneral Cert.Reference11Ideal.dot_S4224x4096_S4224x4096_S4096x4096_0_0_1_1_n_n none
    (extf .f32 y Cert.Reference11Ideal.Gen.bitsLt_bf16_f32) (extf .f32 x Cert.Reference11Ideal.Gen.bitsLt_bf16_f32))
    Cert.Reference11Ideal.Gen.transposes_S4096x4096_S4096x4096_1_0) Cert.Reference11Ideal.Gen.bitsLt_bf16_f32

/-- The index maps over the grid. -/
theorem idx : ∀ t : Fin cfg0.N, win0_0.index t = ![0, t.val / 8]
    ∧ win0_1.index t = ![0, t.val % 8]
    ∧ win0_2.index t = ![t.val / 8, t.val % 8] :=
  (by decide +kernel : ∀ t : Fin grid0.N, _)

/-- What a grid point stores at an index of its block is the reference at the index's place in the array. -/
theorem point (c : Dev nD) (t : Fin cfg0.N) (y) :
    k0_pay3 (k0_pay2 (k0_pay1 (F := Ideal)) (iblk m c 0 t) (iblk m c 1 t)) y
      = ref (m ((c : Thread nD τ).loc main_arg0)) (m ((c : Thread nD τ).loc main_arg1)) (((cfg0.win 2).blk t).view.emb y) := by
  pointwise [k0_pay3, k0_pay2, k0_pay1, ref]
  refine Fin.sum_fin_congr fun l => (mul_comm (_ : EReal) _).trans ?_
  blk_point [iblk, V, idx t]

/-- The result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.Kernel11Ideal.Val

end
-- ==== Proof.Prod.SbOutDgrad.lean ====
/- The data gradient of the attention layer's output projection: the call's result is the reference's product. -/
module

public import proofs.«01_k».proof.Proof.Gen.Kernel12Ideal.Value
public import proofs.«01_k».proof.Proof.Gen.Reference12Ideal.Run
public import Idealize.ShloMosaic.Lib.Pointwise
public import Idealize.ShloMosaic.Lib.Pipeline.ValueKit

@[expose] public section

set_option maxRecDepth 16384

noncomputable section

namespace Cert.Kernel12Ideal.Val

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the gradient of the stream and the weights. -/
abbrev ref (y : FVec Ideal S4224x4096 .bf16) (w : FVec Ideal S4096x4096 .bf16) : FVec Ideal S4224x4096 .f32 :=
  Host.dotGeneral Cert.Reference12Ideal.dot_S4224x4096_S4096x4096_S4224x4096_1_1_0_0_n_n none
    (extf .f32 y Cert.Reference12Ideal.Gen.bitsLt_bf16_f32) (extf .f32 w Cert.Reference12Ideal.Gen.bitsLt_bf16_f32)

/-- The index maps over the grid. -/
theorem idx : ∀ t : Fin cfg0.N, win0_0.index t = ![t.val / 8, 0]
    ∧ win0_1.index t = ![t.val % 8, 0]
    ∧ win0_2.index t = ![t.val / 8, t.val % 8] :=
  (by decide +kernel : ∀ t : Fin grid0.N, _)

/-- What a grid point stores at an index of its block is the reference at the index's place in the array. -/
theorem point (c : Dev nD) (t : Fin cfg0.N) (y) :
    k0_pay2 (k0_pay1 (F := Ideal)) (iblk m c 0 t) (iblk m c 1 t) y
      = ref (m ((c : Thread nD τ).loc main_arg0)) (m ((c : Thread nD τ).loc main_arg1)) (((cfg0.win 2).blk t).view.emb y) := by
  pointwise [k0_pay2, k0_pay1, ref]
  blk_point [iblk, V, idx t]

/-- The result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.Kernel12Ideal.Val

end
-- ==== Proof.Prod.SbOutProj.lean ====
/- The attention layer's output projection, added to the stream: the call's result is the reference's sum. -/
module

public import proofs.«01_k».proof.Proof.Gen.Kernel13Ideal.Value
public import proofs.«01_k».proof.Proof.Gen.Reference13Ideal.Run
public import Idealize.ShloMosaic.Lib.Pointwise
public import Idealize.ShloMosaic.Lib.Pipeline.ValueKit

@[expose] public section

set_option maxRecDepth 16384

noncomputable section

namespace Cert.Kernel13Ideal.Val

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the projection's input, the weights and the stream. -/
abbrev ref (x : FVec Ideal S4224x4096 .bf16) (w : FVec Ideal S4096x4096 .bf16) (h : FVec Ideal S4224x4096 .f32) : FVec Ideal S4224x4096 .f32 :=
  addf h (Host.dotGeneral Cert.Reference13Ideal.dot_S4224x4096_S4096x4096_S4224x4096_1_0_0_1_n_n none
    (extf .f32 x Cert.Reference13Ideal.Gen.bitsLt_bf16_f32) (extf .f32 w Cert.Reference13Ideal.Gen.bitsLt_bf16_f32))

/-- The index maps over the grid. -/
theorem idx : ∀ t : Fin cfg0.N, win0_0.index t = ![t.val / 8, 0]
    ∧ win0_1.index t = ![0, t.val % 8]
    ∧ win0_2.index t = ![t.val / 8, t.val % 8]
    ∧ win0_3.index t = ![t.val / 8, t.val % 8] :=
  (by decide +kernel : ∀ t : Fin grid0.N, _)

/-- What a grid point stores at an index of its block is the reference at the index's place in the array. -/
theorem point (c : Dev nD) (t : Fin cfg0.N) (y) :
    k0_pay3 (k0_pay2 (k0_pay1 (F := Ideal)) (iblk m c 0 t) (iblk m c 1 t)) (iblk m c 2 t) y
      = ref (m ((c : Thread nD τ).loc main_arg0)) (m ((c : Thread nD τ).loc main_arg1)) (m ((c : Thread nD τ).loc main_arg2)) (((cfg0.win 3).blk t).view.emb y) := by
  pointwise [k0_pay3, k0_pay2, k0_pay1, ref]
  refine (add_comm (_ : EReal) _).trans ?_
  blk_point [iblk, V, idx t]

/-- The result array is the reference's. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  exact point m c t y

end Cert.Kernel13Ideal.Val

end
-- ==== Proof.Prod.DnGateWgrad.lean ====
/- The weight gradient of the scan layer's gate columns: the call's result is the reference's product over the rows. -/
module

public import proofs.«01_k».proof.Proof.Gen.Kernel14Ideal.Value
public import proofs.«01_k».proof.Proof.Gen.Reference14Ideal.Run
public import Idealize.ShloMosaic.Lib.Pointwise
public import Idealize.ShloMosaic.Lib.Pipeline.ValueKit

@[expose] public section

set_option maxRecDepth 16384

noncomputable section

namespace Cert.Kernel14Ideal.Val

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the layer's input and the gradient of its gate columns. -/
abbrev ref (x : FVec Ideal S4224x4096 .bf16) (y : FVec Ideal S4224x128 .bf16) : FVec Ideal S4096x128 .bf16 :=
  truncf .bf16 (transpose S4096x128 [1, 0] (Host.dotGeneral Cert.Reference14Ideal.dot_S4224x128_S4224x4096_S128x4096_0_0_1_1_n_n none
    (extf .f32 y Cert.Reference14Ideal.Gen.bitsLt_bf16_f32) (extf .f32 x Cert.Reference14Ideal.Gen.bitsLt_bf16_f32))
    Cert.Reference14Ideal.Gen.transposes_S128x4096_S4096x128_1_0) Cert.Reference14Ideal.Gen.bitsLt_bf16_f32

/-- The index maps over the grid. -/
theorem idx : ∀ t : Fin cfg0.N, win0_0.index t = ![0, t.val]
    ∧ win0_1.index t = ![0, 0]
    ∧ win0_2.index t = ![t.val, 0] :=
  (by decide +kernel : ∀ t : Fin grid0.N, _)

/-- What a grid point stores at an index of its block is the reference at the index's place in the array. -/
theorem point (c : Dev nD) (t : Fin cfg0.N) (y) :
    k0_pay3 (k0_pay2 (k0_pay1 (F := Ideal)) (iblk m c 0 t) (iblk m c 1 t)) y
      = ref (m ((c : Thread nD τ).loc main_arg0)) (m ((c : Thread nD τ).loc main_arg1)) (((cfg0.win 2).blk t).view.emb y) := by
  pointwise [k0_pay3, k0_pay2, k0_pay1, ref]
  refine Fin.sum_fin_congr fun l => (mul_comm (_ : EReal) _).trans ?_
  blk_point [iblk, V, idx t]

/-- The result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.Kernel14Ideal.Val

end
-- ==== Proof.Prod.DnGateDgrad.lean ====
/- The data gradient of the scan layer's gate columns: the call's result is the reference's product. -/
module

public import proofs.«01_k».proof.Proof.Gen.Kernel15Ideal.Value
public import proofs.«01_k».proof.Proof.Gen.Reference15Ideal.Run
public import Idealize.ShloMosaic.Lib.Pointwise
public import Idealize.ShloMosaic.Lib.Pipeline.ValueKit

@[expose] public section

set_option maxRecDepth 16384

noncomputable section

namespace Cert.Kernel15Ideal.Val

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the gradient of the gate columns and the weights. -/
abbrev ref (y : FVec Ideal S4224x128 .bf16) (w : FVec Ideal S4096x24704 .bf16) : FVec Ideal S4224x4096 .f32 :=
  Host.dotGeneral Cert.Reference15Ideal.dot_S4224x128_S4096x128_S4224x4096_1_1_0_0_n_n none (extf .f32 y Cert.Reference15Ideal.Gen.bitsLt_bf16_f32)
    (extf .f32 (extractStridedSlice Cert.Reference15Ideal.S4096x128 ![0, 24576] w Cert.Reference15Ideal.Gen.slices_S4096x24704_S4096x128_0_24576) Cert.Reference15Ideal.Gen.bitsLt_bf16_f32)

/-- The index maps over the grid. -/
theorem idx : ∀ t : Fin cfg0.N, win0_0.index t = ![t.val / 8, 0]
    ∧ win0_1.index t = ![t.val % 8, 192]
    ∧ win0_3.index t = ![t.val / 8, t.val % 8] :=
  (by decide +kernel : ∀ t : Fin grid0.N, _)

/-- What a grid point stores at an index of its block is the reference at the index's place in the array. -/
theorem point (c : Dev nD) (t : Fin cfg0.N) (y) :
    k0_pay2 (k0_pay1 (F := Ideal)) (iblk m c 0 t) (iblk m c 1 t) y
      = ref (m ((c : Thread nD τ).loc main_arg0)) (m ((c : Thread nD τ).loc main_arg1)) (((cfg0.win 3).blk t).view.emb y) := by
  pointwise [k0_pay2, k0_pay1, ref]
  blk_point [iblk, V, idx t]

/-- The result array is the reference's. -/
theorem final (c : Dev nD) : (dats m 0 c).arrAt 3 (cfgs 0).N
    = ref (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  frame_out
  exact point m c t y

end Cert.Kernel15Ideal.Val

end
-- ==== Proof.Prod.DnGateProj.lean ====
/- The scan layer's gate columns: the call's result is the reference's product. -/
module

public import proofs.«01_k».proof.Proof.Gen.Kernel16Ideal.Value
public import proofs.«01_k».proof.Proof.Gen.Reference16Ideal.Run
public import Idealize.ShloMosaic.Lib.Pointwise
public import Idealize.ShloMosaic.Lib.Pipeline.ValueKit

@[expose] public section

set_option maxRecDepth 16384

noncomputable section

namespace Cert.Kernel16Ideal.Val

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- The reference's result, of the layer's input and the weights. -/
abbrev ref (x : FVec Ideal S4224x4096 .bf16) (w : FVec Ideal S4096x24704 .bf16) : FVec Ideal S4224x128 .f32 :=
  Host.dotGeneral Cert.Reference16Ideal.dot_S4224x4096_S4096x128_S4224x128_1_0_0_1_n_n none (extf .f32 x Cert.Reference16Ideal.Gen.bitsLt_bf16_f32)
    (extf .f32 (extractStridedSlice Cert.Reference16Ideal.S4096x128 ![0, 24576] w Cert.Reference16Ideal.Gen.slices_S4096x24704_S4096x128_0_24576) Cert.Reference16Ideal.Gen.bitsLt_bf16_f32)

/-- The index maps over the grid. -/
theorem idx : ∀ t : Fin cfg0.N, win0_0.index t = ![t.val, 0]
    ∧ win0_1.index t = ![0, 192]
    ∧ win0_2.index t = ![t.val, 0] :=
  (by decide +kernel : ∀ t : Fin grid0.N, _)

/-- What a grid point stores at an index of its block is the reference at the index's place in the array. -/
theorem point (c : Dev nD) (t : Fin cfg0.N) (y) :
    k0_pay2 (k0_pay1 (F := Ideal)) (iblk m c 0 t) (iblk m c 1 t) y
      = ref (m ((c : Thread nD τ).loc main_arg0)) (m ((c : Thread nD τ).loc main_arg1)) (((cfg0.win 2).blk t).view.emb y) := by
  pointwise [k0_pay2, k0_pay1, ref]
  blk_point [iblk, V, idx t]

/-- The result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

end Cert.Kernel16Ideal.Val

end
-- ==== Proof.Prod.Claims.lean ====
/- The claims of the matrix products: each reference's frame, and each call's result equal to its reference's. -/
module

public import proofs.«01_k».proof.Defs
public import proofs.«01_k».proof.Proof.Prod.DnInWgrad
public import proofs.«01_k».proof.Proof.Prod.DnInDgrad
public import proofs.«01_k».proof.Proof.Prod.DnInProj
public import proofs.«01_k».proof.Proof.Prod.SbInWgrad
public import proofs.«01_k».proof.Proof.Prod.SbInDgrad
public import proofs.«01_k».proof.Proof.Prod.SbInProj
public import proofs.«01_k».proof.Proof.Prod.DnOutWgrad
public import proofs.«01_k».proof.Proof.Prod.DnOutDgrad
public import proofs.«01_k».proof.Proof.Prod.DnOutProj
public import proofs.«01_k».proof.Proof.Prod.SbOutWgrad
public import proofs.«01_k».proof.Proof.Prod.SbOutDgrad
public import proofs.«01_k».proof.Proof.Prod.SbOutProj
public import proofs.«01_k».proof.Proof.Prod.DnGateWgrad
public import proofs.«01_k».proof.Proof.Prod.DnGateDgrad
public import proofs.«01_k».proof.Proof.Prod.DnGateProj

@[expose] public section

noncomputable section

namespace Cert.Prod

open Idealize.ShloMosaic Idealize.SL.Sem

/-- The reference of the weight gradient of the scan layer's input projection runs, keeps its arguments and ends with every counter at zero. -/
theorem frame2 : Cert.quiescent_Reference2Ideal (hReference2Ideal := Cert.Reference2Ideal.Gen.facts) :=
  fun m ρ _ => (θ_run Cert.Reference2Ideal.defs _ _).mono
    (fun _ h => ⟨fun c => (h c).2, Idealize.ShloMosaic.sem_eq_zero_of_no_sems (by decide) _⟩) (Cert.Reference2Ideal.Value.run m ρ)

/-- The call's result is the reference's: the weight gradient of the scan layer's input projection. -/
theorem algebraic2 : Cert.algebraic_Kernel2Ideal_Reference2Ideal
    (hKernel2Ideal := Cert.Kernel2Ideal.Gen.facts) (hReference2Ideal := Cert.Reference2Ideal.Gen.facts) :=
  fun m ρ m' ρ' _ ha => ⟨fun c => Cert.Kernel2Ideal.Val.ref (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run Cert.Kernel2Ideal.defs _ _).mono (fun _ h c => ⟨(h c).1.trans (Cert.Kernel2Ideal.Val.final m c), (h c).2⟩) (Cert.Kernel2Ideal.Value.run_blocks m ρ),
    (θ_run Cert.Reference2Ideal.defs _ _).mono (fun _ h c => ⟨(h c).1.trans (by obtain ⟨e0, e1⟩ := ha c; rw [e0, e1]), (h c).2⟩) (Cert.Reference2Ideal.Value.run m' ρ')⟩

/-- The reference of the data gradient of the scan layer's input projection runs, keeps its arguments and ends with every counter at zero. -/
theorem frame3 : Cert.quiescent_Reference3Ideal (hReference3Ideal := Cert.Reference3Ideal.Gen.facts) :=
  fun m ρ _ => (θ_run Cert.Reference3Ideal.defs _ _).mono
    (fun _ h => ⟨fun c => (h c).2, Idealize.ShloMosaic.sem_eq_zero_of_no_sems (by decide) _⟩) (Cert.Reference3Ideal.Value.run m ρ)

/-- The call's result is the reference's: the data gradient of the scan layer's input projection. -/
theorem algebraic3 : Cert.algebraic_Kernel3Ideal_Reference3Ideal
    (hKernel3Ideal := Cert.Kernel3Ideal.Gen.facts) (hReference3Ideal := Cert.Reference3Ideal.Gen.facts) :=
  fun m ρ m' ρ' _ ha => ⟨fun c => Cert.Kernel3Ideal.Val.ref (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    (θ_run Cert.Kernel3Ideal.defs _ _).mono (fun _ h c => ⟨(h c).1.trans (Cert.Kernel3Ideal.Val.final m c), (h c).2⟩) (Cert.Kernel3Ideal.Value.run_blocks m ρ),
    (θ_run Cert.Reference3Ideal.defs _ _).mono (fun _ h c => ⟨(h c).1.trans (by obtain ⟨e0, e1, e2, _⟩ := ha c; rw [e0, e1, e2]), (h c).2⟩) (Cert.Reference3Ideal.Value.run m' ρ')⟩

/-- The reference of the scan layer's input projection runs, keeps its arguments and ends with every counter at zero. -/
theorem frame4 : Cert.quiescent_Reference4Ideal (hReference4Ideal := Cert.Reference4Ideal.Gen.facts) :=
  fun m ρ _ => (θ_run Cert.Reference4Ideal.defs _ _).mono
    (fun _ h => ⟨fun c => (h c).2, Idealize.ShloMosaic.sem_eq_zero_of_no_sems (by decide) _⟩) (Cert.Reference4Ideal.Value.run m ρ)

/-- The call's result is the reference's: the scan layer's input projection. -/
theorem algebraic4 : Cert.algebraic_Kernel4Ideal_Reference4Ideal
    (hKernel4Ideal := Cert.Kernel4Ideal.Gen.facts) (hReference4Ideal := Cert.Reference4Ideal.Gen.facts) :=
  fun m ρ m' ρ' _ ha => ⟨fun c => Cert.Kernel4Ideal.Val.ref (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run Cert.Kernel4Ideal.defs _ _).mono (fun _ h c => ⟨(h c).1.trans (Cert.Kernel4Ideal.Val.final m c), (h c).2⟩) (Cert.Kernel4Ideal.Value.run_blocks m ρ),
    (θ_run Cert.Reference4Ideal.defs _ _).mono (fun _ h c => ⟨(h c).1.trans (by obtain ⟨e0, e1⟩ := ha c; rw [e0, e1]), (h c).2⟩) (Cert.Reference4Ideal.Value.run m' ρ')⟩

/-- The reference of the weight gradient of the attention layer's input projection runs, keeps its arguments and ends with every counter at zero. -/
theorem frame5 : Cert.quiescent_Reference5Ideal (hReference5Ideal := Cert.Reference5Ideal.Gen.facts) :=
  fun m ρ _ => (θ_run Cert.Reference5Ideal.defs _ _).mono
    (fun _ h => ⟨fun c => (h c).2, Idealize.ShloMosaic.sem_eq_zero_of_no_sems (by decide) _⟩) (Cert.Reference5Ideal.Value.run m ρ)

/-- The call's result is the reference's: the weight gradient of the attention layer's input projection. -/
theorem algebraic5 : Cert.algebraic_Kernel5Ideal_Reference5Ideal
    (hKernel5Ideal := Cert.Kernel5Ideal.Gen.facts) (hReference5Ideal := Cert.Reference5Ideal.Gen.facts) :=
  fun m ρ m' ρ' _ ha => ⟨fun c => Cert.Kernel5Ideal.Val.ref (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run Cert.Kernel5Ideal.defs _ _).mono (fun _ h c => ⟨(h c).1.trans (Cert.Kernel5Ideal.Val.final m c), (h c).2⟩) (Cert.Kernel5Ideal.Value.run_blocks m ρ),
    (θ_run Cert.Reference5Ideal.defs _ _).mono (fun _ h c => ⟨(h c).1.trans (by obtain ⟨e0, e1⟩ := ha c; rw [e0, e1]), (h c).2⟩) (Cert.Reference5Ideal.Value.run m' ρ')⟩

/-- The reference of the data gradient of the attention layer's input projection runs, keeps its arguments and ends with every counter at zero. -/
theorem frame6 : Cert.quiescent_Reference6Ideal (hReference6Ideal := Cert.Reference6Ideal.Gen.facts) :=
  fun m ρ _ => (θ_run Cert.Reference6Ideal.defs _ _).mono
    (fun _ h => ⟨fun c => (h c).2, Idealize.ShloMosaic.sem_eq_zero_of_no_sems (by decide) _⟩) (Cert.Reference6Ideal.Value.run m ρ)

/-- The call's result is the reference's: the data gradient of the attention layer's input projection. -/
theorem algebraic6 : Cert.algebraic_Kernel6Ideal_Reference6Ideal
    (hKernel6Ideal := Cert.Kernel6Ideal.Gen.facts) (hReference6Ideal := Cert.Reference6Ideal.Gen.facts) :=
  fun m ρ m' ρ' _ ha => ⟨fun c => Cert.Kernel6Ideal.Val.ref (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run Cert.Kernel6Ideal.defs _ _).mono (fun _ h c => ⟨(h c).1.trans (Cert.Kernel6Ideal.Val.final m c), (h c).2⟩) (Cert.Kernel6Ideal.Value.run_blocks m ρ),
    (θ_run Cert.Reference6Ideal.defs _ _).mono (fun _ h c => ⟨(h c).1.trans (by obtain ⟨e0, e1, _⟩ := ha c; rw [e0, e1]), (h c).2⟩) (Cert.Reference6Ideal.Value.run m' ρ')⟩

/-- The reference of the attention layer's input projection runs, keeps its arguments and ends with every counter at zero. -/
theorem frame7 : Cert.quiescent_Reference7Ideal (hReference7Ideal := Cert.Reference7Ideal.Gen.facts) :=
  fun m ρ _ => (θ_run Cert.Reference7Ideal.defs _ _).mono
    (fun _ h => ⟨fun c => (h c).2, Idealize.ShloMosaic.sem_eq_zero_of_no_sems (by decide) _⟩) (Cert.Reference7Ideal.Value.run m ρ)

/-- The call's result is the reference's: the attention layer's input projection. -/
theorem algebraic7 : Cert.algebraic_Kernel7Ideal_Reference7Ideal
    (hKernel7Ideal := Cert.Kernel7Ideal.Gen.facts) (hReference7Ideal := Cert.Reference7Ideal.Gen.facts) :=
  fun m ρ m' ρ' _ ha => ⟨fun c => Cert.Kernel7Ideal.Val.ref (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    (θ_run Cert.Kernel7Ideal.defs _ _).mono (fun _ h c => ⟨(h c).1.trans (Cert.Kernel7Ideal.Val.final m c), (h c).2⟩) (Cert.Kernel7Ideal.Value.run_blocks m ρ),
    (θ_run Cert.Reference7Ideal.defs _ _).mono (fun _ h c => ⟨(h c).1.trans (by obtain ⟨e0, e1⟩ := ha c; rw [e0, e1]), (h c).2⟩) (Cert.Reference7Ideal.Value.run m' ρ')⟩

/-- The reference of the weight gradient of the scan layer's output projection runs, keeps its arguments and ends with every counter at zero. -/
theorem frame8 : Cert.quiescent_Reference8Ideal (hReference8Ideal := Cert.Reference8Ideal.Gen.facts) :=
  fun m ρ _ => (θ_run Cert.Reference8Ideal.defs _ _).mono
    (fun _ h => ⟨fun c => (h c).2, Idealize.ShloMosaic.sem_eq_zero_of_no_sems (by decide) _⟩) (Cert.Reference8Ideal.Value.run m ρ)

/-- The call's result is the reference's: the weight gradient of the scan layer's output projection. -/
theorem algebraic8 : Cert.algebraic_Kernel8Ideal_Reference8Ideal
    (hKernel8Ideal := Cert.Kernel8Ideal.Gen.facts) (hReference8Ideal := Cert.Reference8Ideal.Gen.facts) :=
  fun m ρ m' ρ' _ ha => ⟨fun c => Cert.Kernel8Ideal.Val.ref (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    (θ_run Cert.Kernel8Ideal.defs _ _).mono (fun _ h c => ⟨(h c).1.trans (Cert.Kernel8Ideal.Val.final m c), (h c).2⟩) (Cert.Kernel8Ideal.Value.run_blocks m ρ),
    (θ_run Cert.Reference8Ideal.defs _ _).mono (fun _ h c => ⟨(h c).1.trans (by obtain ⟨e0, e1⟩ := ha c; rw [e0, e1]), (h c).2⟩) (Cert.Reference8Ideal.Value.run m' ρ')⟩

/-- The reference of the data gradient of the scan layer's output projection runs, keeps its arguments and ends with every counter at zero. -/
theorem frame9 : Cert.quiescent_Reference9Ideal (hReference9Ideal := Cert.Reference9Ideal.Gen.facts) :=
  fun m ρ _ => (θ_run Cert.Reference9Ideal.defs _ _).mono
    (fun _ h => ⟨fun c => (h c).2, Idealize.ShloMosaic.sem_eq_zero_of_no_sems (by decide) _⟩) (Cert.Reference9Ideal.Value.run m ρ)

/-- The call's result is the reference's: the data gradient of the scan layer's output projection. -/
theorem algebraic9 : Cert.algebraic_Kernel9Ideal_Reference9Ideal
    (hKernel9Ideal := Cert.Kernel9Ideal.Gen.facts) (hReference9Ideal := Cert.Reference9Ideal.Gen.facts) :=
  fun m ρ m' ρ' _ ha => ⟨fun c => Cert.Kernel9Ideal.Val.ref (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run Cert.Kernel9Ideal.defs _ _).mono (fun _ h c => ⟨(h c).1.trans (Cert.Kernel9Ideal.Val.final m c), (h c).2⟩) (Cert.Kernel9Ideal.Value.run_blocks m ρ),
    (θ_run Cert.Reference9Ideal.defs _ _).mono (fun _ h c => ⟨(h c).1.trans (by obtain ⟨e0, e1, _⟩ := ha c; rw [e0, e1]), (h c).2⟩) (Cert.Reference9Ideal.Value.run m' ρ')⟩

/-- The reference of the scan layer's output projection runs, keeps its arguments and ends with every counter at zero. -/
theorem frame10 : Cert.quiescent_Reference10Ideal (hReference10Ideal := Cert.Reference10Ideal.Gen.facts) :=
  fun m ρ _ => (θ_run Cert.Reference10Ideal.defs _ _).mono
    (fun _ h => ⟨fun c => (h c).2, Idealize.ShloMosaic.sem_eq_zero_of_no_sems (by decide) _⟩) (Cert.Reference10Ideal.Value.run m ρ)

/-- The call's result is the reference's: the scan layer's output projection. -/
theorem algebraic10 : Cert.algebraic_Kernel10Ideal_Reference10Ideal
    (hKernel10Ideal := Cert.Kernel10Ideal.Gen.facts) (hReference10Ideal := Cert.Reference10Ideal.Gen.facts) :=
  fun m ρ m' ρ' _ ha => ⟨fun c => Cert.Kernel10Ideal.Val.ref (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    (θ_run Cert.Kernel10Ideal.defs _ _).mono (fun _ h c => ⟨(h c).1.trans (Cert.Kernel10Ideal.Val.final m c), (h c).2⟩) (Cert.Kernel10Ideal.Value.run_blocks m ρ),
    (θ_run Cert.Reference10Ideal.defs _ _).mono (fun _ h c => ⟨(h c).1.trans (by obtain ⟨e0, e1, e2⟩ := ha c; rw [e0, e1, e2]), (h c).2⟩) (Cert.Reference10Ideal.Value.run m' ρ')⟩

/-- The reference of the weight gradient of the attention layer's output projection runs, keeps its arguments and ends with every counter at zero. -/
theorem frame11 : Cert.quiescent_Reference11Ideal (hReference11Ideal := Cert.Reference11Ideal.Gen.facts) :=
  fun m ρ _ => (θ_run Cert.Reference11Ideal.defs _ _).mono
    (fun _ h => ⟨fun c => (h c).2, Idealize.ShloMosaic.sem_eq_zero_of_no_sems (by decide) _⟩) (Cert.Reference11Ideal.Value.run m ρ)

/-- The call's result is the reference's: the weight gradient of the attention layer's output projection. -/
theorem algebraic11 : Cert.algebraic_Kernel11Ideal_Reference11Ideal
    (hKernel11Ideal := Cert.Kernel11Ideal.Gen.facts) (hReference11Ideal := Cert.Reference11Ideal.Gen.facts) :=
  fun m ρ m' ρ' _ ha => ⟨fun c => Cert.Kernel11Ideal.Val.ref (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run Cert.Kernel11Ideal.defs _ _).mono (fun _ h c => ⟨(h c).1.trans (Cert.Kernel11Ideal.Val.final m c), (h c).2⟩) (Cert.Kernel11Ideal.Value.run_blocks m ρ),
    (θ_run Cert.Reference11Ideal.defs _ _).mono (fun _ h c => ⟨(h c).1.trans (by obtain ⟨e0, e1⟩ := ha c; rw [e0, e1]), (h c).2⟩) (Cert.Reference11Ideal.Value.run m' ρ')⟩

/-- The reference of the data gradient of the attention layer's output projection runs, keeps its arguments and ends with every counter at zero. -/
theorem frame12 : Cert.quiescent_Reference12Ideal (hReference12Ideal := Cert.Reference12Ideal.Gen.facts) :=
  fun m ρ _ => (θ_run Cert.Reference12Ideal.defs _ _).mono
    (fun _ h => ⟨fun c => (h c).2, Idealize.ShloMosaic.sem_eq_zero_of_no_sems (by decide) _⟩) (Cert.Reference12Ideal.Value.run m ρ)

/-- The call's result is the reference's: the data gradient of the attention layer's output projection. -/
theorem algebraic12 : Cert.algebraic_Kernel12Ideal_Reference12Ideal
    (hKernel12Ideal := Cert.Kernel12Ideal.Gen.facts) (hReference12Ideal := Cert.Reference12Ideal.Gen.facts) :=
  fun m ρ m' ρ' _ ha => ⟨fun c => Cert.Kernel12Ideal.Val.ref (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run Cert.Kernel12Ideal.defs _ _).mono (fun _ h c => ⟨(h c).1.trans (Cert.Kernel12Ideal.Val.final m c), (h c).2⟩) (Cert.Kernel12Ideal.Value.run_blocks m ρ),
    (θ_run Cert.Reference12Ideal.defs _ _).mono (fun _ h c => ⟨(h c).1.trans (by obtain ⟨e0, e1⟩ := ha c; rw [e0, e1]), (h c).2⟩) (Cert.Reference12Ideal.Value.run m' ρ')⟩

/-- The reference of the attention layer's output projection runs, keeps its arguments and ends with every counter at zero. -/
theorem frame13 : Cert.quiescent_Reference13Ideal (hReference13Ideal := Cert.Reference13Ideal.Gen.facts) :=
  fun m ρ _ => (θ_run Cert.Reference13Ideal.defs _ _).mono
    (fun _ h => ⟨fun c => (h c).2, Idealize.ShloMosaic.sem_eq_zero_of_no_sems (by decide) _⟩) (Cert.Reference13Ideal.Value.run m ρ)

/-- The call's result is the reference's: the attention layer's output projection. -/
theorem algebraic13 : Cert.algebraic_Kernel13Ideal_Reference13Ideal
    (hKernel13Ideal := Cert.Kernel13Ideal.Gen.facts) (hReference13Ideal := Cert.Reference13Ideal.Gen.facts) :=
  fun m ρ m' ρ' _ ha => ⟨fun c => Cert.Kernel13Ideal.Val.ref (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)),
    (θ_run Cert.Kernel13Ideal.defs _ _).mono (fun _ h c => ⟨(h c).1.trans (Cert.Kernel13Ideal.Val.final m c), (h c).2⟩) (Cert.Kernel13Ideal.Value.run_blocks m ρ),
    (θ_run Cert.Reference13Ideal.defs _ _).mono (fun _ h c => ⟨(h c).1.trans (by obtain ⟨e0, e1, e2⟩ := ha c; rw [e0, e1, e2]), (h c).2⟩) (Cert.Reference13Ideal.Value.run m' ρ')⟩

/-- The reference of the weight gradient of the scan layer's gate columns runs, keeps its arguments and ends with every counter at zero. -/
theorem frame14 : Cert.quiescent_Reference14Ideal (hReference14Ideal := Cert.Reference14Ideal.Gen.facts) :=
  fun m ρ _ => (θ_run Cert.Reference14Ideal.defs _ _).mono
    (fun _ h => ⟨fun c => (h c).2, Idealize.ShloMosaic.sem_eq_zero_of_no_sems (by decide) _⟩) (Cert.Reference14Ideal.Value.run m ρ)

/-- The call's result is the reference's: the weight gradient of the scan layer's gate columns. -/
theorem algebraic14 : Cert.algebraic_Kernel14Ideal_Reference14Ideal
    (hKernel14Ideal := Cert.Kernel14Ideal.Gen.facts) (hReference14Ideal := Cert.Reference14Ideal.Gen.facts) :=
  fun m ρ m' ρ' _ ha => ⟨fun c => Cert.Kernel14Ideal.Val.ref (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    (θ_run Cert.Kernel14Ideal.defs _ _).mono (fun _ h c => ⟨(h c).1.trans (Cert.Kernel14Ideal.Val.final m c), (h c).2⟩) (Cert.Kernel14Ideal.Value.run_blocks m ρ),
    (θ_run Cert.Reference14Ideal.defs _ _).mono (fun _ h c => ⟨(h c).1.trans (by obtain ⟨e0, e1⟩ := ha c; rw [e0, e1]), (h c).2⟩) (Cert.Reference14Ideal.Value.run m' ρ')⟩

/-- The reference of the data gradient of the scan layer's gate columns runs, keeps its arguments and ends with every counter at zero. -/
theorem frame15 : Cert.quiescent_Reference15Ideal (hReference15Ideal := Cert.Reference15Ideal.Gen.facts) :=
  fun m ρ _ => (θ_run Cert.Reference15Ideal.defs _ _).mono
    (fun _ h => ⟨fun c => (h c).2, Idealize.ShloMosaic.sem_eq_zero_of_no_sems (by decide) _⟩) (Cert.Reference15Ideal.Value.run m ρ)

/-- The call's result is the reference's: the data gradient of the scan layer's gate columns. -/
theorem algebraic15 : Cert.algebraic_Kernel15Ideal_Reference15Ideal
    (hKernel15Ideal := Cert.Kernel15Ideal.Gen.facts) (hReference15Ideal := Cert.Reference15Ideal.Gen.facts) :=
  fun m ρ m' ρ' _ ha => ⟨fun c => Cert.Kernel15Ideal.Val.ref (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    (θ_run Cert.Kernel15Ideal.defs _ _).mono (fun _ h c => ⟨(h c).1.trans (Cert.Kernel15Ideal.Val.final m c), (h c).2⟩) (Cert.Kernel15Ideal.Value.run_blocks m ρ),
    (θ_run Cert.Reference15Ideal.defs _ _).mono (fun _ h c => ⟨(h c).1.trans (by obtain ⟨e0, e1, _⟩ := ha c; rw [e0, e1]), (h c).2⟩) (Cert.Reference15Ideal.Value.run m' ρ')⟩

/-- The reference of the scan layer's gate columns runs, keeps its arguments and ends with every counter at zero. -/
theorem frame16 : Cert.quiescent_Reference16Ideal (hReference16Ideal := Cert.Reference16Ideal.Gen.facts) :=
  fun m ρ _ => (θ_run Cert.Reference16Ideal.defs _ _).mono
    (fun _ h => ⟨fun c => (h c).2, Idealize.ShloMosaic.sem_eq_zero_of_no_sems (by decide) _⟩) (Cert.Reference16Ideal.Value.run m ρ)

/-- The call's result is the reference's: the scan layer's gate columns. -/
theorem algebraic16 : Cert.algebraic_Kernel16Ideal_Reference16Ideal
    (hKernel16Ideal := Cert.Kernel16Ideal.Gen.facts) (hReference16Ideal := Cert.Reference16Ideal.Gen.facts) :=
  fun m ρ m' ρ' _ ha => ⟨fun c => Cert.Kernel16Ideal.Val.ref (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    (θ_run Cert.Kernel16Ideal.defs _ _).mono (fun _ h c => ⟨(h c).1.trans (Cert.Kernel16Ideal.Val.final m c), (h c).2⟩) (Cert.Kernel16Ideal.Value.run_blocks m ρ),
    (θ_run Cert.Reference16Ideal.defs _ _).mono (fun _ h c => ⟨(h c).1.trans (by obtain ⟨e0, e1⟩ := ha c; rw [e0, e1]), (h c).2⟩) (Cert.Reference16Ideal.Value.run m' ρ')⟩

end Cert.Prod

end
-- ==== Proof.Opt.Adam.lean ====
/- The optimiser's formulas on arrays of any shape, as the references write them. -/
module

public import proofs.«01_k».proof.Reference17Ideal
public import Idealize.ShloMosaic.Lib.Pointwise

@[expose] public section

noncomputable section

namespace Cert.Opt

open Idealize.ShloMosaic
open Cert.Reference17Ideal (S_)

variable {s : Shape} (h : S_.BroadcastsInDim s (![] : Fin 0 → Fin s.rank))

/-- An array of one number. -/
abbrev all (b : BitVec 32) : FVec Ideal s .f32 := broadcastInDim s ![] h (constant S_ .f32 b)

/-- The new first moment, of the old one and the gradient. -/
abbrev newM (a g : FVec Ideal s .f32) : FVec Ideal s .f32 := addf (mulf (all h 0x3F666666#32) a) (mulf (all h 0x3DCCCCCD#32) g)

/-- The new second moment, of the old one and the gradient. -/
abbrev newV (a g : FVec Ideal s .f32) : FVec Ideal s .f32 := addf (mulf (all h 0x3F7FBE77#32) a) (mulf (all h 0x3A83126F#32) (mulf g g))

/-- The change of the weights, of the new moments and the weights. -/
abbrev delta (a b w : FVec Ideal s .f32) : FVec Ideal s .f32 :=
  mulf (all h 0xBA83126F#32) (addf (Host.divf (Host.divf a (all h 0x3F26BD02#32))
    (addf (Host.sqrt (Host.divf b (all h 0x3C231ACC#32))) (all h 0x322BCC77#32))) (mulf (all h 0x3C23D70A#32) w))

end Cert.Opt

end
-- ==== Proof.Opt.DnWIn.lean ====
/- The optimiser step of the scan layer's input weights: the call's four results are the reference's. -/
module

public import proofs.«01_k».proof.Proof.Gen.Kernel17Ideal.Value
public import proofs.«01_k».proof.Proof.Gen.Reference17Ideal.Run
public import proofs.«01_k».proof.Proof.Opt.Adam
public import Idealize.ShloMosaic.Lib.Pointwise
public import Idealize.ShloMosaic.Lib.Pipeline.ValueKit

@[expose] public section

set_option maxRecDepth 16384

noncomputable section

namespace Cert.Kernel17Ideal.Val

open Cert.Kernel17Ideal Cert.Kernel17Ideal.Gen Idealize.ShloMosaic Idealize.ShloMosaic.TcCoe Idealize.SL.Sem Cert.Opt
open Idealize.ShloMosaic.Pipeline (Dat)
open Cert.Reference17Ideal (S_)
open Cert.Reference17Ideal.Gen (bcast_S_S4096x3088 reducesTo_S3x4096x3088_S4096x3088_d0 h_S_)

variable (m : (ℓ : Loc nD τ sig) → Buf (Elt Ideal) ℓ)

/-- The gradient: the device's own part and the others'. -/
abbrev grad (p : FVec Ideal S3x4096x3088 .bf16) (o : FVec Ideal S4096x3088 .bf16) : FVec Ideal S4096x3088 .f32 :=
  addf (extf .f32 o bitsLt_bf16_f32) (Host.reduceAdd (extf .f32 p bitsLt_bf16_f32) (constant S_ .f32 0x00000000#32) reducesTo_S3x4096x3088_S4096x3088_d0 h_S_)

/-- The index maps over the grid. -/
theorem idx : ∀ t : Fin cfg0.N, win0_0.index t = ![0, t.val, 0]
    ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- What a grid point adds up is the reference's gradient at the index's place. -/
theorem grad_eq (c : Dev nD) (t : Fin cfg0.N) (y) :
    k0_pay2 (View.ld (iblk m c 0 t) r0_0) (iblk m c 4 t) (View.ld (iblk m c 0 t) r0_2) (View.ld (iblk m c 0 t) r0_3) y
      = grad (m ((c : Thread nD τ).loc main_arg0)) (m ((c : Thread nD τ).loc main_arg4)) (((cfg0.win 5).blk t).view.emb y) := by
  pointwise [k0_pay2, grad]
  simp only [Fin.sum_univ_three, ← add_assoc]
  blk_point [iblk, V, idx t]

/-- The gradient's array is the reference's. -/
theorem final_g (c : Dev nD) : (dats m 0 c).arrAt 5 (cfgs 0).N
    = grad (m ((c : Thread nD τ).loc main_arg0)) (m ((c : Thread nD τ).loc main_arg4)) := by
  refine (dats m 0 c).arrAt_eq_of_covers 5 _ (by decide +kernel) fun t _ y => ?_
  have hg := grad_eq m c t y
  generalize grad _ _ = g at hg ⊢
  blk_simp
  rw [after0_5]
  frame_out
  exact hg

/-- The change's array is the reference's. -/
theorem final_d (c : Dev nD) : (dats m 0 c).arrAt 6 (cfgs 0).N
    = delta bcast_S_S4096x3088 (newM bcast_S_S4096x3088 (m ((c : Thread nD τ).loc main_arg2)) (grad (m ((c : Thread nD τ).loc main_arg0)) (m ((c : Thread nD τ).loc main_arg4))))
        (newV bcast_S_S4096x3088 (m ((c : Thread nD τ).loc main_arg3)) (grad (m ((c : Thread nD τ).loc main_arg0)) (m ((c : Thread nD τ).loc main_arg4))))
        (m ((c : Thread nD τ).loc main_arg1)) := by
  refine (dats m 0 c).arrAt_eq_of_covers 6 _ (by decide +kernel) fun t _ y => ?_
  have hg := grad_eq m c t y
  generalize grad _ _ = g at hg ⊢
  blk_simp
  rw [after0_6]
  frame_out
  pointwise [k0_pay1, k0_pay3, k0_pay4, k0_pay5, k0_pay6, k0_pay7, newM, newV, delta, all]
  erw [hg]
  blk_point [iblk, V, idx t]

/-- The first moment's array is the reference's. -/
theorem final_m (c : Dev nD) : (dats m 0 c).arrAt 7 (cfgs 0).N
    = newM bcast_S_S4096x3088 (m ((c : Thread nD τ).loc main_arg2)) (grad (m ((c : Thread nD τ).loc main_arg0)) (m ((c : Thread nD τ).loc main_arg4))) := by
  refine (dats m 0 c).arrAt_eq_of_covers 7 _ (by decide +kernel) fun t _ y => ?_
  have hg := grad_eq m c t y
  generalize grad _ _ = g at hg ⊢
  blk_simp
  rw [after0_7]
  frame_out
  pointwise [k0_pay3, newM, all]
  erw [hg]
  blk_point [iblk, V, idx t]

/-- The second moment's array is the reference's. -/
theorem final_v (c : Dev nD) : (dats m 0 c).arrAt 8 (cfgs 0).N
    = newV bcast_S_S4096x3088 (m ((c : Thread nD τ).loc main_arg3)) (grad (m ((c : Thread nD τ).loc main_arg0)) (m ((c : Thread nD τ).loc main_arg4))) := by
  refine (dats m 0 c).arrAt_eq_of_covers 8 _ (by decide +kernel) fun t _ y => ?_
  have hg := grad_eq m c t y
  generalize grad _ _ = g at hg ⊢
  blk_simp
  rw [after0_8]
  frame_out
  pointwise [k0_pay4, newV, all]
  erw [hg]
  blk_point [iblk, V, idx t]

end Cert.Kernel17Ideal.Val

end
-- ==== Proof.Opt.SbWIn.lean ====
/- The optimiser step of the attention layer's input weights: the call's four results are the reference's. -/
module

public import proofs.«01_k».proof.Proof.Gen.Kernel18Ideal.Value
public import proofs.«01_k».proof.Proof.Gen.Reference18Ideal.Run
public import proofs.«01_k».proof.Proof.Opt.Adam
public import Idealize.ShloMosaic.Lib.Pointwise
public import Idealize.ShloMosaic.Lib.Pipeline.ValueKit

@[expose] public section

set_option maxRecDepth 16384

noncomputable section

namespace Cert.Kernel18Ideal.Val

open Cert.Kernel18Ideal Cert.Kernel18Ideal.Gen Idealize.ShloMosaic Idealize.ShloMosaic.TcCoe Idealize.SL.Sem Cert.Opt
open Idealize.ShloMosaic.Pipeline (Dat)
open Cert.Reference18Ideal (S_)
open Cert.Reference18Ideal.Gen (bcast_S_S4096x2048 reducesTo_S7x4096x2048_S4096x2048_d0 h_S_)

variable (m : (ℓ : Loc nD τ sig) → Buf (Elt Ideal) ℓ)

/-- The gradient: the device's own part and the others'. -/
abbrev grad (p : FVec Ideal S7x4096x2048 .bf16) (o : FVec Ideal S4096x2048 .bf16) : FVec Ideal S4096x2048 .f32 :=
  addf (extf .f32 o bitsLt_bf16_f32) (Host.reduceAdd (extf .f32 p bitsLt_bf16_f32) (constant S_ .f32 0x00000000#32) reducesTo_S7x4096x2048_S4096x2048_d0 h_S_)

/-- The index maps over the grid. -/
theorem idx : ∀ t : Fin cfg0.N, win0_0.index t = ![0, t.val, 0]
    ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- What a grid point adds up is the reference's gradient at the index's place. -/
theorem grad_eq (c : Dev nD) (t : Fin cfg0.N) (y) :
    k0_pay6 (iblk m c 0 t) (iblk m c 1 t) (iblk m c 2 t) (iblk m c 3 t) (iblk m c 4 t) y
      = grad (m ((c : Thread nD τ).loc main_arg0)) (m ((c : Thread nD τ).loc main_arg4)) (((cfg0.win 5).blk t).view.emb y) := by
  pointwise [k0_pay6, k0_pay4, grad]
  simp only [Fin.sum_univ_seven, ← add_assoc]
  blk_point [iblk, V, idx t]

/-- The gradient's array is the reference's. -/
theorem final_g (c : Dev nD) : (dats m 0 c).arrAt 5 (cfgs 0).N
    = grad (m ((c : Thread nD τ).loc main_arg0)) (m ((c : Thread nD τ).loc main_arg4)) := by
  refine (dats m 0 c).arrAt_eq_of_covers 5 _ (by decide +kernel) fun t _ y => ?_
  have hg := grad_eq m c t y
  generalize grad _ _ = g at hg ⊢
  blk_simp
  rw [after0_5]
  frame_out
  exact hg

/-- The change's array is the reference's. -/
theorem final_d (c : Dev nD) : (dats m 0 c).arrAt 6 (cfgs 0).N
    = delta bcast_S_S4096x2048 (newM bcast_S_S4096x2048 (m ((c : Thread nD τ).loc main_arg2)) (grad (m ((c : Thread nD τ).loc main_arg0)) (m ((c : Thread nD τ).loc main_arg4))))
        (newV bcast_S_S4096x2048 (m ((c : Thread nD τ).loc main_arg3)) (grad (m ((c : Thread nD τ).loc main_arg0)) (m ((c : Thread nD τ).loc main_arg4))))
        (m ((c : Thread nD τ).loc main_arg1)) := by
  refine (dats m 0 c).arrAt_eq_of_covers 6 _ (by decide +kernel) fun t _ y => ?_
  have hg := grad_eq m c t y
  generalize grad _ _ = g at hg ⊢
  blk_simp
  rw [after0_6]
  frame_out
  pointwise [k0_pay1, k0_pay2, k0_pay3, k0_pay5, k0_pay7, newM, newV, delta, all]
  erw [hg]
  blk_point [iblk, V, idx t]

/-- The first moment's array is the reference's. -/
theorem final_m (c : Dev nD) : (dats m 0 c).arrAt 7 (cfgs 0).N
    = newM bcast_S_S4096x2048 (m ((c : Thread nD τ).loc main_arg2)) (grad (m ((c : Thread nD τ).loc main_arg0)) (m ((c : Thread nD τ).loc main_arg4))) := by
  refine (dats m 0 c).arrAt_eq_of_covers 7 _ (by decide +kernel) fun t _ y => ?_
  have hg := grad_eq m c t y
  generalize grad _ _ = g at hg ⊢
  blk_simp
  rw [after0_7]
  frame_out
  pointwise [k0_pay1, k0_pay5, k0_pay7, newM, all]
  erw [hg]
  blk_point [iblk, V, idx t]

/-- The second moment's array is the reference's. -/
theorem final_v (c : Dev nD) : (dats m 0 c).arrAt 8 (cfgs 0).N
    = newV bcast_S_S4096x2048 (m ((c : Thread nD τ).loc main_arg3)) (grad (m ((c : Thread nD τ).loc main_arg0)) (m ((c : Thread nD τ).loc main_arg4))) := by
  refine (dats m 0 c).arrAt_eq_of_covers 8 _ (by decide +kernel) fun t _ y => ?_
  have hg := grad_eq m c t y
  generalize grad _ _ = g at hg ⊢
  blk_simp
  rw [after0_8]
  frame_out
  pointwise [k0_pay2, newV, all]
  erw [hg]
  blk_point [iblk, V, idx t]

end Cert.Kernel18Ideal.Val

end
-- ==== Proof.Opt.DnWOut.lean ====
/- The optimiser step of the scan layer's output weights: the call's four results are the reference's. -/
module

public import proofs.«01_k».proof.Proof.Gen.Kernel19Ideal.Value
public import proofs.«01_k».proof.Proof.Gen.Reference19Ideal.Run
public import proofs.«01_k».proof.Proof.Opt.Adam
public import Idealize.ShloMosaic.Lib.Pointwise
public import Idealize.ShloMosaic.Lib.Pipeline.ValueKit

@[expose] public section

set_option maxRecDepth 16384

noncomputable section

namespace Cert.Kernel19Ideal.Val

open Cert.Kernel19Ideal Cert.Kernel19Ideal.Gen Idealize.ShloMosaic Idealize.ShloMosaic.TcCoe Idealize.SL.Sem Cert.Opt
open Idealize.ShloMosaic.Pipeline (Dat)
open Cert.Reference19Ideal (S_)
open Cert.Reference19Ideal.Gen (bcast_S_S1024x4096 reducesTo_S7x1024x4096_S1024x4096_d0 h_S_)

variable (m : (ℓ : Loc nD τ sig) → Buf (Elt Ideal) ℓ)

/-- The gradient: the device's own part and the others'. -/
abbrev grad (p : FVec Ideal S7x1024x4096 .bf16) (o : FVec Ideal S1024x4096 .bf16) : FVec Ideal S1024x4096 .f32 :=
  addf (extf .f32 o bitsLt_bf16_f32) (Host.reduceAdd (extf .f32 p bitsLt_bf16_f32) (constant S_ .f32 0x00000000#32) reducesTo_S7x1024x4096_S1024x4096_d0 h_S_)

/-- The index maps over the grid. -/
theorem idx : ∀ t : Fin cfg0.N, win0_0.index t = ![0, t.val, 0]
    ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- What a grid point adds up is the reference's gradient at the index's place. -/
theorem grad_eq (c : Dev nD) (t : Fin cfg0.N) (y) :
    k0_pay6 (iblk m c 0 t) (iblk m c 1 t) (iblk m c 2 t) (iblk m c 3 t) (iblk m c 4 t) y
      = grad (m ((c : Thread nD τ).loc main_arg0)) (m ((c : Thread nD τ).loc main_arg4)) (((cfg0.win 5).blk t).view.emb y) := by
  pointwise [k0_pay6, k0_pay4, grad]
  simp only [Fin.sum_univ_seven, ← add_assoc]
  blk_point [iblk, V, idx t]

/-- The gradient's array is the reference's. -/
theorem final_g (c : Dev nD) : (dats m 0 c).arrAt 5 (cfgs 0).N
    = grad (m ((c : Thread nD τ).loc main_arg0)) (m ((c : Thread nD τ).loc main_arg4)) := by
  refine (dats m 0 c).arrAt_eq_of_covers 5 _ (by decide +kernel) fun t _ y => ?_
  have hg := grad_eq m c t y
  generalize grad _ _ = g at hg ⊢
  blk_simp
  rw [after0_5]
  frame_out
  exact hg

/-- The change's array is the reference's. -/
theorem final_d (c : Dev nD) : (dats m 0 c).arrAt 6 (cfgs 0).N
    = delta bcast_S_S1024x4096 (newM bcast_S_S1024x4096 (m ((c : Thread nD τ).loc main_arg2)) (grad (m ((c : Thread nD τ).loc main_arg0)) (m ((c : Thread nD τ).loc main_arg4))))
        (newV bcast_S_S1024x4096 (m ((c : Thread nD τ).loc main_arg3)) (grad (m ((c : Thread nD τ).loc main_arg0)) (m ((c : Thread nD τ).loc main_arg4))))
        (m ((c : Thread nD τ).loc main_arg1)) := by
  refine (dats m 0 c).arrAt_eq_of_covers 6 _ (by decide +kernel) fun t _ y => ?_
  have hg := grad_eq m c t y
  generalize grad _ _ = g at hg ⊢
  blk_simp
  rw [after0_6]
  frame_out
  pointwise [k0_pay1, k0_pay2, k0_pay3, k0_pay5, k0_pay7, newM, newV, delta, all]
  erw [hg]
  blk_point [iblk, V, idx t]

/-- The first moment's array is the reference's. -/
theorem final_m (c : Dev nD) : (dats m 0 c).arrAt 7 (cfgs 0).N
    = newM bcast_S_S1024x4096 (m ((c : Thread nD τ).loc main_arg2)) (grad (m ((c : Thread nD τ).loc main_arg0)) (m ((c : Thread nD τ).loc main_arg4))) := by
  refine (dats m 0 c).arrAt_eq_of_covers 7 _ (by decide +kernel) fun t _ y => ?_
  have hg := grad_eq m c t y
  generalize grad _ _ = g at hg ⊢
  blk_simp
  rw [after0_7]
  frame_out
  pointwise [k0_pay1, k0_pay5, k0_pay7, newM, all]
  erw [hg]
  blk_point [iblk, V, idx t]

/-- The second moment's array is the reference's. -/
theorem final_v (c : Dev nD) : (dats m 0 c).arrAt 8 (cfgs 0).N
    = newV bcast_S_S1024x4096 (m ((c : Thread nD τ).loc main_arg3)) (grad (m ((c : Thread nD τ).loc main_arg0)) (m ((c : Thread nD τ).loc main_arg4))) := by
  refine (dats m 0 c).arrAt_eq_of_covers 8 _ (by decide +kernel) fun t _ y => ?_
  have hg := grad_eq m c t y
  generalize grad _ _ = g at hg ⊢
  blk_simp
  rw [after0_8]
  frame_out
  pointwise [k0_pay2, newV, all]
  erw [hg]
  blk_point [iblk, V, idx t]

end Cert.Kernel19Ideal.Val

end
-- ==== Proof.Opt.SbWOut.lean ====
/- The optimiser step of the attention layer's output weights: the call's four results are the reference's. -/
module

public import proofs.«01_k».proof.Proof.Gen.Kernel20Ideal.Value
public import proofs.«01_k».proof.Proof.Gen.Reference20Ideal.Run
public import proofs.«01_k».proof.Proof.Opt.Adam
public import Idealize.ShloMosaic.Lib.Pointwise
public import Idealize.ShloMosaic.Lib.Pipeline.ValueKit

@[expose] public section

set_option maxRecDepth 16384

noncomputable section

namespace Cert.Kernel20Ideal.Val

open Cert.Kernel20Ideal Cert.Kernel20Ideal.Gen Idealize.ShloMosaic Idealize.ShloMosaic.TcCoe Idealize.SL.Sem Cert.Opt
open Idealize.ShloMosaic.Pipeline (Dat)
open Cert.Reference20Ideal (S_)
open Cert.Reference20Ideal.Gen (bcast_S_S512x4096 reducesTo_S7x512x4096_S512x4096_d0 h_S_)

variable (m : (ℓ : Loc nD τ sig) → Buf (Elt Ideal) ℓ)

/-- The gradient: the device's own part and the others'. -/
abbrev grad (p : FVec Ideal S7x512x4096 .bf16) (o : FVec Ideal S512x4096 .bf16) : FVec Ideal S512x4096 .f32 :=
  addf (extf .f32 o bitsLt_bf16_f32) (Host.reduceAdd (extf .f32 p bitsLt_bf16_f32) (constant S_ .f32 0x00000000#32) reducesTo_S7x512x4096_S512x4096_d0 h_S_)

/-- The index maps over the grid. -/
theorem idx : ∀ t : Fin cfg0.N, win0_0.index t = ![0, t.val, 0]
    ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- What a grid point adds up is the reference's gradient at the index's place. -/
theorem grad_eq (c : Dev nD) (t : Fin cfg0.N) (y) :
    k0_pay6 (iblk m c 0 t) (iblk m c 1 t) (iblk m c 2 t) (iblk m c 3 t) (iblk m c 4 t) y
      = grad (m ((c : Thread nD τ).loc main_arg0)) (m ((c : Thread nD τ).loc main_arg4)) (((cfg0.win 5).blk t).view.emb y) := by
  pointwise [k0_pay6, k0_pay4, grad]
  simp only [Fin.sum_univ_seven, ← add_assoc]
  blk_point [iblk, V, idx t]

/-- The gradient's array is the reference's. -/
theorem final_g (c : Dev nD) : (dats m 0 c).arrAt 5 (cfgs 0).N
    = grad (m ((c : Thread nD τ).loc main_arg0)) (m ((c : Thread nD τ).loc main_arg4)) := by
  refine (dats m 0 c).arrAt_eq_of_covers 5 _ (by decide +kernel) fun t _ y => ?_
  have hg := grad_eq m c t y
  generalize grad _ _ = g at hg ⊢
  blk_simp
  rw [after0_5]
  frame_out
  exact hg

/-- The change's array is the reference's. -/
theorem final_d (c : Dev nD) : (dats m 0 c).arrAt 6 (cfgs 0).N
    = delta bcast_S_S512x4096 (newM bcast_S_S512x4096 (m ((c : Thread nD τ).loc main_arg2)) (grad (m ((c : Thread nD τ).loc main_arg0)) (m ((c : Thread nD τ).loc main_arg4))))
        (newV bcast_S_S512x4096 (m ((c : Thread nD τ).loc main_arg3)) (grad (m ((c : Thread nD τ).loc main_arg0)) (m ((c : Thread nD τ).loc main_arg4))))
        (m ((c : Thread nD τ).loc main_arg1)) := by
  refine (dats m 0 c).arrAt_eq_of_covers 6 _ (by decide +kernel) fun t _ y => ?_
  have hg := grad_eq m c t y
  generalize grad _ _ = g at hg ⊢
  blk_simp
  rw [after0_6]
  frame_out
  pointwise [k0_pay1, k0_pay2, k0_pay3, k0_pay5, k0_pay7, newM, newV, delta, all]
  erw [hg]
  blk_point [iblk, V, idx t]

/-- The first moment's array is the reference's. -/
theorem final_m (c : Dev nD) : (dats m 0 c).arrAt 7 (cfgs 0).N
    = newM bcast_S_S512x4096 (m ((c : Thread nD τ).loc main_arg2)) (grad (m ((c : Thread nD τ).loc main_arg0)) (m ((c : Thread nD τ).loc main_arg4))) := by
  refine (dats m 0 c).arrAt_eq_of_covers 7 _ (by decide +kernel) fun t _ y => ?_
  have hg := grad_eq m c t y
  generalize grad _ _ = g at hg ⊢
  blk_simp
  rw [after0_7]
  frame_out
  pointwise [k0_pay1, k0_pay5, k0_pay7, newM, all]
  erw [hg]
  blk_point [iblk, V, idx t]

/-- The second moment's array is the reference's. -/
theorem final_v (c : Dev nD) : (dats m 0 c).arrAt 8 (cfgs 0).N
    = newV bcast_S_S512x4096 (m ((c : Thread nD τ).loc main_arg3)) (grad (m ((c : Thread nD τ).loc main_arg0)) (m ((c : Thread nD τ).loc main_arg4))) := by
  refine (dats m 0 c).arrAt_eq_of_covers 8 _ (by decide +kernel) fun t _ y => ?_
  have hg := grad_eq m c t y
  generalize grad _ _ = g at hg ⊢
  blk_simp
  rw [after0_8]
  frame_out
  pointwise [k0_pay2, newV, all]
  erw [hg]
  blk_point [iblk, V, idx t]

end Cert.Kernel20Ideal.Val

end
-- ==== Proof.Opt.DnConv.lean ====
/- The optimiser step of the convolution's weights: the call's four results are the reference's. -/
module

public import proofs.«01_k».proof.Proof.Gen.Kernel21Ideal.Value
public import proofs.«01_k».proof.Proof.Gen.Reference21Ideal.Run
public import proofs.«01_k».proof.Proof.Opt.Adam
public import Idealize.ShloMosaic.Lib.Pointwise
public import Idealize.ShloMosaic.Lib.Pipeline.ValueKit

@[expose] public section

set_option maxRecDepth 16384

noncomputable section

namespace Cert.Kernel21Ideal.Val

open Cert.Kernel21Ideal Cert.Kernel21Ideal.Gen Idealize.ShloMosaic Idealize.ShloMosaic.TcCoe Idealize.SL.Sem Cert.Opt
open Idealize.ShloMosaic.Pipeline (Dat)
open Cert.Reference21Ideal (S_)
open Cert.Reference21Ideal.Gen (bcast_S_S4x2048 reducesTo_S8x4x2048_S4x2048_d0 h_S_)

variable (m : (ℓ : Loc nD τ sig) → Buf (Elt Ideal) ℓ)

/-- The gradient: the sum of the devices' parts. -/
abbrev grad (p : FVec Ideal S8x4x2048 .f32) : FVec Ideal S4x2048 .f32 :=
  Host.reduceAdd p (constant S_ .f32 0x00000000#32) reducesTo_S8x4x2048_S4x2048_d0 h_S_

/-- The index maps over the grid. -/
theorem idx : ∀ t : Fin cfg0.N, win0_0.index t = ![0, t.val, 0]
    ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a grid point adds up is the reference's gradient at the index's place. -/
theorem grad_eq (c : Dev nD) (t : Fin cfg0.N) (y) :
    k0_pay3 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
      = grad (m ((c : Thread nD τ).loc main_arg0)) (((cfg0.win 4).blk t).view.emb y) := by
  pointwise [k0_pay3, grad]
  simp only [Fin.sum_univ_eight, ← add_assoc]
  blk_point [iblk, V, idx t]

/-- The gradient's array is the reference's. -/
theorem final_g (c : Dev nD) : (dats m 0 c).arrAt 4 (cfgs 0).N
    = grad (m ((c : Thread nD τ).loc main_arg0)) := by
  refine (dats m 0 c).arrAt_eq_of_covers 4 _ (by decide +kernel) fun t _ y => ?_
  have hg := grad_eq m c t y
  generalize grad _ = g at hg ⊢
  blk_simp
  rw [after0_4]
  frame_out
  unfold k0_pay5
  exact hg

/-- The change's array is the reference's. -/
theorem final_d (c : Dev nD) : (dats m 0 c).arrAt 5 (cfgs 0).N
    = delta bcast_S_S4x2048 (newM bcast_S_S4x2048 (m ((c : Thread nD τ).loc main_arg2)) (grad (m ((c : Thread nD τ).loc main_arg0))))
        (newV bcast_S_S4x2048 (m ((c : Thread nD τ).loc main_arg3)) (grad (m ((c : Thread nD τ).loc main_arg0))))
        (m ((c : Thread nD τ).loc main_arg1)) := by
  refine (dats m 0 c).arrAt_eq_of_covers 5 _ (by decide +kernel) fun t _ y => ?_
  have hg := grad_eq m c t y
  generalize grad _ = g at hg ⊢
  blk_simp
  rw [after0_5]
  frame_out
  pointwise [k0_pay1, k0_pay2, k0_pay4, k0_pay5, k0_pay6, newM, newV, delta, all]
  erw [hg]
  blk_point [iblk, V, idx t]

/-- The first moment's array is the reference's. -/
theorem final_m (c : Dev nD) : (dats m 0 c).arrAt 6 (cfgs 0).N
    = newM bcast_S_S4x2048 (m ((c : Thread nD τ).loc main_arg2)) (grad (m ((c : Thread nD τ).loc main_arg0))) := by
  refine (dats m 0 c).arrAt_eq_of_covers 6 _ (by decide +kernel) fun t _ y => ?_
  have hg := grad_eq m c t y
  generalize grad _ = g at hg ⊢
  blk_simp
  rw [after0_6]
  frame_out
  pointwise [k0_pay4, k0_pay6, newM, all]
  erw [hg]
  blk_point [iblk, V, idx t]

/-- The second moment's array is the reference's. -/
theorem final_v (c : Dev nD) : (dats m 0 c).arrAt 7 (cfgs 0).N
    = newV bcast_S_S4x2048 (m ((c : Thread nD τ).loc main_arg3)) (grad (m ((c : Thread nD τ).loc main_arg0))) := by
  refine (dats m 0 c).arrAt_eq_of_covers 7 _ (by decide +kernel) fun t _ y => ?_
  have hg := grad_eq m c t y
  generalize grad _ = g at hg ⊢
  blk_simp
  rw [after0_7]
  frame_out
  pointwise [k0_pay1, k0_pay5, newV, all]
  erw [hg]
  blk_point [iblk, V, idx t]

end Cert.Kernel21Ideal.Val

end
-- ==== Proof.Opt.Meta.lean ====
/- The optimiser step of the leading tokens: the call's four results are the reference's. -/
module

public import proofs.«01_k».proof.Proof.Gen.Kernel22Ideal.Value
public import proofs.«01_k».proof.Proof.Gen.Reference22Ideal.Run
public import proofs.«01_k».proof.Proof.Opt.Adam
public import Idealize.ShloMosaic.Lib.Pointwise
public import Idealize.ShloMosaic.Lib.Pipeline.ValueKit

@[expose] public section

set_option maxRecDepth 16384

noncomputable section

namespace Cert.Kernel22Ideal.Val

open Cert.Kernel22Ideal Cert.Kernel22Ideal.Gen Idealize.ShloMosaic Idealize.ShloMosaic.TcCoe Idealize.SL.Sem Cert.Opt
open Idealize.ShloMosaic.Pipeline (Dat)
open Cert.Reference22Ideal (S_)
open Cert.Reference22Ideal.Gen (bcast_S_S16x512 reducesTo_S8x16x512_S16x512_d0 h_S_)

variable (m : (ℓ : Loc nD τ sig) → Buf (Elt Ideal) ℓ)

/-- The gradient: the sum of the devices' parts. -/
abbrev grad (p : FVec Ideal S8x16x512 .f32) : FVec Ideal S16x512 .f32 :=
  Host.reduceAdd p (constant S_ .f32 0x00000000#32) reducesTo_S8x16x512_S16x512_d0 h_S_

/-- The index maps over the grid. -/
theorem idx : ∀ t : Fin cfg0.N, win0_0.index t = ![0, t.val, 0]
    ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a grid point adds up is the reference's gradient at the index's place. -/
theorem grad_eq (c : Dev nD) (t : Fin cfg0.N) (y) :
    k0_pay3 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
      = grad (m ((c : Thread nD τ).loc main_arg0)) (((cfg0.win 4).blk t).view.emb y) := by
  pointwise [k0_pay3, grad]
  simp only [Fin.sum_univ_eight, ← add_assoc]
  blk_point [iblk, V, idx t]

/-- The gradient's array is the reference's. -/
theorem final_g (c : Dev nD) : (dats m 0 c).arrAt 4 (cfgs 0).N
    = grad (m ((c : Thread nD τ).loc main_arg0)) := by
  refine (dats m 0 c).arrAt_eq_of_covers 4 _ (by decide +kernel) fun t _ y => ?_
  have hg := grad_eq m c t y
  generalize grad _ = g at hg ⊢
  blk_simp
  rw [after0_4]
  frame_out
  unfold k0_pay5
  exact hg

/-- The change's array is the reference's. -/
theorem final_d (c : Dev nD) : (dats m 0 c).arrAt 5 (cfgs 0).N
    = delta bcast_S_S16x512 (newM bcast_S_S16x512 (m ((c : Thread nD τ).loc main_arg2)) (grad (m ((c : Thread nD τ).loc main_arg0))))
        (newV bcast_S_S16x512 (m ((c : Thread nD τ).loc main_arg3)) (grad (m ((c : Thread nD τ).loc main_arg0))))
        (m ((c : Thread nD τ).loc main_arg1)) := by
  refine (dats m 0 c).arrAt_eq_of_covers 5 _ (by decide +kernel) fun t _ y => ?_
  have hg := grad_eq m c t y
  generalize grad _ = g at hg ⊢
  blk_simp
  rw [after0_5]
  frame_out
  pointwise [k0_pay1, k0_pay2, k0_pay4, k0_pay5, k0_pay6, newM, newV, delta, all]
  erw [hg]
  blk_point [iblk, V, idx t]

/-- The first moment's array is the reference's. -/
theorem final_m (c : Dev nD) : (dats m 0 c).arrAt 6 (cfgs 0).N
    = newM bcast_S_S16x512 (m ((c : Thread nD τ).loc main_arg2)) (grad (m ((c : Thread nD τ).loc main_arg0))) := by
  refine (dats m 0 c).arrAt_eq_of_covers 6 _ (by decide +kernel) fun t _ y => ?_
  have hg := grad_eq m c t y
  generalize grad _ = g at hg ⊢
  blk_simp
  rw [after0_6]
  frame_out
  pointwise [k0_pay4, k0_pay6, newM, all]
  erw [hg]
  blk_point [iblk, V, idx t]

/-- The second moment's array is the reference's. -/
theorem final_v (c : Dev nD) : (dats m 0 c).arrAt 7 (cfgs 0).N
    = newV bcast_S_S16x512 (m ((c : Thread nD τ).loc main_arg3)) (grad (m ((c : Thread nD τ).loc main_arg0))) := by
  refine (dats m 0 c).arrAt_eq_of_covers 7 _ (by decide +kernel) fun t _ y => ?_
  have hg := grad_eq m c t y
  generalize grad _ = g at hg ⊢
  blk_simp
  rw [after0_7]
  frame_out
  pointwise [k0_pay1, k0_pay5, newV, all]
  erw [hg]
  blk_point [iblk, V, idx t]

end Cert.Kernel22Ideal.Val

end
-- ==== Proof.Opt.SbNorm.lean ====
/- The optimiser step of the attention layer's norm weights: the call's four results are the reference's. -/
module

public import proofs.«01_k».proof.Proof.Gen.Kernel23Ideal.Value
public import proofs.«01_k».proof.Proof.Gen.Reference23Ideal.Run
public import proofs.«01_k».proof.Proof.Opt.Adam
public import Idealize.ShloMosaic.Lib.Pointwise
public import Idealize.ShloMosaic.Lib.Pipeline.ValueKit

@[expose] public section

set_option maxRecDepth 16384

noncomputable section

namespace Cert.Kernel23Ideal.Val

open Cert.Kernel23Ideal Cert.Kernel23Ideal.Gen Idealize.ShloMosaic Idealize.ShloMosaic.TcCoe Idealize.SL.Sem Cert.Opt
open Idealize.ShloMosaic.Pipeline (Dat)
open Cert.Reference23Ideal (S_)
open Cert.Reference23Ideal.Gen (bcast_S_S1x512 reducesTo_S8x1x512_S1x512_d0 h_S_)

variable (m : (ℓ : Loc nD τ sig) → Buf (Elt Ideal) ℓ)

/-- The gradient: the sum of the devices' parts. -/
abbrev grad (p : FVec Ideal S8x1x512 .f32) : FVec Ideal S1x512 .f32 :=
  Host.reduceAdd p (constant S_ .f32 0x00000000#32) reducesTo_S8x1x512_S1x512_d0 h_S_

/-- The index maps over the grid. -/
theorem idx : ∀ t : Fin cfg0.N, win0_0.index t = ![0, t.val, 0]
    ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a grid point adds up is the reference's gradient at the index's place. -/
theorem grad_eq (c : Dev nD) (t : Fin cfg0.N) (y) :
    k0_pay3 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
      = grad (m ((c : Thread nD τ).loc main_arg0)) (((cfg0.win 4).blk t).view.emb y) := by
  pointwise [k0_pay3, grad]
  simp only [Fin.sum_univ_eight, ← add_assoc]
  blk_point [iblk, V, idx t]

/-- The gradient's array is the reference's. -/
theorem final_g (c : Dev nD) : (dats m 0 c).arrAt 4 (cfgs 0).N
    = grad (m ((c : Thread nD τ).loc main_arg0)) := by
  refine (dats m 0 c).arrAt_eq_of_covers 4 _ (by decide +kernel) fun t _ y => ?_
  have hg := grad_eq m c t y
  generalize grad _ = g at hg ⊢
  blk_simp
  rw [after0_4]
  frame_out
  unfold k0_pay5
  exact hg

/-- The change's array is the reference's. -/
theorem final_d (c : Dev nD) : (dats m 0 c).arrAt 5 (cfgs 0).N
    = delta bcast_S_S1x512 (newM bcast_S_S1x512 (m ((c : Thread nD τ).loc main_arg2)) (grad (m ((c : Thread nD τ).loc main_arg0))))
        (newV bcast_S_S1x512 (m ((c : Thread nD τ).loc main_arg3)) (grad (m ((c : Thread nD τ).loc main_arg0))))
        (m ((c : Thread nD τ).loc main_arg1)) := by
  refine (dats m 0 c).arrAt_eq_of_covers 5 _ (by decide +kernel) fun t _ y => ?_
  have hg := grad_eq m c t y
  generalize grad _ = g at hg ⊢
  blk_simp
  rw [after0_5]
  frame_out
  pointwise [k0_pay1, k0_pay2, k0_pay4, k0_pay5, k0_pay6, newM, newV, delta, all]
  erw [hg]
  blk_point [iblk, V, idx t]

/-- The first moment's array is the reference's. -/
theorem final_m (c : Dev nD) : (dats m 0 c).arrAt 6 (cfgs 0).N
    = newM bcast_S_S1x512 (m ((c : Thread nD τ).loc main_arg2)) (grad (m ((c : Thread nD τ).loc main_arg0))) := by
  refine (dats m 0 c).arrAt_eq_of_covers 6 _ (by decide +kernel) fun t _ y => ?_
  have hg := grad_eq m c t y
  generalize grad _ = g at hg ⊢
  blk_simp
  rw [after0_6]
  frame_out
  pointwise [k0_pay4, k0_pay6, newM, all]
  erw [hg]
  blk_point [iblk, V, idx t]

/-- The second moment's array is the reference's. -/
theorem final_v (c : Dev nD) : (dats m 0 c).arrAt 7 (cfgs 0).N
    = newV bcast_S_S1x512 (m ((c : Thread nD τ).loc main_arg3)) (grad (m ((c : Thread nD τ).loc main_arg0))) := by
  refine (dats m 0 c).arrAt_eq_of_covers 7 _ (by decide +kernel) fun t _ y => ?_
  have hg := grad_eq m c t y
  generalize grad _ = g at hg ⊢
  blk_simp
  rw [after0_7]
  frame_out
  pointwise [k0_pay1, k0_pay5, newV, all]
  erw [hg]
  blk_point [iblk, V, idx t]

end Cert.Kernel23Ideal.Val

end
-- ==== Proof.Opt.Replicated.lean ====
/- The optimiser step of the weights every device keeps whole: the call's four results are the reference's. -/
module

public import proofs.«01_k».proof.Proof.Gen.Kernel24Ideal.Value
public import proofs.«01_k».proof.Proof.Gen.Reference24Ideal.Run
public import proofs.«01_k».proof.Proof.Opt.Adam
public import Idealize.ShloMosaic.Lib.Pointwise
public import Idealize.ShloMosaic.Lib.Pipeline.ValueKit

@[expose] public section

set_option maxRecDepth 16384

noncomputable section

namespace Cert.Kernel24Ideal.Val

open Cert.Kernel24Ideal Cert.Kernel24Ideal.Gen Idealize.ShloMosaic Idealize.ShloMosaic.TcCoe Idealize.SL.Sem Cert.Opt
open Idealize.ShloMosaic.Pipeline (Dat)
open Cert.Reference24Ideal (S_)
open Cert.Reference24Ideal.Gen (bcast_S_S1x4608 reducesTo_S8x1x4608_S1x4608_d0 h_S_)

variable (m : (ℓ : Loc nD τ sig) → Buf (Elt Ideal) ℓ)

/-- The gradient: the sum of the devices' parts. -/
abbrev grad (p : FVec Ideal S8x1x4608 .f32) : FVec Ideal S1x4608 .f32 :=
  Host.reduceAdd p (constant S_ .f32 0x00000000#32) reducesTo_S8x1x4608_S1x4608_d0 h_S_

/-- The index maps over the grid. -/
theorem idx : ∀ t : Fin cfg0.N, win0_0.index t = ![0, t.val, 0]
    ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a grid point adds up is the reference's gradient at the index's place. -/
theorem grad_eq (c : Dev nD) (t : Fin cfg0.N) (y) :
    k0_pay3 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
      = grad (m ((c : Thread nD τ).loc main_arg0)) (((cfg0.win 4).blk t).view.emb y) := by
  pointwise [k0_pay3, grad]
  simp only [Fin.sum_univ_eight, ← add_assoc]
  blk_point [iblk, V, idx t]

/-- The gradient's array is the reference's. -/
theorem final_g (c : Dev nD) : (dats m 0 c).arrAt 4 (cfgs 0).N
    = grad (m ((c : Thread nD τ).loc main_arg0)) := by
  refine (dats m 0 c).arrAt_eq_of_covers 4 _ (by decide +kernel) fun t _ y => ?_
  have hg := grad_eq m c t y
  generalize grad _ = g at hg ⊢
  blk_simp
  rw [after0_4]
  frame_out
  unfold k0_pay5
  exact hg

/-- The change's array is the reference's. -/
theorem final_d (c : Dev nD) : (dats m 0 c).arrAt 5 (cfgs 0).N
    = delta bcast_S_S1x4608 (newM bcast_S_S1x4608 (m ((c : Thread nD τ).loc main_arg2)) (grad (m ((c : Thread nD τ).loc main_arg0))))
        (newV bcast_S_S1x4608 (m ((c : Thread nD τ).loc main_arg3)) (grad (m ((c : Thread nD τ).loc main_arg0))))
        (m ((c : Thread nD τ).loc main_arg1)) := by
  refine (dats m 0 c).arrAt_eq_of_covers 5 _ (by decide +kernel) fun t _ y => ?_
  have hg := grad_eq m c t y
  generalize grad _ = g at hg ⊢
  blk_simp
  rw [after0_5]
  frame_out
  pointwise [k0_pay1, k0_pay2, k0_pay4, k0_pay5, k0_pay6, newM, newV, delta, all]
  erw [hg]
  blk_point [iblk, V, idx t]

/-- The first moment's array is the reference's. -/
theorem final_m (c : Dev nD) : (dats m 0 c).arrAt 6 (cfgs 0).N
    = newM bcast_S_S1x4608 (m ((c : Thread nD τ).loc main_arg2)) (grad (m ((c : Thread nD τ).loc main_arg0))) := by
  refine (dats m 0 c).arrAt_eq_of_covers 6 _ (by decide +kernel) fun t _ y => ?_
  have hg := grad_eq m c t y
  generalize grad _ = g at hg ⊢
  blk_simp
  rw [after0_6]
  frame_out
  pointwise [k0_pay4, k0_pay6, newM, all]
  erw [hg]
  blk_point [iblk, V, idx t]

/-- The second moment's array is the reference's. -/
theorem final_v (c : Dev nD) : (dats m 0 c).arrAt 7 (cfgs 0).N
    = newV bcast_S_S1x4608 (m ((c : Thread nD τ).loc main_arg3)) (grad (m ((c : Thread nD τ).loc main_arg0))) := by
  refine (dats m 0 c).arrAt_eq_of_covers 7 _ (by decide +kernel) fun t _ y => ?_
  have hg := grad_eq m c t y
  generalize grad _ = g at hg ⊢
  blk_simp
  rw [after0_7]
  frame_out
  pointwise [k0_pay1, k0_pay5, newV, all]
  erw [hg]
  blk_point [iblk, V, idx t]

end Cert.Kernel24Ideal.Val

end
-- ==== Proof.Opt.Claims.lean ====
/- The claims of the optimiser's calls: each reference's frame, and each call's four results equal to its reference's. -/
module

public import proofs.«01_k».proof.Defs
public import proofs.«01_k».proof.Proof.Opt.DnWIn
public import proofs.«01_k».proof.Proof.Opt.SbWIn
public import proofs.«01_k».proof.Proof.Opt.DnWOut
public import proofs.«01_k».proof.Proof.Opt.SbWOut
public import proofs.«01_k».proof.Proof.Opt.DnConv
public import proofs.«01_k».proof.Proof.Opt.Meta
public import proofs.«01_k».proof.Proof.Opt.SbNorm
public import proofs.«01_k».proof.Proof.Opt.Replicated

@[expose] public section

noncomputable section

namespace Cert.Opt

open Idealize.ShloMosaic Idealize.SL.Sem

/-- The reference of the optimiser step of the scan layer's input weights runs, keeps its arguments and ends with every counter at zero. -/
theorem frame17 : Cert.quiescent_Reference17Ideal (hReference17Ideal := Cert.Reference17Ideal.Gen.facts) :=
  fun m ρ _ => (θ_run Cert.Reference17Ideal.defs _ _).mono
    (fun _ h => ⟨fun c => (h c).2.2.2.2, Idealize.ShloMosaic.sem_eq_zero_of_no_sems (by decide) _⟩) (Cert.Reference17Ideal.Value.run m ρ)

/-- The call's four results are the reference's: the optimiser step of the scan layer's input weights. -/
theorem algebraic17 : Cert.algebraic_Kernel17Ideal_Reference17Ideal
    (hKernel17Ideal := Cert.Kernel17Ideal.Gen.facts) (hReference17Ideal := Cert.Reference17Ideal.Gen.facts) :=
  fun m ρ m' ρ' _ ha => ⟨fun c => (Cert.Kernel17Ideal.Val.grad (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg4))),
    fun c => delta Cert.Reference17Ideal.Gen.bcast_S_S4096x3088 (newM Cert.Reference17Ideal.Gen.bcast_S_S4096x3088 (m ((c.tc : Thread Cert.Kernel17Ideal.nD Cert.Kernel17Ideal.τ).loc Cert.Kernel17Ideal.main_arg2)) (Cert.Kernel17Ideal.Val.grad (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg4)))) (newV Cert.Reference17Ideal.Gen.bcast_S_S4096x3088 (m ((c.tc : Thread Cert.Kernel17Ideal.nD Cert.Kernel17Ideal.τ).loc Cert.Kernel17Ideal.main_arg3)) (Cert.Kernel17Ideal.Val.grad (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg4)))) (m ((c.tc : Thread Cert.Kernel17Ideal.nD Cert.Kernel17Ideal.τ).loc Cert.Kernel17Ideal.main_arg1)),
    fun c => newM Cert.Reference17Ideal.Gen.bcast_S_S4096x3088 (m ((c.tc : Thread Cert.Kernel17Ideal.nD Cert.Kernel17Ideal.τ).loc Cert.Kernel17Ideal.main_arg2)) (Cert.Kernel17Ideal.Val.grad (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg4))),
    fun c => newV Cert.Reference17Ideal.Gen.bcast_S_S4096x3088 (m ((c.tc : Thread Cert.Kernel17Ideal.nD Cert.Kernel17Ideal.τ).loc Cert.Kernel17Ideal.main_arg3)) (Cert.Kernel17Ideal.Val.grad (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg4))),
    (θ_run Cert.Kernel17Ideal.defs _ _).mono (fun _ h c => by
      obtain ⟨h0, h1, h2, h3, h⟩ := h c
      exact ⟨h0.trans (Cert.Kernel17Ideal.Val.final_g m c), h1.trans (Cert.Kernel17Ideal.Val.final_d m c), h2.trans (Cert.Kernel17Ideal.Val.final_m m c), h3.trans (Cert.Kernel17Ideal.Val.final_v m c), h⟩) (Cert.Kernel17Ideal.Value.run_blocks m ρ),
    (θ_run Cert.Reference17Ideal.defs _ _).mono (fun _ h c => by
      obtain ⟨h0, h1, h2, h3, h⟩ := h c
      obtain ⟨e0, e1, e2, e3, e4⟩ := ha c
      exact ⟨h0.trans (by rw [e0, e4] <;> rfl), h1.trans (by rw [e0, e1, e2, e3, e4] <;> rfl), h2.trans (by rw [e0, e4, e2] <;> rfl), h3.trans (by rw [e0, e4, e3] <;> rfl), h⟩) (Cert.Reference17Ideal.Value.run m' ρ')⟩

/-- The reference of the optimiser step of the attention layer's input weights runs, keeps its arguments and ends with every counter at zero. -/
theorem frame18 : Cert.quiescent_Reference18Ideal (hReference18Ideal := Cert.Reference18Ideal.Gen.facts) :=
  fun m ρ _ => (θ_run Cert.Reference18Ideal.defs _ _).mono
    (fun _ h => ⟨fun c => (h c).2.2.2.2, Idealize.ShloMosaic.sem_eq_zero_of_no_sems (by decide) _⟩) (Cert.Reference18Ideal.Value.run m ρ)

/-- The call's four results are the reference's: the optimiser step of the attention layer's input weights. -/
theorem algebraic18 : Cert.algebraic_Kernel18Ideal_Reference18Ideal
    (hKernel18Ideal := Cert.Kernel18Ideal.Gen.facts) (hReference18Ideal := Cert.Reference18Ideal.Gen.facts) :=
  fun m ρ m' ρ' _ ha => ⟨fun c => (Cert.Kernel18Ideal.Val.grad (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg4))),
    fun c => delta Cert.Reference18Ideal.Gen.bcast_S_S4096x2048 (newM Cert.Reference18Ideal.Gen.bcast_S_S4096x2048 (m ((c.tc : Thread Cert.Kernel18Ideal.nD Cert.Kernel18Ideal.τ).loc Cert.Kernel18Ideal.main_arg2)) (Cert.Kernel18Ideal.Val.grad (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg4)))) (newV Cert.Reference18Ideal.Gen.bcast_S_S4096x2048 (m ((c.tc : Thread Cert.Kernel18Ideal.nD Cert.Kernel18Ideal.τ).loc Cert.Kernel18Ideal.main_arg3)) (Cert.Kernel18Ideal.Val.grad (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg4)))) (m ((c.tc : Thread Cert.Kernel18Ideal.nD Cert.Kernel18Ideal.τ).loc Cert.Kernel18Ideal.main_arg1)),
    fun c => newM Cert.Reference18Ideal.Gen.bcast_S_S4096x2048 (m ((c.tc : Thread Cert.Kernel18Ideal.nD Cert.Kernel18Ideal.τ).loc Cert.Kernel18Ideal.main_arg2)) (Cert.Kernel18Ideal.Val.grad (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg4))),
    fun c => newV Cert.Reference18Ideal.Gen.bcast_S_S4096x2048 (m ((c.tc : Thread Cert.Kernel18Ideal.nD Cert.Kernel18Ideal.τ).loc Cert.Kernel18Ideal.main_arg3)) (Cert.Kernel18Ideal.Val.grad (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg4))),
    (θ_run Cert.Kernel18Ideal.defs _ _).mono (fun _ h c => by
      obtain ⟨h0, h1, h2, h3, h⟩ := h c
      exact ⟨h0.trans (Cert.Kernel18Ideal.Val.final_g m c), h1.trans (Cert.Kernel18Ideal.Val.final_d m c), h2.trans (Cert.Kernel18Ideal.Val.final_m m c), h3.trans (Cert.Kernel18Ideal.Val.final_v m c), h⟩) (Cert.Kernel18Ideal.Value.run_blocks m ρ),
    (θ_run Cert.Reference18Ideal.defs _ _).mono (fun _ h c => by
      obtain ⟨h0, h1, h2, h3, h⟩ := h c
      obtain ⟨e0, e1, e2, e3, e4⟩ := ha c
      exact ⟨h0.trans (by rw [e0, e4] <;> rfl), h1.trans (by rw [e0, e1, e2, e3, e4] <;> rfl), h2.trans (by rw [e0, e4, e2] <;> rfl), h3.trans (by rw [e0, e4, e3] <;> rfl), h⟩) (Cert.Reference18Ideal.Value.run m' ρ')⟩

/-- The reference of the optimiser step of the scan layer's output weights runs, keeps its arguments and ends with every counter at zero. -/
theorem frame19 : Cert.quiescent_Reference19Ideal (hReference19Ideal := Cert.Reference19Ideal.Gen.facts) :=
  fun m ρ _ => (θ_run Cert.Reference19Ideal.defs _ _).mono
    (fun _ h => ⟨fun c => (h c).2.2.2.2, Idealize.ShloMosaic.sem_eq_zero_of_no_sems (by decide) _⟩) (Cert.Reference19Ideal.Value.run m ρ)

/-- The call's four results are the reference's: the optimiser step of the scan layer's output weights. -/
theorem algebraic19 : Cert.algebraic_Kernel19Ideal_Reference19Ideal
    (hKernel19Ideal := Cert.Kernel19Ideal.Gen.facts) (hReference19Ideal := Cert.Reference19Ideal.Gen.facts) :=
  fun m ρ m' ρ' _ ha => ⟨fun c => (Cert.Kernel19Ideal.Val.grad (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg4))),
    fun c => delta Cert.Reference19Ideal.Gen.bcast_S_S1024x4096 (newM Cert.Reference19Ideal.Gen.bcast_S_S1024x4096 (m ((c.tc : Thread Cert.Kernel19Ideal.nD Cert.Kernel19Ideal.τ).loc Cert.Kernel19Ideal.main_arg2)) (Cert.Kernel19Ideal.Val.grad (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg4)))) (newV Cert.Reference19Ideal.Gen.bcast_S_S1024x4096 (m ((c.tc : Thread Cert.Kernel19Ideal.nD Cert.Kernel19Ideal.τ).loc Cert.Kernel19Ideal.main_arg3)) (Cert.Kernel19Ideal.Val.grad (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg4)))) (m ((c.tc : Thread Cert.Kernel19Ideal.nD Cert.Kernel19Ideal.τ).loc Cert.Kernel19Ideal.main_arg1)),
    fun c => newM Cert.Reference19Ideal.Gen.bcast_S_S1024x4096 (m ((c.tc : Thread Cert.Kernel19Ideal.nD Cert.Kernel19Ideal.τ).loc Cert.Kernel19Ideal.main_arg2)) (Cert.Kernel19Ideal.Val.grad (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg4))),
    fun c => newV Cert.Reference19Ideal.Gen.bcast_S_S1024x4096 (m ((c.tc : Thread Cert.Kernel19Ideal.nD Cert.Kernel19Ideal.τ).loc Cert.Kernel19Ideal.main_arg3)) (Cert.Kernel19Ideal.Val.grad (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg4))),
    (θ_run Cert.Kernel19Ideal.defs _ _).mono (fun _ h c => by
      obtain ⟨h0, h1, h2, h3, h⟩ := h c
      exact ⟨h0.trans (Cert.Kernel19Ideal.Val.final_g m c), h1.trans (Cert.Kernel19Ideal.Val.final_d m c), h2.trans (Cert.Kernel19Ideal.Val.final_m m c), h3.trans (Cert.Kernel19Ideal.Val.final_v m c), h⟩) (Cert.Kernel19Ideal.Value.run_blocks m ρ),
    (θ_run Cert.Reference19Ideal.defs _ _).mono (fun _ h c => by
      obtain ⟨h0, h1, h2, h3, h⟩ := h c
      obtain ⟨e0, e1, e2, e3, e4⟩ := ha c
      exact ⟨h0.trans (by rw [e0, e4] <;> rfl), h1.trans (by rw [e0, e1, e2, e3, e4] <;> rfl), h2.trans (by rw [e0, e4, e2] <;> rfl), h3.trans (by rw [e0, e4, e3] <;> rfl), h⟩) (Cert.Reference19Ideal.Value.run m' ρ')⟩

/-- The reference of the optimiser step of the attention layer's output weights runs, keeps its arguments and ends with every counter at zero. -/
theorem frame20 : Cert.quiescent_Reference20Ideal (hReference20Ideal := Cert.Reference20Ideal.Gen.facts) :=
  fun m ρ _ => (θ_run Cert.Reference20Ideal.defs _ _).mono
    (fun _ h => ⟨fun c => (h c).2.2.2.2, Idealize.ShloMosaic.sem_eq_zero_of_no_sems (by decide) _⟩) (Cert.Reference20Ideal.Value.run m ρ)

/-- The call's four results are the reference's: the optimiser step of the attention layer's output weights. -/
theorem algebraic20 : Cert.algebraic_Kernel20Ideal_Reference20Ideal
    (hKernel20Ideal := Cert.Kernel20Ideal.Gen.facts) (hReference20Ideal := Cert.Reference20Ideal.Gen.facts) :=
  fun m ρ m' ρ' _ ha => ⟨fun c => (Cert.Kernel20Ideal.Val.grad (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg4))),
    fun c => delta Cert.Reference20Ideal.Gen.bcast_S_S512x4096 (newM Cert.Reference20Ideal.Gen.bcast_S_S512x4096 (m ((c.tc : Thread Cert.Kernel20Ideal.nD Cert.Kernel20Ideal.τ).loc Cert.Kernel20Ideal.main_arg2)) (Cert.Kernel20Ideal.Val.grad (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg4)))) (newV Cert.Reference20Ideal.Gen.bcast_S_S512x4096 (m ((c.tc : Thread Cert.Kernel20Ideal.nD Cert.Kernel20Ideal.τ).loc Cert.Kernel20Ideal.main_arg3)) (Cert.Kernel20Ideal.Val.grad (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg4)))) (m ((c.tc : Thread Cert.Kernel20Ideal.nD Cert.Kernel20Ideal.τ).loc Cert.Kernel20Ideal.main_arg1)),
    fun c => newM Cert.Reference20Ideal.Gen.bcast_S_S512x4096 (m ((c.tc : Thread Cert.Kernel20Ideal.nD Cert.Kernel20Ideal.τ).loc Cert.Kernel20Ideal.main_arg2)) (Cert.Kernel20Ideal.Val.grad (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg4))),
    fun c => newV Cert.Reference20Ideal.Gen.bcast_S_S512x4096 (m ((c.tc : Thread Cert.Kernel20Ideal.nD Cert.Kernel20Ideal.τ).loc Cert.Kernel20Ideal.main_arg3)) (Cert.Kernel20Ideal.Val.grad (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg4))),
    (θ_run Cert.Kernel20Ideal.defs _ _).mono (fun _ h c => by
      obtain ⟨h0, h1, h2, h3, h⟩ := h c
      exact ⟨h0.trans (Cert.Kernel20Ideal.Val.final_g m c), h1.trans (Cert.Kernel20Ideal.Val.final_d m c), h2.trans (Cert.Kernel20Ideal.Val.final_m m c), h3.trans (Cert.Kernel20Ideal.Val.final_v m c), h⟩) (Cert.Kernel20Ideal.Value.run_blocks m ρ),
    (θ_run Cert.Reference20Ideal.defs _ _).mono (fun _ h c => by
      obtain ⟨h0, h1, h2, h3, h⟩ := h c
      obtain ⟨e0, e1, e2, e3, e4⟩ := ha c
      exact ⟨h0.trans (by rw [e0, e4] <;> rfl), h1.trans (by rw [e0, e1, e2, e3, e4] <;> rfl), h2.trans (by rw [e0, e4, e2] <;> rfl), h3.trans (by rw [e0, e4, e3] <;> rfl), h⟩) (Cert.Reference20Ideal.Value.run m' ρ')⟩

/-- The reference of the optimiser step of the convolution's weights runs, keeps its arguments and ends with every counter at zero. -/
theorem frame21 : Cert.quiescent_Reference21Ideal (hReference21Ideal := Cert.Reference21Ideal.Gen.facts) :=
  fun m ρ _ => (θ_run Cert.Reference21Ideal.defs _ _).mono
    (fun _ h => ⟨fun c => (h c).2.2.2.2, Idealize.ShloMosaic.sem_eq_zero_of_no_sems (by decide) _⟩) (Cert.Reference21Ideal.Value.run m ρ)

/-- The call's four results are the reference's: the optimiser step of the convolution's weights. -/
theorem algebraic21 : Cert.algebraic_Kernel21Ideal_Reference21Ideal
    (hKernel21Ideal := Cert.Kernel21Ideal.Gen.facts) (hReference21Ideal := Cert.Reference21Ideal.Gen.facts) :=
  fun m ρ m' ρ' _ ha => ⟨fun c => (Cert.Kernel21Ideal.Val.grad (m ((c.tc : Thread Cert.Kernel21Ideal.nD Cert.Kernel21Ideal.τ).loc Cert.Kernel21Ideal.main_arg0))),
    fun c => delta Cert.Reference21Ideal.Gen.bcast_S_S4x2048 (newM Cert.Reference21Ideal.Gen.bcast_S_S4x2048 (m ((c.tc : Thread Cert.Kernel21Ideal.nD Cert.Kernel21Ideal.τ).loc Cert.Kernel21Ideal.main_arg2)) (Cert.Kernel21Ideal.Val.grad (m ((c.tc : Thread Cert.Kernel21Ideal.nD Cert.Kernel21Ideal.τ).loc Cert.Kernel21Ideal.main_arg0)))) (newV Cert.Reference21Ideal.Gen.bcast_S_S4x2048 (m ((c.tc : Thread Cert.Kernel21Ideal.nD Cert.Kernel21Ideal.τ).loc Cert.Kernel21Ideal.main_arg3)) (Cert.Kernel21Ideal.Val.grad (m ((c.tc : Thread Cert.Kernel21Ideal.nD Cert.Kernel21Ideal.τ).loc Cert.Kernel21Ideal.main_arg0)))) (m ((c.tc : Thread Cert.Kernel21Ideal.nD Cert.Kernel21Ideal.τ).loc Cert.Kernel21Ideal.main_arg1)),
    fun c => newM Cert.Reference21Ideal.Gen.bcast_S_S4x2048 (m ((c.tc : Thread Cert.Kernel21Ideal.nD Cert.Kernel21Ideal.τ).loc Cert.Kernel21Ideal.main_arg2)) (Cert.Kernel21Ideal.Val.grad (m ((c.tc : Thread Cert.Kernel21Ideal.nD Cert.Kernel21Ideal.τ).loc Cert.Kernel21Ideal.main_arg0))),
    fun c => newV Cert.Reference21Ideal.Gen.bcast_S_S4x2048 (m ((c.tc : Thread Cert.Kernel21Ideal.nD Cert.Kernel21Ideal.τ).loc Cert.Kernel21Ideal.main_arg3)) (Cert.Kernel21Ideal.Val.grad (m ((c.tc : Thread Cert.Kernel21Ideal.nD Cert.Kernel21Ideal.τ).loc Cert.Kernel21Ideal.main_arg0))),
    (θ_run Cert.Kernel21Ideal.defs _ _).mono (fun _ h c => by
      obtain ⟨h0, h1, h2, h3, h⟩ := h c
      exact ⟨h0.trans (Cert.Kernel21Ideal.Val.final_g m c), h1.trans (Cert.Kernel21Ideal.Val.final_d m c), h2.trans (Cert.Kernel21Ideal.Val.final_m m c), h3.trans (Cert.Kernel21Ideal.Val.final_v m c), h⟩) (Cert.Kernel21Ideal.Value.run_blocks m ρ),
    (θ_run Cert.Reference21Ideal.defs _ _).mono (fun _ h c => by
      obtain ⟨h0, h1, h2, h3, h⟩ := h c
      obtain ⟨e0, e1, e2, e3⟩ := ha c
      exact ⟨h0.trans (by rw [e0] <;> rfl), h1.trans (by rw [e0, e1, e2, e3] <;> rfl), h2.trans (by rw [e0, e2] <;> rfl), h3.trans (by rw [e0, e3] <;> rfl), h⟩) (Cert.Reference21Ideal.Value.run m' ρ')⟩

/-- The reference of the optimiser step of the leading tokens runs, keeps its arguments and ends with every counter at zero. -/
theorem frame22 : Cert.quiescent_Reference22Ideal (hReference22Ideal := Cert.Reference22Ideal.Gen.facts) :=
  fun m ρ _ => (θ_run Cert.Reference22Ideal.defs _ _).mono
    (fun _ h => ⟨fun c => (h c).2.2.2.2, Idealize.ShloMosaic.sem_eq_zero_of_no_sems (by decide) _⟩) (Cert.Reference22Ideal.Value.run m ρ)

/-- The call's four results are the reference's: the optimiser step of the leading tokens. -/
theorem algebraic22 : Cert.algebraic_Kernel22Ideal_Reference22Ideal
    (hKernel22Ideal := Cert.Kernel22Ideal.Gen.facts) (hReference22Ideal := Cert.Reference22Ideal.Gen.facts) :=
  fun m ρ m' ρ' _ ha => ⟨fun c => (Cert.Kernel22Ideal.Val.grad (m ((c.tc : Thread Cert.Kernel22Ideal.nD Cert.Kernel22Ideal.τ).loc Cert.Kernel22Ideal.main_arg0))),
    fun c => delta Cert.Reference22Ideal.Gen.bcast_S_S16x512 (newM Cert.Reference22Ideal.Gen.bcast_S_S16x512 (m ((c.tc : Thread Cert.Kernel22Ideal.nD Cert.Kernel22Ideal.τ).loc Cert.Kernel22Ideal.main_arg2)) (Cert.Kernel22Ideal.Val.grad (m ((c.tc : Thread Cert.Kernel22Ideal.nD Cert.Kernel22Ideal.τ).loc Cert.Kernel22Ideal.main_arg0)))) (newV Cert.Reference22Ideal.Gen.bcast_S_S16x512 (m ((c.tc : Thread Cert.Kernel22Ideal.nD Cert.Kernel22Ideal.τ).loc Cert.Kernel22Ideal.main_arg3)) (Cert.Kernel22Ideal.Val.grad (m ((c.tc : Thread Cert.Kernel22Ideal.nD Cert.Kernel22Ideal.τ).loc Cert.Kernel22Ideal.main_arg0)))) (m ((c.tc : Thread Cert.Kernel22Ideal.nD Cert.Kernel22Ideal.τ).loc Cert.Kernel22Ideal.main_arg1)),
    fun c => newM Cert.Reference22Ideal.Gen.bcast_S_S16x512 (m ((c.tc : Thread Cert.Kernel22Ideal.nD Cert.Kernel22Ideal.τ).loc Cert.Kernel22Ideal.main_arg2)) (Cert.Kernel22Ideal.Val.grad (m ((c.tc : Thread Cert.Kernel22Ideal.nD Cert.Kernel22Ideal.τ).loc Cert.Kernel22Ideal.main_arg0))),
    fun c => newV Cert.Reference22Ideal.Gen.bcast_S_S16x512 (m ((c.tc : Thread Cert.Kernel22Ideal.nD Cert.Kernel22Ideal.τ).loc Cert.Kernel22Ideal.main_arg3)) (Cert.Kernel22Ideal.Val.grad (m ((c.tc : Thread Cert.Kernel22Ideal.nD Cert.Kernel22Ideal.τ).loc Cert.Kernel22Ideal.main_arg0))),
    (θ_run Cert.Kernel22Ideal.defs _ _).mono (fun _ h c => by
      obtain ⟨h0, h1, h2, h3, h⟩ := h c
      exact ⟨h0.trans (Cert.Kernel22Ideal.Val.final_g m c), h1.trans (Cert.Kernel22Ideal.Val.final_d m c), h2.trans (Cert.Kernel22Ideal.Val.final_m m c), h3.trans (Cert.Kernel22Ideal.Val.final_v m c), h⟩) (Cert.Kernel22Ideal.Value.run_blocks m ρ),
    (θ_run Cert.Reference22Ideal.defs _ _).mono (fun _ h c => by
      obtain ⟨h0, h1, h2, h3, h⟩ := h c
      obtain ⟨e0, e1, e2, e3⟩ := ha c
      exact ⟨h0.trans (by rw [e0] <;> rfl), h1.trans (by rw [e0, e1, e2, e3] <;> rfl), h2.trans (by rw [e0, e2] <;> rfl), h3.trans (by rw [e0, e3] <;> rfl), h⟩) (Cert.Reference22Ideal.Value.run m' ρ')⟩

/-- The reference of the optimiser step of the attention layer's norm weights runs, keeps its arguments and ends with every counter at zero. -/
theorem frame23 : Cert.quiescent_Reference23Ideal (hReference23Ideal := Cert.Reference23Ideal.Gen.facts) :=
  fun m ρ _ => (θ_run Cert.Reference23Ideal.defs _ _).mono
    (fun _ h => ⟨fun c => (h c).2.2.2.2, Idealize.ShloMosaic.sem_eq_zero_of_no_sems (by decide) _⟩) (Cert.Reference23Ideal.Value.run m ρ)

/-- The call's four results are the reference's: the optimiser step of the attention layer's norm weights. -/
theorem algebraic23 : Cert.algebraic_Kernel23Ideal_Reference23Ideal
    (hKernel23Ideal := Cert.Kernel23Ideal.Gen.facts) (hReference23Ideal := Cert.Reference23Ideal.Gen.facts) :=
  fun m ρ m' ρ' _ ha => ⟨fun c => (Cert.Kernel23Ideal.Val.grad (m ((c.tc : Thread Cert.Kernel23Ideal.nD Cert.Kernel23Ideal.τ).loc Cert.Kernel23Ideal.main_arg0))),
    fun c => delta Cert.Reference23Ideal.Gen.bcast_S_S1x512 (newM Cert.Reference23Ideal.Gen.bcast_S_S1x512 (m ((c.tc : Thread Cert.Kernel23Ideal.nD Cert.Kernel23Ideal.τ).loc Cert.Kernel23Ideal.main_arg2)) (Cert.Kernel23Ideal.Val.grad (m ((c.tc : Thread Cert.Kernel23Ideal.nD Cert.Kernel23Ideal.τ).loc Cert.Kernel23Ideal.main_arg0)))) (newV Cert.Reference23Ideal.Gen.bcast_S_S1x512 (m ((c.tc : Thread Cert.Kernel23Ideal.nD Cert.Kernel23Ideal.τ).loc Cert.Kernel23Ideal.main_arg3)) (Cert.Kernel23Ideal.Val.grad (m ((c.tc : Thread Cert.Kernel23Ideal.nD Cert.Kernel23Ideal.τ).loc Cert.Kernel23Ideal.main_arg0)))) (m ((c.tc : Thread Cert.Kernel23Ideal.nD Cert.Kernel23Ideal.τ).loc Cert.Kernel23Ideal.main_arg1)),
    fun c => newM Cert.Reference23Ideal.Gen.bcast_S_S1x512 (m ((c.tc : Thread Cert.Kernel23Ideal.nD Cert.Kernel23Ideal.τ).loc Cert.Kernel23Ideal.main_arg2)) (Cert.Kernel23Ideal.Val.grad (m ((c.tc : Thread Cert.Kernel23Ideal.nD Cert.Kernel23Ideal.τ).loc Cert.Kernel23Ideal.main_arg0))),
    fun c => newV Cert.Reference23Ideal.Gen.bcast_S_S1x512 (m ((c.tc : Thread Cert.Kernel23Ideal.nD Cert.Kernel23Ideal.τ).loc Cert.Kernel23Ideal.main_arg3)) (Cert.Kernel23Ideal.Val.grad (m ((c.tc : Thread Cert.Kernel23Ideal.nD Cert.Kernel23Ideal.τ).loc Cert.Kernel23Ideal.main_arg0))),
    (θ_run Cert.Kernel23Ideal.defs _ _).mono (fun _ h c => by
      obtain ⟨h0, h1, h2, h3, h⟩ := h c
      exact ⟨h0.trans (Cert.Kernel23Ideal.Val.final_g m c), h1.trans (Cert.Kernel23Ideal.Val.final_d m c), h2.trans (Cert.Kernel23Ideal.Val.final_m m c), h3.trans (Cert.Kernel23Ideal.Val.final_v m c), h⟩) (Cert.Kernel23Ideal.Value.run_blocks m ρ),
    (θ_run Cert.Reference23Ideal.defs _ _).mono (fun _ h c => by
      obtain ⟨h0, h1, h2, h3, h⟩ := h c
      obtain ⟨e0, e1, e2, e3⟩ := ha c
      exact ⟨h0.trans (by rw [e0] <;> rfl), h1.trans (by rw [e0, e1, e2, e3] <;> rfl), h2.trans (by rw [e0, e2] <;> rfl), h3.trans (by rw [e0, e3] <;> rfl), h⟩) (Cert.Reference23Ideal.Value.run m' ρ')⟩

/-- The reference of the optimiser step of the weights every device keeps whole runs, keeps its arguments and ends with every counter at zero. -/
theorem frame24 : Cert.quiescent_Reference24Ideal (hReference24Ideal := Cert.Reference24Ideal.Gen.facts) :=
  fun m ρ _ => (θ_run Cert.Reference24Ideal.defs _ _).mono
    (fun _ h => ⟨fun c => (h c).2.2.2.2, Idealize.ShloMosaic.sem_eq_zero_of_no_sems (by decide) _⟩) (Cert.Reference24Ideal.Value.run m ρ)

/-- The call's four results are the reference's: the optimiser step of the weights every device keeps whole. -/
theorem algebraic24 : Cert.algebraic_Kernel24Ideal_Reference24Ideal
    (hKernel24Ideal := Cert.Kernel24Ideal.Gen.facts) (hReference24Ideal := Cert.Reference24Ideal.Gen.facts) :=
  fun m ρ m' ρ' _ ha => ⟨fun c => (Cert.Kernel24Ideal.Val.grad (m ((c.tc : Thread Cert.Kernel24Ideal.nD Cert.Kernel24Ideal.τ).loc Cert.Kernel24Ideal.main_arg0))),
    fun c => delta Cert.Reference24Ideal.Gen.bcast_S_S1x4608 (newM Cert.Reference24Ideal.Gen.bcast_S_S1x4608 (m ((c.tc : Thread Cert.Kernel24Ideal.nD Cert.Kernel24Ideal.τ).loc Cert.Kernel24Ideal.main_arg2)) (Cert.Kernel24Ideal.Val.grad (m ((c.tc : Thread Cert.Kernel24Ideal.nD Cert.Kernel24Ideal.τ).loc Cert.Kernel24Ideal.main_arg0)))) (newV Cert.Reference24Ideal.Gen.bcast_S_S1x4608 (m ((c.tc : Thread Cert.Kernel24Ideal.nD Cert.Kernel24Ideal.τ).loc Cert.Kernel24Ideal.main_arg3)) (Cert.Kernel24Ideal.Val.grad (m ((c.tc : Thread Cert.Kernel24Ideal.nD Cert.Kernel24Ideal.τ).loc Cert.Kernel24Ideal.main_arg0)))) (m ((c.tc : Thread Cert.Kernel24Ideal.nD Cert.Kernel24Ideal.τ).loc Cert.Kernel24Ideal.main_arg1)),
    fun c => newM Cert.Reference24Ideal.Gen.bcast_S_S1x4608 (m ((c.tc : Thread Cert.Kernel24Ideal.nD Cert.Kernel24Ideal.τ).loc Cert.Kernel24Ideal.main_arg2)) (Cert.Kernel24Ideal.Val.grad (m ((c.tc : Thread Cert.Kernel24Ideal.nD Cert.Kernel24Ideal.τ).loc Cert.Kernel24Ideal.main_arg0))),
    fun c => newV Cert.Reference24Ideal.Gen.bcast_S_S1x4608 (m ((c.tc : Thread Cert.Kernel24Ideal.nD Cert.Kernel24Ideal.τ).loc Cert.Kernel24Ideal.main_arg3)) (Cert.Kernel24Ideal.Val.grad (m ((c.tc : Thread Cert.Kernel24Ideal.nD Cert.Kernel24Ideal.τ).loc Cert.Kernel24Ideal.main_arg0))),
    (θ_run Cert.Kernel24Ideal.defs _ _).mono (fun _ h c => by
      obtain ⟨h0, h1, h2, h3, h⟩ := h c
      exact ⟨h0.trans (Cert.Kernel24Ideal.Val.final_g m c), h1.trans (Cert.Kernel24Ideal.Val.final_d m c), h2.trans (Cert.Kernel24Ideal.Val.final_m m c), h3.trans (Cert.Kernel24Ideal.Val.final_v m c), h⟩) (Cert.Kernel24Ideal.Value.run_blocks m ρ),
    (θ_run Cert.Reference24Ideal.defs _ _).mono (fun _ h c => by
      obtain ⟨h0, h1, h2, h3, h⟩ := h c
      obtain ⟨e0, e1, e2, e3⟩ := ha c
      exact ⟨h0.trans (by rw [e0] <;> rfl), h1.trans (by rw [e0, e1, e2, e3] <;> rfl), h2.trans (by rw [e0, e2] <;> rfl), h3.trans (by rw [e0, e3] <;> rfl), h⟩) (Cert.Reference24Ideal.Value.run m' ρ')⟩

end Cert.Opt

end
-- ==== Proof.Norm.Scale.lean ====
/- Sums and products of extended reals with a real factor, and the constants of the norm and of the loss. -/
module

public import Idealize.ShloMosaic.Lib.Pointwise

@[expose] public section

noncomputable section

namespace Cert.Norm

open Idealize.ShloMosaic

/-- The number of columns. -/
theorem width : Ideal.ofBits .f32 0x45800000#32 = ((4096 : ℝ) : EReal) := by
  simp [Ideal.ofBits, Ideal.ieee, -EReal.coe_mul]; norm_num

/-- The number of columns of a head. -/
theorem head_width : Ideal.ofBits .f32 0x43000000#32 = ((128 : ℝ) : EReal) := by
  simp [Ideal.ofBits, Ideal.ieee, -EReal.coe_mul]; norm_num

/-- The inverse of the stream's width. -/
theorem width_inv : Ideal.ofBits .f32 0x39800000#32 = ((1 / 4096 : ℝ) : EReal) := by
  simp [Ideal.ofBits, Ideal.ieee, -EReal.coe_mul]; norm_num

/-- Half of its inverse. -/
theorem half_width_inv : Ideal.ofBits .f32 0x39000000#32 = ((1 / 8192 : ℝ) : EReal) := by
  simp [Ideal.ofBits, Ideal.ieee, -EReal.coe_mul]; norm_num

/-- One half. -/
theorem half : Ideal.ofBits .f32 0x3F000000#32 = ((1 / 2 : ℝ) : EReal) := by
  simp [Ideal.ofBits, Ideal.ieee, -EReal.coe_mul]; norm_num

/-- Minus one half. -/
theorem neg_half : Ideal.ofBits .f32 0xBF000000#32 = ((-(1 / 2) : ℝ) : EReal) := by
  simp [Ideal.ofBits, Ideal.ieee, -EReal.coe_mul, -EReal.coe_neg]; norm_num

/-- Two. -/
theorem two : Ideal.ofBits .f32 0x40000000#32 = ((2 : ℝ) : EReal) := by
  simp [Ideal.ofBits, Ideal.ieee, -EReal.coe_mul]; norm_num

/-- The norm's small addend is positive. -/
theorem eps_pos : 0 < Ideal.ofBits .f32 0x358637BD#32 := by
  have : Ideal.ofBits .f32 0x358637BD#32 = ((8796093 * (2 : ℝ) ^ (-43 : ℤ) : ℝ) : EReal) := by
    simp [Ideal.ofBits, Ideal.ieee, -EReal.coe_mul]
  rw [this]
  exact EReal.coe_pos.mpr (by positivity)

/-- Dividing by a real number other than zero is multiplying by its inverse. -/
theorem div_real (x : EReal) (c : ℝ) (h : c ≠ 0) : Ideal.div x (c : EReal) = x * ((c⁻¹ : ℝ) : EReal) := by
  unfold Ideal.div
  rw [if_neg (by exact_mod_cast h), EReal.coe_inv]

/-- A real factor that is not negative goes into a sum. -/
theorem mul_sum_real {ι : Type*} (s : Finset ι) (c : ℝ) (h : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr h) (EReal.coe_ne_top c), ih]

/-- The reciprocal square root of a positive number is a real number `q` that is not negative, and divided by the
    number it is the cube of `q`. -/
theorem rsqrt_pos {s : EReal} (h : 0 < s) :
    ∃ q : ℝ, 0 ≤ q ∧ Ideal.rsqrt s = (q : EReal) ∧ Ideal.div (Ideal.rsqrt s) s = ((q * q * q : ℝ) : EReal) := by
  induction s with
  | bot => exact absurd h (by simp)
  | top => exact ⟨0, le_refl _, by simp, by simp [Ideal.div]⟩
  | coe a =>
    have ha : 0 < a := EReal.coe_pos.mp h
    refine ⟨(Real.sqrt a)⁻¹, by positivity, ?_, ?_⟩
    · rw [Ideal.rsqrt_coe, if_neg (not_lt.mpr ha.le), if_neg ha.ne']
    · rw [Ideal.rsqrt_coe, if_neg (not_lt.mpr ha.le), if_neg ha.ne', div_real _ _ ha.ne', ← EReal.coe_mul]
      congr 1
      have hs : Real.sqrt a * Real.sqrt a = a := Real.mul_self_sqrt ha.le
      have hi : a⁻¹ = (Real.sqrt a)⁻¹ * (Real.sqrt a)⁻¹ := by rw [← mul_inv, hs]
      rw [hi, mul_assoc]

/-- A square is not negative. -/
theorem sq_nonneg (x : EReal) : 0 ≤ x * x := by
  induction x with
  | bot => simp
  | top => simp
  | coe a => rw [← EReal.coe_mul]; exact EReal.coe_nonneg.mpr (mul_self_nonneg a)

/-- The mean of the squares of a row, with the small addend, is positive. -/
theorem mean_pos {n : ℕ} (x : Fin n → EReal) :
    0 < Ideal.div (∑ k, x k * x k) (Ideal.ofBits .f32 0x45800000#32) + Ideal.ofBits .f32 0x358637BD#32 := by
  rw [width, div_real _ _ (by norm_num)]
  refine lt_of_lt_of_le eps_pos (le_add_of_nonneg_left (mul_nonneg (Finset.sum_nonneg fun k _ => sq_nonneg _) ?_))
  exact EReal.coe_nonneg.mpr (by norm_num)

/-- The same over the width of a head. -/
theorem mean_pos_head {n : ℕ} (x : Fin n → EReal) :
    0 < Ideal.div (∑ k, x k * x k) (Ideal.ofBits .f32 0x43000000#32) + Ideal.ofBits .f32 0x358637BD#32 := by
  rw [head_width, div_real _ _ (by norm_num)]
  refine lt_of_lt_of_le eps_pos (le_add_of_nonneg_left (mul_nonneg (Finset.sum_nonneg fun k _ => sq_nonneg _) ?_))
  exact EReal.coe_nonneg.mpr (by norm_num)

/-- The gradient of a row's entry: the kernel's form of it is the chain rule's through the reciprocal square root. -/
theorem dx_eq_of {n : ℕ} (N : ℝ) (hN : 0 < N) (W : EReal) (hW : W = (N : EReal)) (x b : Fin n → EReal) (s a y : EReal) (hs : 0 < s) :
    Ideal.rsqrt s * (a - y * Ideal.rsqrt s
        * Ideal.div (∑ k, b k * (x k * Ideal.rsqrt s)) W)
      = a * Ideal.rsqrt s
        + y * Ideal.div ((∑ k, x k * b k) * (Ideal.ofBits .f32 0xBF000000#32 * Ideal.div (Ideal.rsqrt s) s)) W
        + Ideal.div ((∑ k, x k * b k) * (Ideal.ofBits .f32 0xBF000000#32 * Ideal.div (Ideal.rsqrt s) s)) W * y := by
  obtain ⟨q, hq, hr, hd⟩ := rsqrt_pos hs
  rw [hd, hr, hW, neg_half, div_real _ _ hN.ne', div_real _ _ hN.ne']
  have hT : ∑ k, b k * (x k * (q : EReal)) = (q : EReal) * ∑ k, x k * b k := by
    rw [mul_sum_real _ q hq]
    exact Finset.sum_congr rfl fun k _ => by ac_rfl
  rw [hT]
  generalize (∑ k, x k * b k) = T
  rw [sub_eq_add_neg, EReal.left_distrib_of_nonneg_of_ne_top (EReal.coe_nonneg.mpr hq) (EReal.coe_ne_top q), add_assoc,
    mul_comm (q : EReal) a]
  congr 1
  obtain ⟨g, hg⟩ : ∃ g : ℝ, g = q * q * q * N⁻¹ / 2 := ⟨_, rfl⟩
  have hg0 : 0 ≤ g := by rw [hg]; positivity
  have e1 : (q : EReal) * -(y * (q : EReal) * ((q : EReal) * T * ((N⁻¹ : ℝ) : EReal))) = -(y * T * ((g + g : ℝ) : EReal)) := by
    rw [mul_neg]
    congr 1
    have : ((g + g : ℝ) : EReal) = (q : EReal) * q * q * ((N⁻¹ : ℝ) : EReal) := by
      rw [← EReal.coe_mul, ← EReal.coe_mul, ← EReal.coe_mul]
      congr 1
      rw [hg]; ring
    rw [this]
    ac_rfl
  have e2 : y * (T * (((-(1 / 2) : ℝ) : EReal) * ((q * q * q : ℝ) : EReal)) * ((N⁻¹ : ℝ) : EReal)) = -(y * T * (g : EReal)) := by
    rw [← mul_neg, ← EReal.coe_neg]
    have : ((-g : ℝ) : EReal) = ((-(1 / 2) : ℝ) : EReal) * ((q * q * q : ℝ) : EReal) * ((N⁻¹ : ℝ) : EReal) := by
      rw [← EReal.coe_mul, ← EReal.coe_mul]
      congr 1
      rw [hg]; ring
    rw [this]
    ac_rfl
  rw [mul_comm (T * _ * _) y, e1, e2, EReal.coe_add,
    EReal.left_distrib_of_nonneg (EReal.coe_nonneg.mpr hg0) (EReal.coe_nonneg.mpr hg0)]
  generalize y * T * (g : EReal) = v
  induction v with
  | bot => simp
  | top => simp
  | coe v => rw [← EReal.coe_add, ← EReal.coe_neg, ← EReal.coe_neg, ← EReal.coe_add]; congr 1; ring

/-- The same over the width of the stream. -/
theorem dx_eq {n : ℕ} (x b : Fin n → EReal) (s a y : EReal) (hs : 0 < s) :
    Ideal.rsqrt s * (a - y * Ideal.rsqrt s
        * Ideal.div (∑ k, b k * (x k * Ideal.rsqrt s)) (Ideal.ofBits .f32 0x45800000#32))
      = a * Ideal.rsqrt s
        + y * Ideal.div ((∑ k, x k * b k) * (Ideal.ofBits .f32 0xBF000000#32 * Ideal.div (Ideal.rsqrt s) s)) (Ideal.ofBits .f32 0x45800000#32)
        + Ideal.div ((∑ k, x k * b k) * (Ideal.ofBits .f32 0xBF000000#32 * Ideal.div (Ideal.rsqrt s) s)) (Ideal.ofBits .f32 0x45800000#32) * y :=
  dx_eq_of 4096 (by norm_num) _ width x b s a y hs

/-- The same over the width of a head. -/
theorem dx_head {n : ℕ} (x b : Fin n → EReal) (s a y : EReal) (hs : 0 < s) :
    Ideal.rsqrt s * (a - y * Ideal.rsqrt s
        * Ideal.div (∑ k, b k * (x k * Ideal.rsqrt s)) (Ideal.ofBits .f32 0x43000000#32))
      = a * Ideal.rsqrt s
        + y * Ideal.div ((∑ k, x k * b k) * (Ideal.ofBits .f32 0xBF000000#32 * Ideal.div (Ideal.rsqrt s) s)) (Ideal.ofBits .f32 0x43000000#32)
        + Ideal.div ((∑ k, x k * b k) * (Ideal.ofBits .f32 0xBF000000#32 * Ideal.div (Ideal.rsqrt s) s)) (Ideal.ofBits .f32 0x43000000#32) * y :=
  dx_eq_of 128 (by norm_num) _ head_width x b s a y hs

/-- The loss's gradient: the two constant factors are one. -/
theorem dloss_eq (e : EReal) :
    e * Ideal.ofBits .f32 0x39800000#32
      = Ideal.div (Ideal.ofBits .f32 0x3F000000#32) (Ideal.ofBits .f32 0x45800000#32) * (Ideal.ofBits .f32 0x40000000#32 * e) := by
  rw [width_inv, half, width, two, div_real _ _ (by norm_num), ← mul_assoc, ← EReal.coe_mul, ← EReal.coe_mul, mul_comm]
  congr 2
  norm_num

/-- The loss's factors: half the mean of a row's squares is the sum times one factor. -/
theorem loss_eq {n : ℕ} (f : Fin n → EReal) :
    Ideal.ofBits .f32 0x39000000#32 * ∑ i, f i
      = Ideal.ofBits .f32 0x3F000000#32 * ∑ i, Ideal.div (f i) (Ideal.ofBits .f32 0x45800000#32) := by
  rw [half_width_inv, half, width, mul_sum_real _ _ (by norm_num), mul_sum_real _ _ (by norm_num)]
  refine Finset.sum_congr rfl fun i _ => ?_
  rw [div_real _ _ (by norm_num), mul_comm (f i), ← mul_assoc, ← EReal.coe_mul]
  congr 2
  norm_num

end Cert.Norm

end
-- ==== Proof.Norm.LossHead.lean ====
/- The loss head: the device's part of the loss and the loss's gradient are the reference's. -/
module

public import proofs.«01_k».proof.Proof.Gen.Kernel25Ideal.Value
public import proofs.«01_k».proof.Proof.Gen.Reference25Ideal.Run
public import proofs.«01_k».proof.Proof.Norm.Scale
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel25Ideal.Val

open Cert.Kernel25Ideal Cert.Kernel25Ideal.Gen Idealize.ShloMosaic Idealize.ShloMosaic.TcCoe Idealize.SL.Sem Cert.Norm
open Idealize.ShloMosaic.Pipeline (Dat)

variable (m : (ℓ : Loc nD τ sig) → Buf (Elt Ideal) ℓ)

section ref
open Cert.Reference25Ideal Cert.Reference25Ideal.Gen

/-- The error of the stream's rows after the padding. -/
abbrev err (h : FVec Ideal S4224x4096 .f32) (y : FVec Ideal S4096x4096 .f32) : FVec Ideal S4096x4096 .f32 :=
  subf (extractStridedSlice S4096x4096 ![128, 0] h slices_S4224x4096_S4096x4096_128_0) y

/-- The reference's part of the loss. -/
abbrev refL (h : FVec Ideal S4224x4096 .f32) (y : FVec Ideal S4096x4096 .f32) : FVec Ideal S1x1 .f32 :=
  shapeCast _ (mulf (constant S_ .f32 0x3F000000#32) (Host.reduceAdd (Host.divf (Host.reduceAdd (mulf (err h y) (err h y))
      (constant S_ .f32 0x00000000#32) reducesTo_S4096x4096_S4096_d1 h_S_) (broadcastInDim S4096 ![] bcast_S_S4096 (constant S_ .f32 0x45800000#32)))
    (constant S_ .f32 0x00000000#32) reducesTo_S4096_S_d0 h_S_)) shapeCasts_S_S1x1

/-- The reference's gradient of the loss. -/
abbrev refH (h : FVec Ideal S4224x4096 .f32) (y : FVec Ideal S4096x4096 .f32) : FVec Ideal S4224x4096 .f32 :=
  pad S4224x4096 ![128, 0] ![0, 0] ![0, 0] (mulf (broadcastInDim S4096x4096 ![0] bcast_S4096_S4096x4096_0 (Host.divf
      (broadcastInDim S4096 ![] bcast_S_S4096 (mulf (constant S_ .f32 0x3F000000#32) (constant S_ .f32 0x3F800000#32)))
      (broadcastInDim S4096 ![] bcast_S_S4096 (constant S_ .f32 0x45800000#32))))
    (mulf (broadcastInDim S4096x4096 ![] bcast_S_S4096x4096 (constant S_ .f32 0x40000000#32)) (err h y)))
    (constant S_ .f32 0x00000000#32) pads_S4096x4096_S4224x4096_12800_000 h_S_

/-- The reference's gradient of the loss, at the products' format. -/
abbrev refB (h : FVec Ideal S4224x4096 .f32) (y : FVec Ideal S4096x4096 .f32) : FVec Ideal S4224x4096 .bf16 :=
  truncf .bf16 (refH h y) Cert.Reference25Ideal.Gen.bitsLt_bf16_f32

end ref

/-- The index maps and the coordinate over the grid. -/
theorem idx : ∀ t : Fin cfg0.N, win0_0.index t = ![t.val, 0] ∧ win0_1.index t = ![t.val - 1, 0] ∧ win0_2.index t = ![0, 0]
    ∧ win0_3.index t = ![t.val, 0] ∧ win0_4.index t = ![t.val, 0] :=
  (by decide +kernel : ∀ t : Fin grid0.N, _)

/-- The first grid point is the padding; the others are rows of the error. -/
theorem past : ∀ t : Fin cfg0.N, Scalar.cmpi .sge (BitVec.ofNat 32 (grid0.coords t 0).val) 1#32 = if t.val = 0 then 0#1 else 1#1 :=
  (by decide +kernel : ∀ t : Fin grid0.N, _)

/-- A grid point's error. -/
theorem err_eq (t : Fin cfg0.N) (h y : Vec Ideal S128x4096 .f32) (j) :
    k0_pay1 (grid0.coords t) h y j = if t.val = 0 then (0 : EReal) else h j - y j := by
  have e := past t
  unfold k0_pay1
  simp only [e]
  split <;> pointwise

/-- The block of the gradient that every grid point leaves. -/
theorem out3 (c : Dev nD) (t : Fin cfg0.N) :
    (outsAt0 m c t.val t.isLt).2.1 = k0_pay2 (grid0.coords t) (iblk m c 0 t) (iblk m c 1 t) := by
  by_cases h : t.val % 33 = 0
  · rw [outsAt0_A m c t h]; frame_out
  · rw [outsAt0_B m c t h]; frame_out

/-- The same block at the products' format. -/
theorem out4 (c : Dev nD) (t : Fin cfg0.N) :
    (outsAt0 m c t.val t.isLt).2.2 = k0_pay3 (grid0.coords t) (iblk m c 0 t) (iblk m c 1 t) := by
  by_cases h : t.val % 33 = 0
  · rw [outsAt0_A m c t h]; frame_out
  · rw [outsAt0_B m c t h]; frame_out

/-- The block's entry is the reference's at the entry's place in the array. -/
theorem point (c : Dev nD) (t : Fin cfg0.N) (y) :
    k0_pay2 (grid0.coords t) (iblk m c 0 t) (iblk m c 1 t) y
      = refH (m ((c : Thread nD τ).loc main_arg0)) (m ((c : Thread nD τ).loc main_arg1)) (((cfg0.win 3).blk t).view.emb y) := by
  pointwise [k0_pay2, refH]
  rw [err_eq]
  have hlt : t.val < 33 := lt_of_lt_of_eq t.isLt N_0
  have e : (((View.whole main_v0_1).slice ((win0 3).rect t)).emb y 0 : ℕ) = t.val * 128 + (y 0 : ℕ) := by
    blk_simp [idx t]
  have hy : (y 0 : ℕ) < 128 := (y 0).isLt
  split
  · split
    · exfalso; omega
    · exact zero_mul _
  · split
    · refine (dloss_eq _).trans ?_
      blk_point [iblk, V, idx t]
    · exfalso; omega

/-- The sum starts at zero. -/
theorem pay_zero (j) : k0_pay4 (F := Ideal) j = 0 := by pointwise [k0_pay4]

/-- A grid point adds its rows' squared errors, with one factor. -/
theorem pay_add (i : grid0.Coords) (h y : Vec Ideal S128x4096 .f32) (acc : Vec Ideal S1x1 .f32) (j) :
    k0_pay5 i h y acc j = acc j + Ideal.ofBits .f32 0x39000000#32
      * ∑ a : Fin 128, ∑ k : Fin 4096, k0_pay1 i h y (ix2 a k) * k0_pay1 i h y (ix2 a k) := by
  pointwise [k0_pay5]

/-- The gradient of the loss is the reference's. -/
theorem final_h (c : Dev nD) : (dats m 0 c).arrAt 3 (cfgs 0).N
    = refH (m ((c : Thread nD τ).loc main_arg0)) (m ((c : Thread nD τ).loc main_arg1)) := by
  refine (dats m 0 c).arrAt_eq_of_covers 3 _ (by decide +kernel) fun t _ y => ?_
  have hp := point m c t y
  generalize refH _ _ = g at hp ⊢
  blk_simp
  rw [after0_3, out3]
  exact hp

/-- The gradient of the loss at the products' format is the reference's. -/
theorem final_b (c : Dev nD) : (dats m 0 c).arrAt 4 (cfgs 0).N
    = refB (m ((c : Thread nD τ).loc main_arg0)) (m ((c : Thread nD τ).loc main_arg1)) := by
  refine (dats m 0 c).arrAt_eq_of_covers 4 _ (by decide +kernel) fun t _ y => ?_
  have hp := point m c t y
  unfold refB
  generalize refH _ _ = g at hp ⊢
  blk_simp
  rw [after0_4, out4]
  exact hp

/-- The device's part of the loss after the last grid point: the squared errors of the 4096 rows, with one factor. -/
theorem sums (c : Dev nD) (t : Fin cfg0.N) (h : t.val % 33 = 32) (j : S1x1.Idx) : (outsAt0 m c t.val t.isLt).1 j
    = Ideal.ofBits .f32 0x39000000#32 * ∑ x : Fin 4096, ∑ k : Fin 4096,
        err (m ((c : Thread nD τ).loc main_arg0)) (m ((c : Thread nD τ).loc main_arg1)) (ix2 x k)
          * err (m ((c : Thread nD τ).loc main_arg0)) (m ((c : Thread nD τ).loc main_arg1)) (ix2 x k) := by
  have hlt : t.val < 33 := lt_of_lt_of_eq t.isLt N_0
  rw [Pipeline.eq_sum_fin_of_reset_step_apply_of_flush (fun n h => (outsAt0 m c n h).1) 33 (fun _ => 0) _
    (fun t h j => by rw [outsAt0_A m c t h]; frame_out; rw [pay_add, pay_zero])
    (fun t h j => by rw [outsAt0_B m c t h]; frame_out; rw [pay_add])
    t h j, zero_add, half_width_inv]
  refine (mul_sum_real _ _ (by norm_num) _).symm.trans (congrArg (fun a : EReal => _ * a) ?_)
  refine (Fin.sum_univ_succ _).trans ((congrArg₂ (fun a b : EReal => a + b) ?_ ?_).trans (zero_add _))
  · refine Finset.sum_eq_zero fun a _ => Finset.sum_eq_zero fun k _ => ?_
    rw [err_eq, if_pos (by simp; omega), zero_mul]
  · refine Fin.sum_mul_add_congr fun s a hl => Fin.sum_fin_congr fun k => ?_
    have hs := idx ⟨33 * (t.val / 33) + s.succ.val, Pipeline.run_point_lt_of_flush t h s.succ⟩
    rw [err_eq, if_neg (by simp)]
    pointwise [err]
    blk_point [iblk, V, hs] <;> (simp only [Fin.val_succ]; omega)

/-- The part of the loss is the reference's. -/
theorem final_l (c : Dev nD) : (dats m 0 c).arrAt 2 (cfgs 0).N
    = refL (m ((c : Thread nD τ).loc main_arg0)) (m ((c : Thread nD τ).loc main_arg1)) := by
  refine (dats m 0 c).arrAt_eq_of_covers 2 _ (by decide +kernel) fun t hf y => ?_
  have h5 := (flush0_2 t).mp hf
  blk_simp
  rw [after0_2]
  refine (sums m c t h5 _).trans ((loss_eq _).trans ?_)
  pointwise [refL, err]

end Cert.Kernel25Ideal.Val

end
-- ==== Proof.Norm.DnInChipSums.lean ====
/- The sum over the two devices of a chip of the parts of a weight gradient: the call's result is the reference's. -/
module

public import proofs.«01_k».proof.Proof.Gen.Kernel26Ideal.Value
public import proofs.«01_k».proof.Proof.Gen.Reference26Ideal.Run
public import proofs.«01_k».proof.Proof.Norm.Scale
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel26Ideal.Val

open Cert.Kernel26Ideal Cert.Kernel26Ideal.Gen Idealize.ShloMosaic Idealize.ShloMosaic.TcCoe Idealize.SL.Sem Cert.Norm
open Idealize.ShloMosaic.Pipeline (Dat)

variable (m : (ℓ : Loc nD τ sig) → Buf (Elt Ideal) ℓ)

/-- The reference's result, of the device's own part and its neighbour's. -/
abbrev ref (x y : FVec Ideal S4x4096x3088 .bf16) : FVec Ideal S4x4096x3088 .bf16 :=
  truncf .bf16 (addf (extf .f32 x Cert.Reference26Ideal.Gen.bitsLt_bf16_f32) (extf .f32 y Cert.Reference26Ideal.Gen.bitsLt_bf16_f32))
    Cert.Reference26Ideal.Gen.bitsLt_bf16_f32

/-- The index maps over the grid. -/
theorem idx : ∀ t : Fin cfg0.N, win0_0.index t = ![t.val / 32, t.val % 32, 0]
    ∧ win0_1.index t = ![t.val / 32, t.val % 32, 0] ∧ win0_2.index t = ![t.val / 32, t.val % 32, 0] :=
  (by decide +kernel : ∀ t : Fin grid0.N, _)

/-- The result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, ref]
  blk_point [iblk, V, idx t]

end Cert.Kernel26Ideal.Val

end
-- ==== Proof.Norm.RmsFwd.lean ====
/- The root-mean-square norm of the rows of the stream: the call's result is the reference's. -/
module

public import proofs.«01_k».proof.Proof.Gen.Kernel27Ideal.Value
public import proofs.«01_k».proof.Proof.Gen.Reference27Ideal.Run
public import proofs.«01_k».proof.Proof.Norm.Scale
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel27Ideal.Val

open Cert.Kernel27Ideal Cert.Kernel27Ideal.Gen Idealize.ShloMosaic Idealize.ShloMosaic.TcCoe Idealize.SL.Sem Cert.Norm
open Idealize.ShloMosaic.Pipeline (Dat)

variable (m : (ℓ : Loc nD τ sig) → Buf (Elt Ideal) ℓ)

/-- The reference's result, of the stream and the weights. -/
abbrev ref (x : FVec Ideal S4224x4096 .f32) (w : FVec Ideal S1x4096 .f32) : FVec Ideal S4224x4096 .bf16 :=
  open Cert.Reference27Ideal Cert.Reference27Ideal.Gen in
  truncf .bf16 (mulf (mulf x (broadcastInDim S4224x4096 ![0, 1] bcast_S4224x1_S4224x4096_0_1
      (Host.rsqrt (addf (Host.divf (broadcastInDim S4224x1 ![0] bcast_S4224_S4224x1_0
          (Host.reduceAdd (mulf x x) (constant S_ .f32 0x00000000#32) reducesTo_S4224x4096_S4224_d1 h_S_))
          (broadcastInDim S4224x1 ![] bcast_S_S4224x1 (constant S_ .f32 0x45800000#32)))
        (broadcastInDim S4224x1 ![] bcast_S_S4224x1 (constant S_ .f32 0x358637BD#32))))))
    (broadcastInDim S4224x4096 ![0, 1] bcast_S1x4096_S4224x4096_0_1
      (broadcastInDim S1x4096 ![1] bcast_S4096_S1x4096_1 (shapeCast _ w shapeCasts_S1x4096_S4096))))
    Cert.Reference27Ideal.Gen.bitsLt_bf16_f32

/-- The index maps over the grid. -/
theorem idx : ∀ t : Fin cfg0.N, win0_0.index t = ![t.val, 0] ∧ win0_1.index t = ![0, 0] ∧ win0_2.index t = ![t.val, 0] :=
  (by decide +kernel : ∀ t : Fin grid0.N, _)

/-- The result array is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, ref]
  blk_point [iblk, V, idx t]

end Cert.Kernel27Ideal.Val

end
-- ==== Proof.Norm.RmsBwd.lean ====
/- The backward pass of the norm of the stream's rows: the call's three results are the reference's. -/
module

public import proofs.«01_k».proof.Proof.Gen.Kernel28Ideal.Value
public import proofs.«01_k».proof.Proof.Gen.Reference28Ideal.Run
public import proofs.«01_k».proof.Proof.Norm.Scale
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel28Ideal.Val

open Cert.Kernel28Ideal Cert.Kernel28Ideal.Gen Idealize.ShloMosaic Idealize.ShloMosaic.TcCoe Idealize.SL.Sem Cert.Norm
open Idealize.ShloMosaic.Pipeline (Dat)

variable (m : (ℓ : Loc nD τ sig) → Buf (Elt Ideal) ℓ)

section ref
open Cert.Reference28Ideal Cert.Reference28Ideal.Gen

/-- The mean of the squares of each row, with the small addend. -/
abbrev mean (x : FVec Ideal S4224x4096 .f32) : FVec Ideal S4224x1 .f32 :=
  addf (Host.divf (broadcastInDim S4224x1 ![0] bcast_S4224_S4224x1_0
      (Host.reduceAdd (mulf x x) (constant S_ .f32 0x00000000#32) reducesTo_S4224x4096_S4224_d1 h_S_))
      (broadcastInDim S4224x1 ![] bcast_S_S4224x1 (constant S_ .f32 0x45800000#32)))
    (broadcastInDim S4224x1 ![] bcast_S_S4224x1 (constant S_ .f32 0x358637BD#32))

/-- The gradient of the norm's result times the weights. -/
abbrev scaled (w : FVec Ideal S1x4096 .f32) (dy : FVec Ideal S4224x4096 .f32) : FVec Ideal S4224x4096 .f32 :=
  mulf dy (broadcastInDim S4224x4096 ![0, 1] bcast_S1x4096_S4224x4096_0_1
    (broadcastInDim S1x4096 ![1] bcast_S4096_S1x4096_1 (shapeCast _ w shapeCasts_S1x4096_S4096)))

/-- The gradient through the squares, per row. -/
abbrev through (x : FVec Ideal S4224x4096 .f32) (w : FVec Ideal S1x4096 .f32) (dy : FVec Ideal S4224x4096 .f32) : FVec Ideal S4224x4096 .f32 :=
  broadcastInDim S4224x4096 ![0] bcast_S4224_S4224x4096_0 (Host.reduceAdd (Host.divf (mulf (shapeCast _
      (Host.reduceAdd (mulf x (scaled w dy)) (constant S_ .f32 0x00000000#32) reducesTo_S4224x4096_S4224_d1 h_S_) shapeCasts_S4224_S4224x1)
      (mulf (broadcastInDim S4224x1 ![] bcast_S_S4224x1 (constant S_ .f32 0xBF000000#32)) (Host.divf (Host.rsqrt (mean x)) (mean x))))
      (broadcastInDim S4224x1 ![] bcast_S_S4224x1 (constant S_ .f32 0x45800000#32)))
    (constant S_ .f32 0x00000000#32) reducesTo_S4224x1_S4224_d1 h_S_)

/-- The reference's gradient of the stream. -/
abbrev refH (x : FVec Ideal S4224x4096 .f32) (w : FVec Ideal S1x4096 .f32) (dy dres : FVec Ideal S4224x4096 .f32) : FVec Ideal S4224x4096 .f32 :=
  addf dres (addf (addf (mulf (scaled w dy) (broadcastInDim S4224x4096 ![0, 1] bcast_S4224x1_S4224x4096_0_1 (Host.rsqrt (mean x))))
    (mulf x (through x w dy))) (mulf (through x w dy) x))

/-- The reference's gradient of the stream, at the products' format. -/
abbrev refB (x : FVec Ideal S4224x4096 .f32) (w : FVec Ideal S1x4096 .f32) (dy dres : FVec Ideal S4224x4096 .f32) : FVec Ideal S4224x4096 .bf16 :=
  truncf .bf16 (refH x w dy dres) Cert.Reference28Ideal.Gen.bitsLt_bf16_f32

/-- The reference's gradient of the weights. -/
abbrev refW (x dy : FVec Ideal S4224x4096 .f32) : FVec Ideal S1x4096 .f32 :=
  broadcastInDim S1x4096 ![1] bcast_S4096_S1x4096_1 (Host.reduceAdd (shapeCast _ (Host.reduceAdd
      (mulf (mulf x (broadcastInDim S4224x4096 ![0, 1] bcast_S4224x1_S4224x4096_0_1 (Host.rsqrt (mean x)))) dy)
      (constant S_ .f32 0x00000000#32) reducesTo_S4224x4096_S4096_d0 h_S_) Cert.Reference28Ideal.Gen.shapeCasts_S4096_S1x4096)
    (constant S_ .f32 0x00000000#32) reducesTo_S1x4096_S4096_d0 h_S_)

end ref

/-- The index maps over the grid. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- The block of the stream's gradient that every grid point leaves. -/
theorem out4 (c : Dev nD) (t : Fin cfg0.N) :
    (outsAt0 m c t.val t.isLt).1 = k0_pay4 (iblk m c 0 t) (iblk m c 2 t) (iblk m c 1 t) (iblk m c 3 t) := by
  by_cases h : t.val % 22 = 0
  · rw [outsAt0_A m c t h]; frame_out
  · rw [outsAt0_B m c t h]; frame_out

/-- The same block at the products' format. -/
theorem out5 (c : Dev nD) (t : Fin cfg0.N) :
    (outsAt0 m c t.val t.isLt).2.1 = k0_pay5 (iblk m c 0 t) (iblk m c 2 t) (iblk m c 1 t) (iblk m c 3 t) := by
  by_cases h : t.val % 22 = 0
  · rw [outsAt0_A m c t h]; frame_out
  · rw [outsAt0_B m c t h]; frame_out

/-- The block's entry is the reference's at the entry's place in the array. -/
theorem point (c : Dev nD) (t : Fin cfg0.N) (y) :
    k0_pay4 (iblk m c 0 t) (iblk m c 2 t) (iblk m c 1 t) (iblk m c 3 t) y
      = refH (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay4, k0_pay3, k0_pay2, refH]
  refine congrArg₂ (fun a b : EReal => a + b) ?_ ?_
  · blk_point [iblk, V, idx t]
  · refine (dx_eq _ _ _ _ _ (mean_pos _)).trans ?_
    simp only [Fin.sum_univ_one]
    blk_point [iblk, V, idx t]

/-- The sum starts at zero. -/
theorem pay_zero (j) : k0_pay6 (F := Ideal) j = 0 := by pointwise [k0_pay6]

/-- A grid point adds its 192 rows. -/
theorem pay_add (x dy : Vec Ideal S192x4096 .f32) (acc : Vec Ideal S1x4096 .f32) (j) :
    k0_pay1 (k0_pay3 x) dy (k0_pay7 acc) j = acc j + ∑ k : Fin 192, dy (ix2 k (j 1)) * k0_pay3 x (ix2 k (j 1)) := by
  pointwise [k0_pay1, k0_pay7]

/-- The gradient of the stream is the reference's. -/
theorem final_h (c : Dev nD) : (dats m 0 c).arrAt 4 (cfgs 0).N
    = refH (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have hp := point m c t y
  generalize refH _ _ _ _ = g at hp ⊢
  blk_simp
  rw [after0_4, out4]
  exact hp

/-- The gradient of the stream at the products' format is the reference's. -/
theorem final_b (c : Dev nD) : (dats m 0 c).arrAt 5 (cfgs 0).N
    = refB (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have hp := point m c t y
  unfold refB
  generalize refH _ _ _ _ = g at hp ⊢
  blk_simp
  rw [after0_5, out5]
  exact hp

/-- The partial sums after the last grid point: the products over the rows of the 22 blocks. -/
theorem sums (c : Dev nD) (t : Fin cfg0.N) (h : t.val % 22 = 21) (j : S1x4096.Idx) : (outsAt0 m c t.val t.isLt).2.2 j
    = ∑ s : Fin 22, ∑ k : Fin 192, (show FVec Ideal S192x4096 .f32 from iblk m c 2 ⟨22 * (t.val / 22) + s.val, Pipeline.run_point_lt_of_flush t h s⟩) (ix2 k (j 1))
        * k0_pay3 (iblk m c 0 ⟨22 * (t.val / 22) + s.val, Pipeline.run_point_lt_of_flush t h s⟩) (ix2 k (j 1)) := by
  rw [Pipeline.eq_sum_fin_of_reset_step_apply_of_flush (fun n h => (outsAt0 m c n h).2.2) 22 (fun _ => 0) _
    (fun t h j => by rw [outsAt0_A m c t h]; frame_out; rw [pay_add, pay_zero])
    (fun t h j => by rw [outsAt0_B m c t h]; frame_out; rw [pay_add])
    t h j, zero_add]

/-- The gradient of the weights is the reference's. -/
theorem final_w (c : Dev nD) : (dats m 0 c).arrAt 6 (cfgs 0).N
    = refW (m ((c : Thread nD τ).loc main_arg0)) (m ((c : Thread nD τ).loc main_arg2)) := by
  refine (dats m 0 c).arrAt_eq_of_covers 6 _ (by decide +kernel) fun t hf y => ?_
  have h5 := (flush0_6 t).mp hf
  blk_simp
  rw [after0_6]
  refine (sums m c t h5 _).trans ?_
  pointwise [refW]
  simp only [Fin.sum_univ_one]
  refine Fin.sum_mul_add_congr fun s k hl => ?_
  have hs := idx ⟨22 * (t.val / 22) + s.val, Pipeline.run_point_lt_of_flush t h5 s⟩
  pointwise [k0_pay3, k0_pay2]
  refine (mul_comm (_ : EReal) _).trans ?_
  blk_point [iblk, V, idx t, hs]

end Cert.Kernel28Ideal.Val

end
-- ==== Proof.Norm.Claims.lean ====
/- The claims of the norm's calls, of the loss head and of the sum of a chip's parts: each reference's frame, and each
   call's results equal to its reference's. -/
module

public import proofs.«01_k».proof.Defs
public import proofs.«01_k».proof.Proof.Norm.LossHead
public import proofs.«01_k».proof.Proof.Norm.DnInChipSums
public import proofs.«01_k».proof.Proof.Norm.RmsFwd
public import proofs.«01_k».proof.Proof.Norm.RmsBwd

@[expose] public section

noncomputable section

namespace Cert.Norm

open Idealize.ShloMosaic Idealize.SL.Sem

/-- The reference of the loss head runs, keeps its arguments and ends with every counter at zero. -/
theorem frame25 : Cert.quiescent_Reference25Ideal (hReference25Ideal := Cert.Reference25Ideal.Gen.facts) :=
  fun m ρ _ => (θ_run Cert.Reference25Ideal.defs _ _).mono
    (fun _ h => ⟨fun c => (h c).2.2.2, Idealize.ShloMosaic.sem_eq_zero_of_no_sems (by decide) _⟩) (Cert.Reference25Ideal.Value.run m ρ)

/-- The call's results are the reference's: the loss head. -/
theorem algebraic25 : Cert.algebraic_Kernel25Ideal_Reference25Ideal
    (hKernel25Ideal := Cert.Kernel25Ideal.Gen.facts) (hReference25Ideal := Cert.Reference25Ideal.Gen.facts) :=
  fun m ρ m' ρ' _ ha => ⟨fun c => Cert.Kernel25Ideal.Val.refL (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)),
    fun c => Cert.Kernel25Ideal.Val.refH (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)),
    fun c => Cert.Kernel25Ideal.Val.refB (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)),
    (θ_run Cert.Kernel25Ideal.defs _ _).mono (fun _ h c => by
      obtain ⟨h0, h1, h2, h⟩ := h c
      exact ⟨h0.trans (Cert.Kernel25Ideal.Val.final_l m c), h1.trans (Cert.Kernel25Ideal.Val.final_h m c), h2.trans (Cert.Kernel25Ideal.Val.final_b m c), h⟩) (Cert.Kernel25Ideal.Value.run_blocks m ρ),
    (θ_run Cert.Reference25Ideal.defs _ _).mono (fun _ h c => by
      obtain ⟨h0, h1, h2, h⟩ := h c
      obtain ⟨e0, e1⟩ := ha c
      exact ⟨h0.trans (by rw [e0, e1] <;> rfl), h1.trans (by rw [e0, e1] <;> rfl), h2.trans (by rw [e0, e1] <;> rfl), h⟩) (Cert.Reference25Ideal.Value.run m' ρ')⟩

/-- The reference of the sum of a chip's parts runs, keeps its arguments and ends with every counter at zero. -/
theorem frame26 : Cert.quiescent_Reference26Ideal (hReference26Ideal := Cert.Reference26Ideal.Gen.facts) :=
  fun m ρ _ => (θ_run Cert.Reference26Ideal.defs _ _).mono
    (fun _ h => ⟨fun c => (h c).2, Idealize.ShloMosaic.sem_eq_zero_of_no_sems (by decide) _⟩) (Cert.Reference26Ideal.Value.run m ρ)

/-- The call's results are the reference's: the sum of a chip's parts. -/
theorem algebraic26 : Cert.algebraic_Kernel26Ideal_Reference26Ideal
    (hKernel26Ideal := Cert.Kernel26Ideal.Gen.facts) (hReference26Ideal := Cert.Reference26Ideal.Gen.facts) :=
  fun m ρ m' ρ' _ ha => ⟨fun c => Cert.Kernel26Ideal.Val.ref (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)),
    (θ_run Cert.Kernel26Ideal.defs _ _).mono (fun _ h c => by
      obtain ⟨h0, h⟩ := h c
      exact ⟨h0.trans (Cert.Kernel26Ideal.Val.final m c), h⟩) (Cert.Kernel26Ideal.Value.run_blocks m ρ),
    (θ_run Cert.Reference26Ideal.defs _ _).mono (fun _ h c => by
      obtain ⟨h0, h⟩ := h c
      obtain ⟨e0, e1⟩ := ha c
      exact ⟨h0.trans (by rw [e0, e1] <;> rfl), h⟩) (Cert.Reference26Ideal.Value.run m' ρ')⟩

/-- The reference of the norm of the stream runs, keeps its arguments and ends with every counter at zero. -/
theorem frame27 : Cert.quiescent_Reference27Ideal (hReference27Ideal := Cert.Reference27Ideal.Gen.facts) :=
  fun m ρ _ => (θ_run Cert.Reference27Ideal.defs _ _).mono
    (fun _ h => ⟨fun c => (h c).2, Idealize.ShloMosaic.sem_eq_zero_of_no_sems (by decide) _⟩) (Cert.Reference27Ideal.Value.run m ρ)

/-- The call's results are the reference's: the norm of the stream. -/
theorem algebraic27 : Cert.algebraic_Kernel27Ideal_Reference27Ideal
    (hKernel27Ideal := Cert.Kernel27Ideal.Gen.facts) (hReference27Ideal := Cert.Reference27Ideal.Gen.facts) :=
  fun m ρ m' ρ' _ ha => ⟨fun c => Cert.Kernel27Ideal.Val.ref (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)),
    (θ_run Cert.Kernel27Ideal.defs _ _).mono (fun _ h c => by
      obtain ⟨h0, h⟩ := h c
      exact ⟨h0.trans (Cert.Kernel27Ideal.Val.final m c), h⟩) (Cert.Kernel27Ideal.Value.run_blocks m ρ),
    (θ_run Cert.Reference27Ideal.defs _ _).mono (fun _ h c => by
      obtain ⟨h0, h⟩ := h c
      obtain ⟨e0, e1⟩ := ha c
      exact ⟨h0.trans (by rw [e0, e1] <;> rfl), h⟩) (Cert.Reference27Ideal.Value.run m' ρ')⟩

/-- The reference of the norm's backward pass runs, keeps its arguments and ends with every counter at zero. -/
theorem frame28 : Cert.quiescent_Reference28Ideal (hReference28Ideal := Cert.Reference28Ideal.Gen.facts) :=
  fun m ρ _ => (θ_run Cert.Reference28Ideal.defs _ _).mono
    (fun _ h => ⟨fun c => (h c).2.2.2, Idealize.ShloMosaic.sem_eq_zero_of_no_sems (by decide) _⟩) (Cert.Reference28Ideal.Value.run m ρ)

/-- The call's results are the reference's: the norm's backward pass. -/
theorem algebraic28 : Cert.algebraic_Kernel28Ideal_Reference28Ideal
    (hKernel28Ideal := Cert.Kernel28Ideal.Gen.facts) (hReference28Ideal := Cert.Reference28Ideal.Gen.facts) :=
  fun m ρ m' ρ' _ ha => ⟨fun c => Cert.Kernel28Ideal.Val.refH (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)),
    fun c => Cert.Kernel28Ideal.Val.refB (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)),
    fun c => Cert.Kernel28Ideal.Val.refW (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg2)),
    (θ_run Cert.Kernel28Ideal.defs _ _).mono (fun _ h c => by
      obtain ⟨h0, h1, h2, h⟩ := h c
      exact ⟨h0.trans (Cert.Kernel28Ideal.Val.final_h m c), h1.trans (Cert.Kernel28Ideal.Val.final_b m c), h2.trans (Cert.Kernel28Ideal.Val.final_w m c), h⟩) (Cert.Kernel28Ideal.Value.run_blocks m ρ),
    (θ_run Cert.Reference28Ideal.defs _ _).mono (fun _ h c => by
      obtain ⟨h0, h1, h2, h⟩ := h c
      obtain ⟨e0, e1, e2, e3⟩ := ha c
      exact ⟨h0.trans (by unfold Cert.Reference28Ideal.Value.res_main_v38; rw [e0, e1, e2, e3] <;> rfl), h1.trans (by unfold Cert.Reference28Ideal.Value.res_main_v39; rw [e0, e1, e2, e3] <;> rfl), h2.trans (by rw [e0, e2] <;> rfl), h⟩) (Cert.Reference28Ideal.Value.run m' ρ')⟩

end Cert.Norm

end
-- ==== Proof.Heads.QkNormFwd.lean ====
/- The norm of the heads of the attention's queries and keys: the call's three results are the reference's. -/
module

public import proofs.«01_k».proof.Proof.Gen.Kernel29Ideal.Value
public import proofs.«01_k».proof.Proof.Gen.Reference29Ideal.Run
public import proofs.«01_k».proof.Proof.Norm.Scale
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel29Ideal.Val

open Cert.Kernel29Ideal Cert.Kernel29Ideal.Gen Idealize.ShloMosaic Idealize.ShloMosaic.TcCoe Idealize.SL.Sem
open Idealize.ShloMosaic.Pipeline (Dat)

variable (m : (ℓ : Loc nD τ sig) → Buf (Elt Ideal) ℓ)

section ref
open Cert.Reference29Ideal Cert.Reference29Ideal.Gen

/-- The norm of each head's row, and its weights. -/
abbrev headNorm (x : FVec Ideal S4224x4096 .f32) (w : FVec Ideal S1x128 .f32) : FVec Ideal S4224x4096 .bf16 :=
  truncf .bf16 (shapeCast _ (mulf (mulf (shapeCast _ x shapeCasts_S4224x4096_S4224x32x128)
    (broadcastInDim S4224x32x128 ![0, 1, 2] bcast_S4224x32x1_S4224x32x128_0_1_2 (Host.rsqrt (addf (Host.divf
      (broadcastInDim S4224x32x1 ![0, 1] bcast_S4224x32_S4224x32x1_0_1 (Host.reduceAdd
        (mulf (shapeCast _ x shapeCasts_S4224x4096_S4224x32x128) (shapeCast _ x shapeCasts_S4224x4096_S4224x32x128))
        (constant S_ .f32 0x00000000#32) reducesTo_S4224x32x128_S4224x32_d2 h_S_))
      (broadcastInDim S4224x32x1 ![] bcast_S_S4224x32x1 (constant S_ .f32 0x43000000#32)))
      (broadcastInDim S4224x32x1 ![] bcast_S_S4224x32x1 (constant S_ .f32 0x358637BD#32))))))
    (broadcastInDim S4224x32x128 ![0, 1, 2] bcast_S1x1x128_S4224x32x128_0_1_2
      (broadcastInDim S1x1x128 ![2] bcast_S128_S1x1x128_2 (shapeCast _ w shapeCasts_S1x128_S128))))
    shapeCasts_S4224x32x128_S4224x4096) Cert.Reference29Ideal.Gen.bitsLt_bf16_f32

/-- The reference's queries. -/
abbrev refQ (x : FVec Ideal S4224x16384 .f32) (w : FVec Ideal S1x128 .f32) : FVec Ideal S4224x4096 .bf16 :=
  headNorm (extractStridedSlice S4224x4096 ![0, 0] x slices_S4224x16384_S4224x4096_0_0) w

/-- The reference's keys. -/
abbrev refK (x : FVec Ideal S4224x16384 .f32) (w : FVec Ideal S1x128 .f32) : FVec Ideal S4224x4096 .bf16 :=
  headNorm (extractStridedSlice S4224x4096 ![0, 4096] x slices_S4224x16384_S4224x4096_0_4096) w

/-- The reference's values. -/
abbrev refV (x : FVec Ideal S4224x16384 .f32) : FVec Ideal S4224x4096 .bf16 :=
  truncf .bf16 (extractStridedSlice S4224x4096 ![0, 8192] x slices_S4224x16384_S4224x4096_0_8192)
    Cert.Reference29Ideal.Gen.bitsLt_bf16_f32

end ref

/-- The index maps over the grid. -/
theorem idx : ∀ t : Fin cfg0.N, win0_0.index t = ![t.val / 8, t.val % 8] ∧ win0_1.index t = ![t.val / 8, 8 + t.val % 8]
    ∧ win0_2.index t = ![t.val / 8, 16 + t.val % 8] ∧ win0_3.index t = ![0, 0] ∧ win0_4.index t = ![0, 0]
    ∧ win0_5.index t = ![t.val / 8, t.val % 8] ∧ win0_6.index t = ![t.val / 8, t.val % 8] ∧ win0_7.index t = ![t.val / 8, t.val % 8] :=
  (by decide +kernel : ∀ t : Fin grid0.N, _)

/-- The norm of a block's head, at an entry. -/
def blockNorm (x : Vec Ideal S1056x512 .f32) (w : Vec Ideal S1x128 .f32) (y : S1056x512.Idx) : EReal :=
  x y * Ideal.rsqrt (Ideal.div (∑ k : Fin 128, x (ix2 (y 0) ⟨(y 1 : ℕ) / 128 * 128 + k, by have h : (y 1 : ℕ) < 512 := (y 1).isLt; omega⟩)
      * x (ix2 (y 0) ⟨(y 1 : ℕ) / 128 * 128 + k, by have h : (y 1 : ℕ) < 512 := (y 1).isLt; omega⟩)) (Ideal.ofBits .f32 0x43000000#32)
      + Ideal.ofBits .f32 0x358637BD#32)
    * w (ix2 0 ⟨(y 1 : ℕ) % 128, Nat.mod_lt _ (by decide)⟩)

/-- The queries' block: its four heads' norms. -/
theorem out5 (x0 x1 x2 : Vec Ideal S1056x512 .f32) (w w' : Vec Ideal S1x128 .f32) (y : S1056x512.Idx) :
    out0_5 x0 x1 x2 w w' y = blockNorm x0 w y := by
  unfold out0_5
  canon_tiles x h
  all_goals (pointwise [k0_pay7, k0_pay6, k0_pay5, k0_pay4, k0_pay3, blockNorm]; blk_point [])

/-- The keys' block: its four heads' norms. -/
theorem out6 (x0 x1 x2 : Vec Ideal S1056x512 .f32) (w w' : Vec Ideal S1x128 .f32) (y : S1056x512.Idx) :
    out0_6 x0 x1 x2 w w' y = blockNorm x1 w' y := by
  unfold out0_6
  canon_tiles x h
  all_goals (pointwise [k0_pay1, k0_pay8, k0_pay9, k0_pay10, k0_pay11, blockNorm]; blk_point [])

/-- The queries are the reference's. -/
theorem final_q (c : Dev nD) : (dats m 0 c).arrAt 5 (cfgs 0).N
    = refQ (m ((c : Thread nD τ).loc main_arg0)) (m ((c : Thread nD τ).loc main_arg1)) := by
  refine (dats m 0 c).arrAt_eq_of_covers 5 _ (by decide +kernel) fun t _ y => ?_
  have ht : t.val < 32 := lt_of_lt_of_eq t.isLt N_0
  blk_simp
  rw [after0_5, out5]
  pointwise [blockNorm, refQ, headNorm]
  blk_point [iblk, V, idx t]

/-- The keys are the reference's. -/
theorem final_k (c : Dev nD) : (dats m 0 c).arrAt 6 (cfgs 0).N
    = refK (m ((c : Thread nD τ).loc main_arg0)) (m ((c : Thread nD τ).loc main_arg2)) := by
  refine (dats m 0 c).arrAt_eq_of_covers 6 _ (by decide +kernel) fun t _ y => ?_
  have ht : t.val < 32 := lt_of_lt_of_eq t.isLt N_0
  blk_simp
  rw [after0_6, out6]
  pointwise [blockNorm, refK, headNorm]
  blk_point [iblk, V, idx t]

/-- The values are the reference's. -/
theorem final_v (c : Dev nD) : (dats m 0 c).arrAt 7 (cfgs 0).N
    = refV (m ((c : Thread nD τ).loc main_arg0)) := by
  refine (dats m 0 c).arrAt_eq_of_covers 7 _ (by decide +kernel) fun t _ y => ?_
  have ht : t.val < 32 := lt_of_lt_of_eq t.isLt N_0
  blk_simp
  rw [after0_7]
  frame_out
  pointwise [k0_pay2, refV]
  blk_point [iblk, V, idx t]

end Cert.Kernel29Ideal.Val

end
-- ==== Proof.Heads.OutNormFwd.lean ====
/- The norm of the heads of the delta rule's output, times the gate: the call's result is the reference's. -/
module

public import proofs.«01_k».proof.Proof.Gen.Kernel30Ideal.Value
public import proofs.«01_k».proof.Proof.Gen.Reference30Ideal.Run
public import proofs.«01_k».proof.Proof.Norm.Scale
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel30Ideal.Val

open Cert.Kernel30Ideal Cert.Kernel30Ideal.Gen Idealize.ShloMosaic Idealize.ShloMosaic.TcCoe Idealize.SL.Sem
open Idealize.ShloMosaic.Pipeline (Dat)

variable (m : (ℓ : Loc nD τ sig) → Buf (Elt Ideal) ℓ)

section ref
open Cert.Reference30Ideal Cert.Reference30Ideal.Gen

/-- The gate's heads. -/
abbrev gate (z : FVec Ideal S4224x24576 .f32) : FVec Ideal S4224x64x128 .f32 :=
  shapeCast _ (extractStridedSlice S4224x8192 ![0, 16384] z slices_S4224x24576_S4224x8192_0_16384) shapeCasts_S4224x8192_S4224x64x128

/-- The reference's result, of the output, the projection with the gate, and the weights. -/
abbrev ref (x : FVec Ideal S4224x8192 .f32) (z : FVec Ideal S4224x24576 .f32) (w : FVec Ideal S1x128 .f32) : FVec Ideal S4224x8192 .bf16 :=
  truncf .bf16 (shapeCast _ (mulf (mulf (mulf (shapeCast _ x shapeCasts_S4224x8192_S4224x64x128) (broadcastInDim S4224x64x128 ![0, 1, 2] bcast_S4224x64x1_S4224x64x128_0_1_2 (Host.rsqrt (addf (Host.divf (broadcastInDim S4224x64x1 ![0, 1] bcast_S4224x64_S4224x64x1_0_1 (Host.reduceAdd (mulf (shapeCast _ x shapeCasts_S4224x8192_S4224x64x128) (shapeCast _ x shapeCasts_S4224x8192_S4224x64x128)) (constant S_ .f32 0x00000000#32) reducesTo_S4224x64x128_S4224x64_d2 h_S_)) (broadcastInDim S4224x64x1 ![] bcast_S_S4224x64x1 (constant S_ .f32 0x43000000#32))) (broadcastInDim S4224x64x1 ![] bcast_S_S4224x64x1 (constant S_ .f32 0x358637BD#32)))))) (broadcastInDim S4224x64x128 ![0, 1, 2] bcast_S1x1x128_S4224x64x128_0_1_2 (broadcastInDim S1x1x128 ![2] bcast_S128_S1x1x128_2 (shapeCast _ w shapeCasts_S1x128_S128)))) (mulf (gate z) (Host.divf (broadcastInDim S4224x64x128 ![] bcast_S_S4224x64x128 (constant S_ .f32 0x3F800000#32)) (addf (broadcastInDim S4224x64x128 ![] bcast_S_S4224x64x128 (constant S_ .f32 0x3F800000#32)) (Host.exp (Host.negf (gate z))))))) shapeCasts_S4224x64x128_S4224x8192) Cert.Reference30Ideal.Gen.bitsLt_bf16_f32

end ref

/-- The index maps over the grid. -/
theorem idx : ∀ t : Fin cfg0.N, win0_0.index t = ![t.val / 16, t.val % 16] ∧ win0_1.index t = ![t.val / 16, 32 + t.val % 16]
    ∧ win0_2.index t = ![0, 0] ∧ win0_3.index t = ![t.val / 16, t.val % 16] :=
  (by decide +kernel : ∀ t : Fin grid0.N, _)

/-- The norm of a block's head, times the gate, at an entry. -/
def blockNorm (x z : Vec Ideal S1056x512 .f32) (w : Vec Ideal S1x128 .f32) (y : S1056x512.Idx) : EReal :=
  x y * Ideal.rsqrt (Ideal.div (∑ k : Fin 128, x (ix2 (y 0) ⟨(y 1 : ℕ) / 128 * 128 + k, by have h : (y 1 : ℕ) < 512 := (y 1).isLt; omega⟩)
      * x (ix2 (y 0) ⟨(y 1 : ℕ) / 128 * 128 + k, by have h : (y 1 : ℕ) < 512 := (y 1).isLt; omega⟩)) (Ideal.ofBits .f32 0x43000000#32)
      + Ideal.ofBits .f32 0x358637BD#32)
    * w (ix2 0 ⟨(y 1 : ℕ) % 128, Nat.mod_lt _ (by decide)⟩)
    * (z y * Ideal.div 1 (1 + Ideal.exp (-z y)))

/-- The block: its four heads' norms, times the gate. -/
theorem out3 (x z : Vec Ideal S1056x512 .f32) (w : Vec Ideal S1x128 .f32) (y : S1056x512.Idx) :
    out0_3 x z w y = blockNorm x z w y := by
  unfold out0_3
  canon_tiles x h
  all_goals (pointwise [k0_pay1, k0_pay7, k0_pay6, k0_pay5, k0_pay4, k0_pay3, k0_pay2, blockNorm, Ideal.logistic]; blk_point [])

/-- The result array is the reference's. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 64 := lt_of_lt_of_eq t.isLt N_0
  blk_simp
  rw [after0_3, out3]
  pointwise [blockNorm, ref, gate]
  blk_point [iblk, V, idx t]

end Cert.Kernel30Ideal.Val

end
-- ==== Proof.Heads.Act.lean ====
/- Comparisons of small indices with a constant, the padding's zero, and the sums over a grid of blocks of heads. -/
module

public import Idealize.ShloMosaic.Lib.Pointwise
public import Idealize.ShloMosaic.Lib.KernelVsHost
public import Idealize.ShloMosaic.Lib.Pipeline.ValueKit

@[expose] public section

noncomputable section

namespace Cert.Heads

open Idealize.ShloMosaic

/-- The padding's zero. -/
theorem zero_pad : (FloatOps.sitofp .f32 0#32 : Ideal .f32) = (0 : EReal) := by
  show (((0#32 : BitVec 32).toInt : ℝ) : EReal) = 0
  simp

/-- A signed comparison of a small index with a small constant, from below. -/
theorem select_sge {α : Type} (n k : ℕ) (hn : n < 2 ^ 31) (hk : k < 2 ^ 31) (a b : α) :
    Scalar.select (IntOp.cmpi .sge (BitVec.ofNat 32 n) (BitVec.ofNat 32 k)) a b = if k ≤ n then a else b := by
  have e : ∀ p < 2 ^ 31, (BitVec.ofNat 32 p).toInt = p := fun p hp => by
    rw [BitVec.toInt_eq_toNat_of_lt (by rw [BitVec.toNat_ofNat]; omega), BitVec.toNat_ofNat, Nat.mod_eq_of_lt (by omega)]
  by_cases h : k ≤ n <;> simp [Scalar.select, IntOp.cmpi, BitVec.sle, e n hn, e k hk, h]

/-- A signed comparison of a small index with a small constant, from above. -/
theorem select_slt {α : Type} (n k : ℕ) (hn : n < 2 ^ 31) (hk : k < 2 ^ 31) (a b : α) :
    Scalar.select (IntOp.cmpi .slt (BitVec.ofNat 32 n) (BitVec.ofNat 32 k)) a b = if n < k then a else b := by
  have e : ∀ p < 2 ^ 31, (BitVec.ofNat 32 p).toInt = p := fun p hp => by
    rw [BitVec.toInt_eq_toNat_of_lt (by rw [BitVec.toNat_ofNat]; omega), BitVec.toNat_ofNat, Nat.mod_eq_of_lt (by omega)]
  by_cases h : n < k <;> simp [Scalar.select, IntOp.cmpi, BitVec.slt, e n hn, e k hk, h]

/-- The sums over the grid, the heads of a block and its rows are those over the heads and the rows. -/
theorem resum (F : Fin 4224 → Fin 32 → EReal) :
    ∑ s : Fin 32, ∑ h : Fin 4, ∑ k : Fin 1056, F ⟨s.val / 8 * 1056 + k, by omega⟩ ⟨s.val % 8 * 4 + h, by omega⟩ = ∑ r, ∑ q, F r q := by
  have e1 : ∑ a : Fin 4, ∑ b : Fin 8, ∑ h : Fin 4, ∑ k : Fin 1056, F ⟨a * 1056 + k, by omega⟩ ⟨b * 4 + h, by omega⟩
      = ∑ s : Fin 32, ∑ h : Fin 4, ∑ k : Fin 1056, F ⟨s.val / 8 * 1056 + k, by omega⟩ ⟨s.val % 8 * 4 + h, by omega⟩ := by
    refine Fin.sum_mul_add_congr (L := 32) fun a b hl => ?_
    refine Finset.sum_congr rfl fun h _ => Finset.sum_congr rfl fun k _ => ?_
    congr 1 <;> (apply Fin.ext; simp only; omega)
  rw [← e1]
  have e2 : ∀ a : Fin 4, ∑ b : Fin 8, ∑ h : Fin 4, ∑ k : Fin 1056, F ⟨a * 1056 + k, by omega⟩ ⟨b * 4 + h, by omega⟩
      = ∑ k : Fin 1056, ∑ b : Fin 8, ∑ h : Fin 4, F ⟨a * 1056 + k, by omega⟩ ⟨b * 4 + h, by omega⟩ := fun a => by
    rw [Finset.sum_comm (s := (Finset.univ : Finset (Fin 1056)))]
    exact Finset.sum_congr rfl fun b _ => Finset.sum_comm
  simp only [e2]
  refine Fin.sum_mul_add_congr (L := 4224) fun a k hl => ?_
  exact Fin.sum_mul_add_congr (L := 32) fun b h hl' => rfl

/-- The host's sum over the two leading axes. -/
theorem reduce_leading {n0 n1 n2 : ℕ} (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  refine congrArg (init + ·) ?_
  refine (Finset.sum_filter_eq_sum_of_fiber _ (fun k : Fin n0 × Fin n1 => (ix3 k.1 k.2 (j 0) : (⟨3, ![n0, n1, n2]⟩ : Shape).Idx))
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

end Cert.Heads

end
-- ==== Proof.Heads.GatesFwd.lean ====
/- The gates of the delta rule, the inert rows zero: the call's result is the reference's. -/
module

public import proofs.«01_k».proof.Proof.Gen.Kernel31Ideal.Value
public import proofs.«01_k».proof.Proof.Gen.Reference31Ideal.Run
public import proofs.«01_k».proof.Proof.Norm.Scale
public import proofs.«01_k».proof.Proof.Heads.Act
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel31Ideal.Val

open Cert.Kernel31Ideal Cert.Kernel31Ideal.Gen Idealize.ShloMosaic Idealize.ShloMosaic.TcCoe Idealize.SL.Sem
open Idealize.ShloMosaic.Pipeline (Dat)

variable (m : (ℓ : Loc nD τ sig) → Buf (Elt Ideal) ℓ)

section ref
open Cert.Reference31Ideal Cert.Reference31Ideal.Gen

/-- The decay's logits of the live rows, shifted. -/
abbrev shifted (x : FVec Ideal S4224x128 .f32) (d : FVec Ideal S1x64 .f32) : FVec Ideal S4112x64 .f32 :=
  addf (extractStridedSlice S4112x64 ![112, 64] x slices_S4224x128_S4112x64_112_64) (broadcastInDim S4112x64 ![0, 1] bcast_S1x64_S4112x64_0_1 (broadcastInDim S1x64 ![1] bcast_S64_S1x64_1 (shapeCast _ d shapeCasts_S1x64_S64)))

/-- The softplus. -/
def softplus (u : FVec Ideal S4112x64 .f32) : FVec Ideal S4112x64 .f32 :=
  select (cmpf .une (subf u (broadcastInDim S4112x64 ![] bcast_S_S4112x64 (constant S_ .f32 0x00000000#32))) (subf u (broadcastInDim S4112x64 ![] bcast_S_S4112x64 (constant S_ .f32 0x00000000#32)))) (addf u (broadcastInDim S4112x64 ![] bcast_S_S4112x64 (constant S_ .f32 0x00000000#32))) (addf (maximumf u (broadcastInDim S4112x64 ![] bcast_S_S4112x64 (constant S_ .f32 0x00000000#32))) (Host.log1p (Host.exp (Host.negf (Host.absf (subf u (broadcastInDim S4112x64 ![] bcast_S_S4112x64 (constant S_ .f32 0x00000000#32))))))))

/-- The reference's result, of the logits, the decay's logarithms and shifts. -/
abbrev ref (x : FVec Ideal S4224x128 .f32) (a d : FVec Ideal S1x64 .f32) : FVec Ideal S4224x128 .f32 :=
  pad S4224x128 ![112, 0] ![0, 0] ![0, 0] (concatenate S4112x128 1 [⟨S4112x64, (Host.divf (broadcastInDim S4112x64 ![] bcast_S_S4112x64 (constant S_ .f32 0x3F800000#32)) (addf (broadcastInDim S4112x64 ![] bcast_S_S4112x64 (constant S_ .f32 0x3F800000#32)) (Host.exp (Host.negf (extractStridedSlice S4112x64 ![112, 0] x slices_S4224x128_S4112x64_112_0)))))⟩, ⟨S4112x64, (mulf (broadcastInDim S4112x64 ![0, 1] bcast_S1x64_S4112x64_0_1 (broadcastInDim S1x64 ![1] bcast_S64_S1x64_1 (Host.negf (Host.exp (shapeCast _ a shapeCasts_S1x64_S64))))) (softplus (shifted x d)))⟩] concatenates_S4112x64_S4112x64_S4112x128_d1) (sitofp .f32 (constantI S_ 32 0#32)) pads_S4112x128_S4224x128_11200_000 h_S_

end ref

/-- The index maps over the grid. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The kernel's entry. -/
theorem pay_at (x : Vec Ideal S4224x128 .f32) (a d : Vec Ideal S1x128 .f32) (y : S4224x128.Idx) :
    k0_pay1 x a d y = if 112 ≤ (y 0 : ℕ) then (if (y 1 : ℕ) < 64 then Ideal.logistic (x y)
      else -Ideal.exp (a (ix2 0 (y 1))) * (max (x y + d (ix2 0 (y 1))) 0
        + Ideal.log1p (Ideal.exp (-FloatOps.absf (F := Ideal) (φ := .f32) (x y + d (ix2 0 (y 1)) : EReal))))) else 0 := by
  have h0 : (y 0 : ℕ) < 4224 := (y 0).isLt
  have h1 : (y 1 : ℕ) < 128 := (y 1).isLt
  pointwise [k0_pay1]
  rw [Cert.Heads.select_sge _ 112 (by omega) (by decide), Cert.Heads.select_slt _ 64 (by omega) (by decide)]
  simp only [zero_sub]
  rfl

/-- The softplus at an entry. -/
theorem softplus_at (u : FVec Ideal Cert.Reference31Ideal.S4112x64 .f32) (i : Cert.Reference31Ideal.S4112x64.Idx) :
    softplus u i = max (u i : EReal) 0 + Ideal.log1p (Ideal.exp (-FloatOps.absf (F := Ideal) (φ := .f32) (u i : EReal))) := by
  pointwise [softplus]
  rw [if_neg (by simp)]

/-- The reference's entry. -/
theorem ref_at (x : FVec Ideal S4224x128 .f32) (a d : FVec Ideal S1x64 .f32) (y : S4224x128.Idx) :
    ref x a d y = if 112 ≤ (y 0 : ℕ) then (if h : (y 1 : ℕ) < 64 then Ideal.logistic (x y)
      else -Ideal.exp (a (ix2 0 ⟨(y 1 : ℕ) - 64, by have h1 : (y 1 : ℕ) < 128 := (y 1).isLt; omega⟩))
        * (max (x y + d (ix2 0 ⟨(y 1 : ℕ) - 64, by have h1 : (y 1 : ℕ) < 128 := (y 1).isLt; omega⟩)) 0
        + Ideal.log1p (Ideal.exp (-FloatOps.absf (F := Ideal) (φ := .f32)
          (x y + d (ix2 0 ⟨(y 1 : ℕ) - 64, by have h1 : (y 1 : ℕ) < 128 := (y 1).isLt; omega⟩) : EReal))))) else 0 := by
  have h0 : (y 0 : ℕ) < 4224 := (y 0).isLt
  have h1 : (y 1 : ℕ) < 128 := (y 1).isLt
  pointwise [ref, Ideal.logistic]
  rw [Cert.Heads.zero_pad]
  split
  · rw [if_pos (c := 112 ≤ (y 0 : ℕ)) (by omega)]
    split
    · blk_point []
    · refine congrArg₂ (fun a b : EReal => a * b) rfl ((softplus_at _ _).trans ?_)
      pointwise [shifted]
      blk_point []
  · rw [if_neg (c := 112 ≤ (y 0 : ℕ)) (by omega)]

/-- The decay's logarithms and shifts, zeros before them. -/
theorem cat_at (c : Dev nD) (t : Fin cfg0.N) (y : S4224x128.Idx) (h : ¬ (y 1 : ℕ) < 64) :
    iblk m c 1 t (ix2 0 (y 1)) = m ((c : Thread nD τ).loc main_arg1) (ix2 0 ⟨(y 1 : ℕ) - 64, by have h1 : (y 1 : ℕ) < 128 := (y 1).isLt; omega⟩)
      ∧ iblk m c 2 t (ix2 0 (y 1)) = m ((c : Thread nD τ).loc main_arg2) (ix2 0 ⟨(y 1 : ℕ) - 64, by have h1 : (y 1 : ℕ) < 128 := (y 1).isLt; omega⟩) := by
  constructor
  · blk_simp [iblk]
    entry_read
    pointwise
    have e : (((View.whole main_v1).slice (win0_1.rect t)).emb (ix2 0 (y 1)) 1 : ℕ) = (y 1 : ℕ) := by blk_simp [idx t]
    rw [dif_neg (by rw [e]; exact h)]
    blk_ext [idx t]
  · blk_simp [iblk]
    entry_read
    pointwise
    have e : (((View.whole main_v3).slice (win0_2.rect t)).emb (ix2 0 (y 1)) 1 : ℕ) = (y 1 : ℕ) := by blk_simp [idx t]
    rw [dif_neg (by rw [e]; exact h)]
    blk_ext [idx t]

/-- The result array is the reference's. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  rw [ref_at]
  blk_simp
  rw [after0_3]
  frame_out
  rw [pay_at]
  have e0 : (((View.whole main_v4).slice (win0_3.rect t)).emb y 0 : ℕ) = (y 0 : ℕ) := by blk_simp [idx t]
  have e1 : (((View.whole main_v4).slice (win0_3.rect t)).emb y 1 : ℕ) = (y 1 : ℕ) := by blk_simp [idx t]
  have z0 : win0_3.index t 0 * 4224 + (y 0 : ℕ) = (y 0 : ℕ) := by simp [idx t]
  have z1 : win0_3.index t 1 * 128 + (y 1 : ℕ) = (y 1 : ℕ) := by simp [idx t]
  simp only [z0, z1]
  split
  · split
    · blk_point [iblk, V, idx t]
    · rename_i h
      rw [(cat_at m c t y h).1, (cat_at m c t y h).2]
      blk_point [iblk, V, idx t]
  · rfl

end Cert.Kernel31Ideal.Val

end
-- ==== Proof.Heads.ConvFwd.lean ====
/- The short convolution over the rows and the activation after it: the call's result is the reference's. -/
module

public import proofs.«01_k».proof.Proof.Gen.Kernel32Ideal.Value
public import proofs.«01_k».proof.Proof.Gen.Reference32Ideal.Run
public import proofs.«01_k».proof.Proof.Norm.Scale
public import proofs.«01_k».proof.Proof.Heads.Act
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel32Ideal.Val

open Cert.Kernel32Ideal Cert.Kernel32Ideal.Gen Idealize.ShloMosaic Idealize.ShloMosaic.TcCoe Idealize.SL.Sem
open Idealize.ShloMosaic.Pipeline (Dat)

variable (m : (ℓ : Loc nD τ sig) → Buf (Elt Ideal) ℓ)

section ref
open Cert.Reference32Ideal Cert.Reference32Ideal.Gen

/-- The columns that are convolved, three rows of zeros before them. -/
abbrev padded (x : FVec Ideal S4224x24576 .f32) : FVec Ideal S4227x16384 .f32 :=
  pad S4227x16384 ![3, 0] ![0, 0] ![0, 0] (extractStridedSlice S4224x16384 ![0, 0] x slices_S4224x24576_S4224x16384_0_0) (sitofp .f32 (constantI S_ 32 0#32)) pads_S4224x16384_S4227x16384_300_000 h_S_

/-- The convolution: four shifted rows times their weights. -/
abbrev pre (x : FVec Ideal S4224x24576 .f32) (w : FVec Ideal S4x16384 .f32) : FVec Ideal S4224x16384 .f32 :=
  addf (addf (addf (addf (broadcastInDim S4224x16384 ![] bcast_S_S4224x16384 (constant S_ .f32 0x00000000#32)) (mulf (extractStridedSlice S4224x16384 ![0, 0] (padded x) slices_S4227x16384_S4224x16384_0_0) (broadcastInDim S4224x16384 ![0, 1] bcast_S1x16384_S4224x16384_0_1 (broadcastInDim S1x16384 ![1] bcast_S16384_S1x16384_1 (shapeCast _ (extractStridedSlice S1x16384 ![0, 0] w slices_S4x16384_S1x16384_0_0) shapeCasts_S1x16384_S16384))))) (mulf (extractStridedSlice S4224x16384 ![1, 0] (padded x) slices_S4227x16384_S4224x16384_1_0) (broadcastInDim S4224x16384 ![0, 1] bcast_S1x16384_S4224x16384_0_1 (broadcastInDim S1x16384 ![1] bcast_S16384_S1x16384_1 (shapeCast _ (extractStridedSlice S1x16384 ![1, 0] w slices_S4x16384_S1x16384_1_0) shapeCasts_S1x16384_S16384))))) (mulf (extractStridedSlice S4224x16384 ![2, 0] (padded x) slices_S4227x16384_S4224x16384_2_0) (broadcastInDim S4224x16384 ![0, 1] bcast_S1x16384_S4224x16384_0_1 (broadcastInDim S1x16384 ![1] bcast_S16384_S1x16384_1 (shapeCast _ (extractStridedSlice S1x16384 ![2, 0] w slices_S4x16384_S1x16384_2_0) shapeCasts_S1x16384_S16384))))) (mulf (extractStridedSlice S4224x16384 ![3, 0] (padded x) slices_S4227x16384_S4224x16384_3_0) (broadcastInDim S4224x16384 ![0, 1] bcast_S1x16384_S4224x16384_0_1 (broadcastInDim S1x16384 ![1] bcast_S16384_S1x16384_1 (shapeCast _ (extractStridedSlice S1x16384 ![3, 0] w slices_S4x16384_S1x16384_3_0) shapeCasts_S1x16384_S16384))))

/-- The reference's result, of the projection and the weights. -/
abbrev ref (x : FVec Ideal S4224x24576 .f32) (w : FVec Ideal S4x16384 .f32) : FVec Ideal S4224x16384 .f32 :=
  mulf (pre x w) (Host.divf (broadcastInDim S4224x16384 ![] bcast_S_S4224x16384 (constant S_ .f32 0x3F800000#32)) (addf (broadcastInDim S4224x16384 ![] bcast_S_S4224x16384 (constant S_ .f32 0x3F800000#32)) (Host.exp (Host.negf (pre x w)))))

end ref

/-- The index maps over the grid. -/
theorem idx : ∀ t : Fin cfg0.N, win0_0.index t = ![t.val / 16, t.val % 16] ∧ win0_1.index t = ![t.val / 16 * 48 - 1, t.val % 16]
    ∧ win0_2.index t = ![0, t.val % 16] ∧ win0_3.index t = ![t.val / 16, t.val % 16] :=
  (by decide +kernel : ∀ t : Fin grid0.N, _)

/-- The rows before the first block are zero. -/
theorem past : ∀ t : Fin cfg0.N, Scalar.cmpi .sgt (BitVec.ofNat 32 (grid0.coords t 0).val) 0#32 = if t.val / 16 = 0 then 0#1 else 1#1 :=
  (by decide +kernel : ∀ t : Fin grid0.N, _)

/-- A row of the block or, before it, of the block before; zero before the first. -/
def tap (x : Vec Ideal S384x1024 .f32) (b : Vec Ideal S8x1024 .f32) (i : grid0.Coords) (s : ℕ) (hs : s ≤ 3) (y : S384x1024.Idx) : EReal :=
  if h : (y 0 : ℕ) < s then Scalar.select (Scalar.cmpi .sgt (BitVec.ofNat 32 (i 0).val) 0#32) (b (ix2 ⟨8 + (y 0 : ℕ) - s, by omega⟩ (y 1))) 0
  else x (ix2 ⟨(y 0 : ℕ) - s, lt_of_le_of_lt (Nat.sub_le _ _) (y 0).isLt⟩ (y 1))

/-- A row of the array; zero before the first. -/
def row (x : FVec Ideal S4224x24576 .f32) (s : ℕ) (j : S4224x16384.Idx) : EReal :=
  if s ≤ (j 0 : ℕ) then x (ix2 ⟨(j 0 : ℕ) - s, lt_of_le_of_lt (Nat.sub_le _ _) (j 0).isLt⟩
    ⟨(j 1 : ℕ), by have h : (j 1 : ℕ) < 16384 := (j 1).isLt; omega⟩) else 0

/-- The rotated rows, below the eight of the block before. -/
theorem rot_eq (x : Vec Ideal S384x1024 .f32) (b : Vec Ideal S8x1024 .f32) (i : grid0.Coords) (s : ℕ) (hs : 1 ≤ s ∧ s ≤ 3) (y : S384x1024.Idx)
    (h : ¬ (8 + (y 0 : ℕ) + 392 - s) % 392 < 8 → (8 + (y 0 : ℕ) + 392 - s) % 392 - 8 < 384) :
    (if h1 : (8 + (y 0 : ℕ) + 392 - s) % 392 < 8 then
        Scalar.select (Scalar.cmpi .sgt (BitVec.ofNat 32 (i 0).val) 0#32) (b (ix2 ⟨(8 + (y 0 : ℕ) + 392 - s) % 392, h1⟩ (y 1))) (0 : EReal)
      else x (ix2 ⟨(8 + (y 0 : ℕ) + 392 - s) % 392 - 8, h h1⟩ (y 1))) = tap x b i s hs.2 y := by
  have hy : (y 0 : ℕ) < 384 := (y 0).isLt
  unfold tap
  split <;> split
  · congr 3; apply Fin.ext; simp only; omega
  · exfalso; omega
  · exfalso; omega
  · apply congrArg x; apply congrArg₂ ix2 _ rfl; ext; simp only; omega

/-- The kernel's entry. -/
theorem pay_at (i : grid0.Coords) (x : Vec Ideal S384x1024 .f32) (b : Vec Ideal S8x1024 .f32) (w : Vec Ideal S4x1024 .f32) (y : S384x1024.Idx) :
    out0_3 i x b w y = (fun a : EReal => a * Ideal.logistic a) (tap x b i 3 (by decide) y * w (ix2 0 (y 1)) + tap x b i 2 (by decide) y * w (ix2 1 (y 1))
      + tap x b i 1 (by decide) y * w (ix2 2 (y 1)) + x y * w (ix2 3 (y 1))) := by
  frame_out
  pointwise [k0_pay1]
  rw [rot_eq x b i 3 (by decide) y, rot_eq x b i 2 (by decide) y, rot_eq x b i 1 (by decide) y]

/-- The block's own row. -/
theorem tap_zero (x : Vec Ideal S384x1024 .f32) (b : Vec Ideal S8x1024 .f32) (i : grid0.Coords) (hs : 0 ≤ 3) (y : S384x1024.Idx) :
    tap x b i 0 hs y = x y := by
  unfold tap
  rw [dif_neg (by omega)]
  blk_point []

/-- The reference's entry. -/
theorem ref_at (x : FVec Ideal S4224x24576 .f32) (w : FVec Ideal S4x16384 .f32) (j : S4224x16384.Idx) :
    ref x w j = (fun a : EReal => a * Ideal.logistic a) (row x 3 j * w (ix2 0 (j 1)) + row x 2 j * w (ix2 1 (j 1))
      + row x 1 j * w (ix2 2 (j 1)) + row x 0 j * w (ix2 3 (j 1))) := by
  have hj : (j 0 : ℕ) < 4224 := (j 0).isLt
  pointwise [ref, pre, padded, Cert.Heads.zero_pad]
  refine congrArg (fun a : EReal => a * Ideal.logistic a) ?_
  refine congrArg₂ (fun a b : EReal => a + b) (congrArg₂ (fun a b : EReal => a + b) (congrArg₂ (fun a b : EReal => a + b) ?_ ?_) ?_) ?_
  all_goals
    refine congrArg (fun a : EReal => a * _) ?_
    unfold row
  case refine_4 => rw [if_pos (by omega)]; blk_point []
  all_goals
    split <;> split
    · blk_point []
    · exfalso; omega
    · exfalso; omega
    · rfl

/-- The block's rows are the array's. -/
theorem tap_eq (c : Dev nD) (t : Fin cfg0.N) (s : ℕ) (hs : s ≤ 3) (y) :
    tap (iblk m c 0 t) (iblk m c 1 t) (grid0.coords t) s hs y
      = row (m ((c : Thread nD τ).loc main_arg0)) s (((cfg0.win 3).blk t).view.emb y) := by
  have e : ((((cfg0.win 3).blk t).view.emb y) 0 : ℕ) = t.val / 16 * 384 + (y 0 : ℕ) := by blk_simp [idx t]
  have hy : (y 0 : ℕ) < 384 := (y 0).isLt
  have ht : t.val < 176 := lt_of_lt_of_eq t.isLt N_0
  unfold tap row
  rw [past t]
  by_cases z : t.val / 16 = 0
  · rw [if_pos z]
    split
    · rw [if_neg (by rw [e]; omega)]
      rfl
    · rw [if_pos (by rw [e]; omega)]
      blk_point [iblk, V, idx t]
  · rw [if_neg z, if_pos (c := s ≤ _) (by rw [e]; omega)]
    split
    · refine Eq.trans (b := iblk m c 1 t _) rfl ?_
      blk_point [iblk, V, idx t]
    · blk_point [iblk, V, idx t]

/-- The result array is the reference's. -/
theorem final (c : Dev nD) : (dats m 0 c).arrAt 3 (cfgs 0).N
    = ref (m ((c : Thread nD τ).loc main_arg0)) (m ((c : Thread nD τ).loc main_arg1)) := by
  refine (dats m 0 c).arrAt_eq_of_covers 3 _ (by decide +kernel) fun t _ y => ?_
  have h3 := tap_eq m c t 3 (by decide) y
  have h2 := tap_eq m c t 2 (by decide) y
  have h1 := tap_eq m c t 1 (by decide) y
  have h0 := tap_eq m c t 0 (by decide) y
  rw [ref_at, ← h3, ← h2, ← h1, ← h0]
  blk_simp
  rw [after0_3, pay_at, tap_zero]
  refine congrArg (fun a : EReal => a * Ideal.logistic a) ?_
  refine congrArg₂ (fun a b : EReal => a + b) (congrArg₂ (fun a b : EReal => a + b) (congrArg₂ (fun a b : EReal => a + b) ?_ ?_) ?_) ?_
  all_goals
    refine congrArg₂ (fun a b : EReal => a * b) rfl ?_
    blk_point [iblk, V, idx t]

end Cert.Kernel32Ideal.Val

end
-- ==== Proof.Heads.QkNormBwdBlock.lean ====
/- The backward pass of the norm of the heads of the attention's queries and keys: the call's blocks and sums, and the
   reference's results. -/
module

public import proofs.«01_k».proof.Proof.Gen.Kernel33Ideal.Value
public import proofs.«01_k».proof.Proof.Gen.Reference33Ideal.Run
public import proofs.«01_k».proof.Proof.Norm.Scale
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel33Ideal.Val

open Cert.Kernel33Ideal Cert.Kernel33Ideal.Gen Idealize.ShloMosaic Idealize.ShloMosaic.TcCoe Idealize.SL.Sem Cert.Norm
open Idealize.ShloMosaic.Pipeline (Dat)

variable (m : (ℓ : Loc nD τ sig) → Buf (Elt Ideal) ℓ)

section ref
open Cert.Reference33Ideal Cert.Reference33Ideal.Gen

/-- The heads of the rows. -/
abbrev heads (x : FVec Ideal S4224x4096 .f32) : FVec Ideal S4224x32x128 .f32 := shapeCast _ x shapeCasts_S4224x4096_S4224x32x128

/-- The mean of the squares of each head's row, with the small addend. -/
abbrev mean (x : FVec Ideal S4224x4096 .f32) : FVec Ideal S4224x32x1 .f32 :=
  addf (Host.divf (broadcastInDim S4224x32x1 ![0, 1] bcast_S4224x32_S4224x32x1_0_1
      (Host.reduceAdd (mulf (heads x) (heads x)) (constant S_ .f32 0x00000000#32) reducesTo_S4224x32x128_S4224x32_d2 h_S_))
      (broadcastInDim S4224x32x1 ![] bcast_S_S4224x32x1 (constant S_ .f32 0x43000000#32)))
    (broadcastInDim S4224x32x1 ![] bcast_S_S4224x32x1 (constant S_ .f32 0x358637BD#32))

/-- The gradient of the norm's result times the weights. -/
abbrev scaled (w : FVec Ideal S1x128 .f32) (dy : FVec Ideal S4224x4096 .f32) : FVec Ideal S4224x32x128 .f32 :=
  mulf (heads dy) (broadcastInDim S4224x32x128 ![0, 1, 2] bcast_S1x1x128_S4224x32x128_0_1_2
    (broadcastInDim S1x1x128 ![2] bcast_S128_S1x1x128_2 (shapeCast _ w shapeCasts_S1x128_S128)))

/-- The gradient through the squares, per head's row. -/
abbrev through (x : FVec Ideal S4224x4096 .f32) (w : FVec Ideal S1x128 .f32) (dy : FVec Ideal S4224x4096 .f32) : FVec Ideal S4224x32x128 .f32 :=
  broadcastInDim S4224x32x128 ![0, 1] bcast_S4224x32_S4224x32x128_0_1 (Host.reduceAdd (Host.divf (mulf (shapeCast _
      (Host.reduceAdd (mulf (heads x) (scaled w dy)) (constant S_ .f32 0x00000000#32) reducesTo_S4224x32x128_S4224x32_d2 h_S_) shapeCasts_S4224x32_S4224x32x1)
      (mulf (broadcastInDim S4224x32x1 ![] bcast_S_S4224x32x1 (constant S_ .f32 0xBF000000#32)) (Host.divf (Host.rsqrt (mean x)) (mean x))))
      (broadcastInDim S4224x32x1 ![] bcast_S_S4224x32x1 (constant S_ .f32 0x43000000#32)))
    (constant S_ .f32 0x00000000#32) reducesTo_S4224x32x1_S4224x32_d2 h_S_)

/-- The gradient of the rows before the norm. -/
abbrev gradX (x : FVec Ideal S4224x4096 .f32) (w : FVec Ideal S1x128 .f32) (dy : FVec Ideal S4224x4096 .f32) : FVec Ideal S4224x4096 .bf16 :=
  truncf .bf16 (shapeCast _ (addf (addf (mulf (scaled w dy) (broadcastInDim S4224x32x128 ![0, 1, 2] bcast_S4224x32x1_S4224x32x128_0_1_2 (Host.rsqrt (mean x))))
    (mulf (heads x) (through x w dy))) (mulf (through x w dy) (heads x))) shapeCasts_S4224x32x128_S4224x4096) Cert.Reference33Ideal.Gen.bitsLt_bf16_f32

/-- The gradient of the weights. -/
abbrev gradW (x dy : FVec Ideal S4224x4096 .f32) : FVec Ideal S1x128 .f32 :=
  broadcastInDim S1x128 ![1] bcast_S128_S1x128_1 (Host.reduceAdd (shapeCast _ (Host.reduceAdd
      (mulf (mulf (heads x) (broadcastInDim S4224x32x128 ![0, 1, 2] bcast_S4224x32x1_S4224x32x128_0_1_2 (Host.rsqrt (mean x)))) (heads dy))
      (constant S_ .f32 0x00000000#32) reducesTo_S4224x32x128_S128_d0_1 h_S_) shapeCasts_S128_S1x1x128)
    (constant S_ .f32 0x00000000#32) reducesTo_S1x1x128_S128_d0_1 h_S_)

/-- The queries before the norm. -/
abbrev colsQ (p : FVec Ideal S4224x16384 .f32) : FVec Ideal S4224x4096 .f32 := extractStridedSlice S4224x4096 ![0, 0] p slices_S4224x16384_S4224x4096_0_0

/-- The keys before the norm. -/
abbrev colsK (p : FVec Ideal S4224x16384 .f32) : FVec Ideal S4224x4096 .f32 := extractStridedSlice S4224x4096 ![0, 4096] p slices_S4224x16384_S4224x4096_0_4096

/-- The reference's gradient of the queries. -/
abbrev refQ (p : FVec Ideal S4224x16384 .f32) (w : FVec Ideal S1x128 .f32) (dy : FVec Ideal S4224x4096 .f32) : FVec Ideal S4224x4096 .bf16 := gradX (colsQ p) w dy

/-- The reference's gradient of the keys. -/
abbrev refK (p : FVec Ideal S4224x16384 .f32) (w : FVec Ideal S1x128 .f32) (dy : FVec Ideal S4224x4096 .f32) : FVec Ideal S4224x4096 .bf16 := gradX (colsK p) w dy

/-- The reference's gradient of the queries' weights. -/
abbrev refQw (p : FVec Ideal S4224x16384 .f32) (dy : FVec Ideal S4224x4096 .f32) : FVec Ideal S1x128 .f32 := gradW (colsQ p) dy

/-- The reference's gradient of the keys' weights. -/
abbrev refKw (p : FVec Ideal S4224x16384 .f32) (dy : FVec Ideal S4224x4096 .f32) : FVec Ideal S1x128 .f32 := gradW (colsK p) dy

end ref

/-- The index maps over the grid. -/
theorem idx : ∀ t : Fin cfg0.N, win0_0.index t = ![t.val / 8, t.val % 8] ∧ win0_1.index t = ![t.val / 8, 8 + t.val % 8]
    ∧ win0_2.index t = ![0, 0] ∧ win0_3.index t = ![0, 0] ∧ win0_4.index t = ![t.val / 8, t.val % 8] ∧ win0_5.index t = ![t.val / 8, t.val % 8]
    ∧ win0_6.index t = ![t.val / 8, t.val % 8] ∧ win0_7.index t = ![t.val / 8, t.val % 8] ∧ win0_8.index t = ![0, 0] ∧ win0_9.index t = ![0, 0] :=
  (by decide +kernel : ∀ t : Fin grid0.N, _)

/-- The column of a head's entry. -/
abbrev col (y : S1056x512.Idx) (k : Fin 128) : S1056x512.Idx :=
  ix2 (y 0) ⟨(y 1 : ℕ) / 128 * 128 + k, by have h : (y 1 : ℕ) < 512 := (y 1).isLt; omega⟩

/-- The reciprocal root of the mean of the squares of a block's head. -/
def root (x : Vec Ideal S1056x512 .f32) (y : S1056x512.Idx) : EReal :=
  Ideal.rsqrt (Ideal.div (∑ k : Fin 128, x (col y k) * x (col y k)) (Ideal.ofBits .f32 0x43000000#32) + Ideal.ofBits .f32 0x358637BD#32)

/-- The gradient of a block's head, at an entry. -/
def blockGrad (x : Vec Ideal S1056x512 .f32) (w : Vec Ideal S1x128 .f32) (dy : Vec Ideal S1056x512 .f32) (y : S1056x512.Idx) : EReal :=
  root x y * (dy y * w (ix2 0 ⟨(y 1 : ℕ) % 128, Nat.mod_lt _ (by decide)⟩) - x y * root x y
    * Ideal.div (∑ k : Fin 128, (dy (col y k) * w (ix2 0 k)) * (x (col y k) * root x y)) (Ideal.ofBits .f32 0x43000000#32))

/-- A head's part of the weights' gradient: the products over the block's rows. -/
def headSum (x dy : Vec Ideal S1056x512 .f32) (h : Fin 4) (j : S1x128.Idx) : EReal :=
  ∑ k : Fin 1056, dy (ix2 k ⟨h * 128 + (j 1 : ℕ), by have e : (j 1 : ℕ) < 128 := (j 1).isLt; omega⟩)
    * (x (ix2 k ⟨h * 128 + (j 1 : ℕ), by have e : (j 1 : ℕ) < 128 := (j 1).isLt; omega⟩)
      * root x (ix2 k ⟨h * 128 + (j 1 : ℕ), by have e : (j 1 : ℕ) < 128 := (j 1).isLt; omega⟩))

/-- The block of the queries' gradient that every grid point leaves. -/
theorem out6 (c : Dev nD) (t : Fin cfg0.N) (y : S1056x512.Idx) :
    (outsAt0 m c t.val t.isLt).1 y = blockGrad (iblk m c 0 t) (iblk m c 2 t) (iblk m c 4 t) y := by
  by_cases h : t.val % 32 = 0
  · rw [outsAt0_A m c t h h]
    frame_out
    canon_tiles x hx
    all_goals (pointwise [k0_pay21, k0_pay20, k0_pay19, k0_pay18, k0_pay16, k0_pay15, k0_pay14, k0_pay12, k0_pay11, k0_pay10, k0_pay6, k0_pay5, k0_pay4, blockGrad, root]; blk_point [col])
  · rw [outsAt0_B m c t h h]
    frame_out
    canon_tiles x hx
    all_goals (pointwise [k0_pay21, k0_pay20, k0_pay19, k0_pay18, k0_pay16, k0_pay15, k0_pay14, k0_pay12, k0_pay11, k0_pay10, k0_pay6, k0_pay5, k0_pay4, blockGrad, root]; blk_point [col])

/-- The block of the keys' gradient that every grid point leaves. -/
theorem out7 (c : Dev nD) (t : Fin cfg0.N) (y : S1056x512.Idx) :
    (outsAt0 m c t.val t.isLt).2.1 y = blockGrad (iblk m c 1 t) (iblk m c 3 t) (iblk m c 5 t) y := by
  by_cases h : t.val % 32 = 0
  · rw [outsAt0_A m c t h h]
    frame_out
    canon_tiles x hx
    all_goals (pointwise [k0_pay1, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, blockGrad, root]; blk_point [col])
  · rw [outsAt0_B m c t h h]
    frame_out
    canon_tiles x hx
    all_goals (pointwise [k0_pay1, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, blockGrad, root]; blk_point [col])

/-- The four heads' parts are added to the queries' sums. -/
theorem pay_add_q (x dy : Vec Ideal S1056x512 .f32) (acc : Vec Ideal S1x128 .f32) (j : S1x128.Idx) :
    k0_pay22 (View.ld x (Rect.unit ![0, 384] ![1056, 128] inb_S1056x512_S1056x128_0_384))
      (View.ld dy (Rect.unit ![0, 384] ![1056, 128] inb_S1056x512_S1056x128_0_384))
      (k0_pay18 (View.ld x (Rect.unit ![0, 384] ![1056, 128] inb_S1056x512_S1056x128_0_384)))
      (k0_pay17 (View.ld x (Rect.unit ![0, 256] ![1056, 128] inb_S1056x512_S1056x128_0_256))
        (View.ld dy (Rect.unit ![0, 256] ![1056, 128] inb_S1056x512_S1056x128_0_256))
        (k0_pay13 (View.ld x (Rect.unit ![0, 128] ![1056, 128] inb_S1056x512_S1056x128_0_128))
          (View.ld dy (Rect.unit ![0, 128] ![1056, 128] inb_S1056x512_S1056x128_0_128))
          (k0_pay9 (k0_pay7 acc)
            (k0_pay8 (View.ld x (Rect.unit ![0, 0] ![1056, 128] inb_S1056x512_S1056x128_0_0))
              (View.ld dy (Rect.unit ![0, 0] ![1056, 128] inb_S1056x512_S1056x128_0_0)))))) j
      = acc j + ∑ h : Fin 4, headSum x dy h j := by
  simp only [Fin.sum_univ_four, ← add_assoc]
  pointwise [k0_pay22, k0_pay20, k0_pay19, k0_pay18, k0_pay17, k0_pay15, k0_pay14, k0_pay13, k0_pay11, k0_pay10, k0_pay9, k0_pay8, k0_pay7, k0_pay5, k0_pay4, headSum, root]
  blk_point [col]

/-- The four heads' parts are added to the keys' sums. -/
theorem pay_add_k (x dy : Vec Ideal S1056x512 .f32) (acc : Vec Ideal S1x128 .f32) (j : S1x128.Idx) :
    k0_pay2 (View.ld dy (Rect.unit ![0, 384] ![1056, 128] inb_S1056x512_S1056x128_0_384)) (k0_pay40 (View.ld x (Rect.unit ![0, 384] ![1056, 128] inb_S1056x512_S1056x128_0_384)))
      (k0_pay38 (View.ld dy (Rect.unit ![0, 256] ![1056, 128] inb_S1056x512_S1056x128_0_256)) (k0_pay36 (View.ld x (Rect.unit ![0, 256] ![1056, 128] inb_S1056x512_S1056x128_0_256)))
        (k0_pay34 (View.ld x (Rect.unit ![0, 128] ![1056, 128] inb_S1056x512_S1056x128_0_128)) (View.ld dy (Rect.unit ![0, 128] ![1056, 128] inb_S1056x512_S1056x128_0_128)) (k0_pay29 (View.ld x (Rect.unit ![0, 128] ![1056, 128] inb_S1056x512_S1056x128_0_128))) k0_pay30
          (k0_pay28 (View.ld x (Rect.unit ![0, 0] ![1056, 128] inb_S1056x512_S1056x128_0_0)) (View.ld dy (Rect.unit ![0, 0] ![1056, 128] inb_S1056x512_S1056x128_0_0)) (k0_pay24 (View.ld x (Rect.unit ![0, 0] ![1056, 128] inb_S1056x512_S1056x128_0_0))) acc))) j
      = acc j + ∑ h : Fin 4, headSum x dy h j := by
  simp only [Fin.sum_univ_four, ← add_assoc]
  pointwise [k0_pay2, k0_pay1, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, headSum, root]
  blk_point [col]

/-- The sums start at zero. -/
theorem pay_zero (j) : k0_pay3 (F := Ideal) j = 0 ∧ k0_pay23 (F := Ideal) j = 0 := by
  constructor
  · pointwise [k0_pay3]
  · pointwise [k0_pay23]

/-- The queries' sums after the last grid point. -/
theorem sums_q (c : Dev nD) (t : Fin cfg0.N) (h : t.val % 32 = 31) (j : S1x128.Idx) : (outsAt0 m c t.val t.isLt).2.2.1 j
    = ∑ s : Fin 32, ∑ h' : Fin 4, headSum (iblk m c 0 ⟨32 * (t.val / 32) + s.val, Pipeline.run_point_lt_of_flush t h s⟩) (iblk m c 4 ⟨32 * (t.val / 32) + s.val, Pipeline.run_point_lt_of_flush t h s⟩) h' j := by
  rw [Pipeline.eq_sum_fin_of_reset_step_apply_of_flush (fun n h => (outsAt0 m c n h).2.2.1) 32 (fun _ => 0) _
    (fun t h j => by rw [outsAt0_A m c t h h]; frame_out; rw [pay_add_q, (pay_zero j).1])
    (fun t h j => by rw [outsAt0_B m c t h h]; frame_out; rw [pay_add_q])
    t h j, zero_add]

/-- The keys' sums after the last grid point. -/
theorem sums_k (c : Dev nD) (t : Fin cfg0.N) (h : t.val % 32 = 31) (j : S1x128.Idx) : (outsAt0 m c t.val t.isLt).2.2.2 j
    = ∑ s : Fin 32, ∑ h' : Fin 4, headSum (iblk m c 1 ⟨32 * (t.val / 32) + s.val, Pipeline.run_point_lt_of_flush t h s⟩) (iblk m c 5 ⟨32 * (t.val / 32) + s.val, Pipeline.run_point_lt_of_flush t h s⟩) h' j := by
  rw [Pipeline.eq_sum_fin_of_reset_step_apply_of_flush (fun n h => (outsAt0 m c n h).2.2.2) 32 (fun _ => 0) _
    (fun t h j => by rw [outsAt0_A m c t h h]; frame_out; rw [pay_add_k, (pay_zero j).2])
    (fun t h j => by rw [outsAt0_B m c t h h]; frame_out; rw [pay_add_k])
    t h j, zero_add]

end Cert.Kernel33Ideal.Val

end
-- ==== Proof.Heads.QkNormBwd.lean ====
/- The backward pass of the norm of the heads of the attention's queries and keys: the call's four results are the reference's. -/
module

public import proofs.«01_k».proof.Proof.Gen.Kernel33Ideal.Value
public import proofs.«01_k».proof.Proof.Gen.Reference33Ideal.Run
public import proofs.«01_k».proof.Proof.Heads.Act
public import proofs.«01_k».proof.Proof.Heads.QkNormBwdBlock
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel33Ideal.Val

open Cert.Kernel33Ideal Cert.Kernel33Ideal.Gen Idealize.ShloMosaic Idealize.ShloMosaic.TcCoe Idealize.SL.Sem Cert.Norm
open Idealize.ShloMosaic.Pipeline (Dat)

variable (m : (ℓ : Loc nD τ sig) → Buf (Elt Ideal) ℓ)

/-- The gradient of the queries is the reference's. -/
theorem final_q (c : Dev nD) : (dats m 0 c).arrAt 6 (cfgs 0).N
    = refQ (m ((c : Thread nD τ).loc main_arg0)) (m ((c : Thread nD τ).loc main_arg1)) (m ((c : Thread nD τ).loc main_arg3)) := by
  refine (dats m 0 c).arrAt_eq_of_covers 6 _ (by decide +kernel) fun t _ y => ?_
  have ht : t.val < 32 := lt_of_lt_of_eq t.isLt N_0
  blk_simp
  rw [after0_6, out6]
  pointwise [blockGrad, root, refQ, gradX, through, scaled, mean, heads]
  refine (dx_head _ _ _ _ _ (mean_pos_head _)).trans ?_
  simp only [Fin.sum_univ_one]
  blk_point [iblk, V, idx t, col]

/-- The gradient of the keys is the reference's. -/
theorem final_k (c : Dev nD) : (dats m 0 c).arrAt 7 (cfgs 0).N
    = refK (m ((c : Thread nD τ).loc main_arg0)) (m ((c : Thread nD τ).loc main_arg2)) (m ((c : Thread nD τ).loc main_arg4)) := by
  refine (dats m 0 c).arrAt_eq_of_covers 7 _ (by decide +kernel) fun t _ y => ?_
  have ht : t.val < 32 := lt_of_lt_of_eq t.isLt N_0
  blk_simp
  rw [after0_7, out7]
  pointwise [blockGrad, root, refK, gradX, through, scaled, mean, heads]
  refine (dx_head _ _ _ _ _ (mean_pos_head _)).trans ?_
  simp only [Fin.sum_univ_one]
  blk_point [iblk, V, idx t, col]

/-- The gradient of the queries' weights is the reference's. -/
theorem final_qw (c : Dev nD) : (dats m 0 c).arrAt 8 (cfgs 0).N
    = refQw (m ((c : Thread nD τ).loc main_arg0)) (m ((c : Thread nD τ).loc main_arg3)) := by
  refine (dats m 0 c).arrAt_eq_of_covers 8 _ (by decide +kernel) fun t hf y => ?_
  have h5 := (flush0_8 t).mp hf
  blk_simp
  rw [after0_8]
  refine (sums_q m c t h5 _).trans ?_
  pointwise [refQw, gradW, mean, heads, Cert.Heads.reduce_leading]
  simp only [Fin.sum_univ_one]
  refine Eq.trans ?_ (Cert.Heads.resum _)
  refine Finset.sum_congr rfl fun s _ => Finset.sum_congr rfl fun h _ => Finset.sum_congr rfl fun k _ => ?_
  have hs := idx ⟨32 * (t.val / 32) + s.val, Pipeline.run_point_lt_of_flush t h5 s⟩
  have ht : t.val < 32 := lt_of_lt_of_eq t.isLt N_0
  refine (mul_comm (_ : EReal) _).trans ?_
  unfold root
  blk_point [iblk, V, idx t, hs, col]

/-- The gradient of the keys' weights is the reference's. -/
theorem final_kw (c : Dev nD) : (dats m 0 c).arrAt 9 (cfgs 0).N
    = refKw (m ((c : Thread nD τ).loc main_arg0)) (m ((c : Thread nD τ).loc main_arg4)) := by
  refine (dats m 0 c).arrAt_eq_of_covers 9 _ (by decide +kernel) fun t hf y => ?_
  have h5 := (flush0_9 t).mp hf
  blk_simp
  rw [after0_9]
  refine (sums_k m c t h5 _).trans ?_
  pointwise [refKw, gradW, mean, heads, Cert.Heads.reduce_leading]
  simp only [Fin.sum_univ_one]
  refine Eq.trans ?_ (Cert.Heads.resum _)
  refine Finset.sum_congr rfl fun s _ => Finset.sum_congr rfl fun h _ => Finset.sum_congr rfl fun k _ => ?_
  have hs := idx ⟨32 * (t.val / 32) + s.val, Pipeline.run_point_lt_of_flush t h5 s⟩
  have ht : t.val < 32 := lt_of_lt_of_eq t.isLt N_0
  refine (mul_comm (_ : EReal) _).trans ?_
  unfold root
  blk_point [iblk, V, idx t, hs, col]

end Cert.Kernel33Ideal.Val

end
-- ==== Proof.Heads.Claims.lean ====
/- The claims of the norms of the heads, of the gates and of the convolution: each reference's frame, and each call's
   results equal to its reference's. -/
module

public import proofs.«01_k».proof.Defs
public import proofs.«01_k».proof.Proof.Heads.QkNormFwd
public import proofs.«01_k».proof.Proof.Heads.OutNormFwd
public import proofs.«01_k».proof.Proof.Heads.GatesFwd
public import proofs.«01_k».proof.Proof.Heads.ConvFwd
public import proofs.«01_k».proof.Proof.Heads.QkNormBwd

@[expose] public section

noncomputable section

namespace Cert.Heads

open Idealize.ShloMosaic Idealize.SL.Sem

/-- The reference of the norm of the attention's heads runs, keeps its arguments and ends with every counter at zero. -/
theorem frame29 : Cert.quiescent_Reference29Ideal (hReference29Ideal := Cert.Reference29Ideal.Gen.facts) :=
  fun m ρ _ => (θ_run Cert.Reference29Ideal.defs _ _).mono
    (fun _ h => ⟨fun c => (h c).2.2.2, Idealize.ShloMosaic.sem_eq_zero_of_no_sems (by decide) _⟩) (Cert.Reference29Ideal.Value.run m ρ)

/-- The call's results are the reference's: the norm of the attention's heads. -/
theorem algebraic29 : Cert.algebraic_Kernel29Ideal_Reference29Ideal
    (hKernel29Ideal := Cert.Kernel29Ideal.Gen.facts) (hReference29Ideal := Cert.Reference29Ideal.Gen.facts) :=
  fun m ρ m' ρ' _ ha => ⟨fun c => Cert.Kernel29Ideal.Val.refQ (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)),
    fun c => Cert.Kernel29Ideal.Val.refK (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg2)),
    fun c => Cert.Kernel29Ideal.Val.refV (m ((c.tc : Thread Cert.Kernel29Ideal.nD Cert.Kernel29Ideal.τ).loc Cert.Kernel29Ideal.main_arg0)),
    (θ_run Cert.Kernel29Ideal.defs _ _).mono (fun _ h c => by
      obtain ⟨h0, h1, h2, h⟩ := h c
      exact ⟨h0.trans (Cert.Kernel29Ideal.Val.final_q m c), h1.trans (Cert.Kernel29Ideal.Val.final_k m c), h2.trans (Cert.Kernel29Ideal.Val.final_v m c), h⟩) (Cert.Kernel29Ideal.Value.run_blocks m ρ),
    (θ_run Cert.Reference29Ideal.defs _ _).mono (fun _ h c => by
      obtain ⟨h0, h1, h2, h⟩ := h c
      obtain ⟨e0, e1, e2⟩ := ha c
      exact ⟨h0.trans (by rw [e0, e1] <;> rfl), h1.trans (by rw [e0, e2] <;> rfl), h2.trans (by rw [e0] <;> rfl), h⟩) (Cert.Reference29Ideal.Value.run m' ρ')⟩

/-- The reference of the norm of the delta rule's output runs, keeps its arguments and ends with every counter at zero. -/
theorem frame30 : Cert.quiescent_Reference30Ideal (hReference30Ideal := Cert.Reference30Ideal.Gen.facts) :=
  fun m ρ _ => (θ_run Cert.Reference30Ideal.defs _ _).mono
    (fun _ h => ⟨fun c => (h c).2, Idealize.ShloMosaic.sem_eq_zero_of_no_sems (by decide) _⟩) (Cert.Reference30Ideal.Value.run m ρ)

/-- The call's results are the reference's: the norm of the delta rule's output. -/
theorem algebraic30 : Cert.algebraic_Kernel30Ideal_Reference30Ideal
    (hKernel30Ideal := Cert.Kernel30Ideal.Gen.facts) (hReference30Ideal := Cert.Reference30Ideal.Gen.facts) :=
  fun m ρ m' ρ' _ ha => ⟨fun c => Cert.Kernel30Ideal.Val.ref (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)),
    (θ_run Cert.Kernel30Ideal.defs _ _).mono (fun _ h c => by
      obtain ⟨h0, h⟩ := h c
      exact ⟨h0.trans (Cert.Kernel30Ideal.Val.final m c), h⟩) (Cert.Kernel30Ideal.Value.run_blocks m ρ),
    (θ_run Cert.Reference30Ideal.defs _ _).mono (fun _ h c => by
      obtain ⟨h0, h⟩ := h c
      obtain ⟨e0, e1, e2⟩ := ha c
      exact ⟨h0.trans (by rw [e0, e1, e2] <;> rfl), h⟩) (Cert.Reference30Ideal.Value.run m' ρ')⟩

/-- The reference of the gates runs, keeps its arguments and ends with every counter at zero. -/
theorem frame31 : Cert.quiescent_Reference31Ideal (hReference31Ideal := Cert.Reference31Ideal.Gen.facts) :=
  fun m ρ _ => (θ_run Cert.Reference31Ideal.defs _ _).mono
    (fun _ h => ⟨fun c => (h c).2, Idealize.ShloMosaic.sem_eq_zero_of_no_sems (by decide) _⟩) (Cert.Reference31Ideal.Value.run m ρ)

/-- The call's results are the reference's: the gates. -/
theorem algebraic31 : Cert.algebraic_Kernel31Ideal_Reference31Ideal
    (hKernel31Ideal := Cert.Kernel31Ideal.Gen.facts) (hReference31Ideal := Cert.Reference31Ideal.Gen.facts) :=
  fun m ρ m' ρ' _ ha => ⟨fun c => Cert.Kernel31Ideal.Val.ref (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)),
    (θ_run Cert.Kernel31Ideal.defs _ _).mono (fun _ h c => by
      obtain ⟨h0, h⟩ := h c
      exact ⟨h0.trans (Cert.Kernel31Ideal.Val.final m c), h⟩) (Cert.Kernel31Ideal.Value.run_blocks m ρ),
    (θ_run Cert.Reference31Ideal.defs _ _).mono (fun _ h c => by
      obtain ⟨h0, h⟩ := h c
      obtain ⟨e0, e1, e2⟩ := ha c
      exact ⟨h0.trans (by rw [e0, e1, e2] <;> rfl), h⟩) (Cert.Reference31Ideal.Value.run m' ρ')⟩

/-- The reference of the convolution runs, keeps its arguments and ends with every counter at zero. -/
theorem frame32 : Cert.quiescent_Reference32Ideal (hReference32Ideal := Cert.Reference32Ideal.Gen.facts) :=
  fun m ρ _ => (θ_run Cert.Reference32Ideal.defs _ _).mono
    (fun _ h => ⟨fun c => (h c).2, Idealize.ShloMosaic.sem_eq_zero_of_no_sems (by decide) _⟩) (Cert.Reference32Ideal.Value.run m ρ)

/-- The call's results are the reference's: the convolution. -/
theorem algebraic32 : Cert.algebraic_Kernel32Ideal_Reference32Ideal
    (hKernel32Ideal := Cert.Kernel32Ideal.Gen.facts) (hReference32Ideal := Cert.Reference32Ideal.Gen.facts) :=
  fun m ρ m' ρ' _ ha => ⟨fun c => Cert.Kernel32Ideal.Val.ref (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)),
    (θ_run Cert.Kernel32Ideal.defs _ _).mono (fun _ h c => by
      obtain ⟨h0, h⟩ := h c
      exact ⟨h0.trans (Cert.Kernel32Ideal.Val.final m c), h⟩) (Cert.Kernel32Ideal.Value.run_blocks m ρ),
    (θ_run Cert.Reference32Ideal.defs _ _).mono (fun _ h c => by
      obtain ⟨h0, h⟩ := h c
      obtain ⟨e0, e1⟩ := ha c
      exact ⟨h0.trans (by unfold Cert.Reference32Ideal.Value.res_main_v31; rw [e0, e1] <;> rfl), h⟩) (Cert.Reference32Ideal.Value.run m' ρ')⟩

/-- The reference of the backward pass of the norm of the attention's heads runs, keeps its arguments and ends with every counter at zero. -/
theorem frame33 : Cert.quiescent_Reference33Ideal (hReference33Ideal := Cert.Reference33Ideal.Gen.facts) :=
  fun m ρ _ => (θ_run Cert.Reference33Ideal.defs _ _).mono
    (fun _ h => ⟨fun c => (h c).2.2.2.2, Idealize.ShloMosaic.sem_eq_zero_of_no_sems (by decide) _⟩) (Cert.Reference33Ideal.Value.run m ρ)

/-- The call's results are the reference's: the backward pass of the norm of the attention's heads. -/
theorem algebraic33 : Cert.algebraic_Kernel33Ideal_Reference33Ideal
    (hKernel33Ideal := Cert.Kernel33Ideal.Gen.facts) (hReference33Ideal := Cert.Reference33Ideal.Gen.facts) :=
  fun m ρ m' ρ' _ ha => ⟨fun c => Cert.Kernel33Ideal.Val.refQ (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg3)),
    fun c => Cert.Kernel33Ideal.Val.refK (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg4)),
    fun c => Cert.Kernel33Ideal.Val.refQw (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg3)),
    fun c => Cert.Kernel33Ideal.Val.refKw (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg4)),
    (θ_run Cert.Kernel33Ideal.defs _ _).mono (fun _ h c => by
      obtain ⟨h0, h1, h2, h3, h⟩ := h c
      exact ⟨h0.trans (Cert.Kernel33Ideal.Val.final_q m c), h1.trans (Cert.Kernel33Ideal.Val.final_k m c), h2.trans (Cert.Kernel33Ideal.Val.final_qw m c), h3.trans (Cert.Kernel33Ideal.Val.final_kw m c), h⟩) (Cert.Kernel33Ideal.Value.run_blocks m ρ),
    (θ_run Cert.Reference33Ideal.defs _ _).mono (fun _ h c => by
      obtain ⟨h0, h1, h2, h3, h⟩ := h c
      obtain ⟨e0, e1, e2, e3, e4⟩ := ha c
      exact ⟨h0.trans (by unfold Cert.Reference33Ideal.Value.res_main_v86; rw [e0, e1, e3] <;> rfl), h1.trans (by unfold Cert.Reference33Ideal.Value.res_main_v87; rw [e0, e2, e4] <;> rfl), h2.trans (by rw [e0, e3] <;> rfl), h3.trans (by rw [e0, e4] <;> rfl), h⟩) (Cert.Reference33Ideal.Value.run m' ρ')⟩

end Cert.Heads

end
-- ==== Proof.Bwd.Heads.lean ====
/- The backward scan's body, head by head. Each grid point handles 32 heads, and every output block is stored
   as 32 tiles of one shape. `hDvn`, `hDw`, … are one head's payloads as functions of the head's number; the
   lemmas `dvn_A`, `dvn_B`, … say that what a grid point leaves in an output block is the list of those 32 tiles. -/
module

public import proofs.«01_k».proof.Proof.Gen.KernelIdeal.Frame
public import Idealize.ShloMosaic.Lib.Pipeline.ValueKit
public import Idealize.ShloMosaic.Lib.WritesUnit

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-! ## Where head `e` of the 32 lies in each block -/

/-- Head `e`'s columns of a wide block. -/
def colOff (e : Fin 32) : Fin S64x4096.rank → ℕ := ![0, 128 * e.val]
/-- Head `e`'s plane of a square block. -/
def sqOff (e : Fin 32) : Fin S32x64x64.rank → ℕ := ![e.val, 0, 0]
/-- Head `e`'s saved state. -/
def stOff (e : Fin 32) : Fin S1x32x128x128.rank → ℕ := ![0, e.val, 0, 0]
/-- Head `e`'s plane of the carried gradient. -/
def dsOff (e : Fin 32) : Fin S32x128x128.rank → ℕ := ![e.val, 0, 0]
/-- Head `e`'s row of log decays: heads are stored two to a group, the decays in rows 2 and 3. -/
def gOff (e : Fin 32) : Fin S16x1x8x64.rank → ℕ := ![e.val / 2, 0, 2 + e.val % 2, 0]
/-- Head `e`'s row of the decay gradient's block. -/
def sdOff (e : Fin 32) : Fin S1x1x32x128.rank → ℕ := ![0, 0, e.val, 0]

/-- The columns lie in the block. -/
theorem colInb (e : Fin 32) : ∀ a, colOff e a + S64x128.size a ≤ S64x4096.size a := by
  revert e; decide
/-- The plane lies in the block. -/
theorem sqInb (e : Fin 32) : ∀ a, sqOff e a + S1x64x64.size a ≤ S32x64x64.size a := by
  revert e; decide
/-- The state lies in the block. -/
theorem stInb (e : Fin 32) : ∀ a, stOff e a + S1x1x128x128.size a ≤ S1x32x128x128.size a := by
  revert e; decide
/-- The plane lies in the scratch. -/
theorem dsInb (e : Fin 32) : ∀ a, dsOff e a + S1x128x128.size a ≤ S32x128x128.size a := by
  revert e; decide
/-- The row lies in the block. -/
theorem gInb (e : Fin 32) : ∀ a, gOff e a + S1x1x1x64.size a ≤ S16x1x8x64.size a := by
  revert e; decide
/-- The row lies in the block. -/
theorem sdInb (e : Fin 32) : ∀ a, sdOff e a + S1x1x1x128.size a ≤ S1x1x32x128.size a := by
  revert e; decide

/-- Head `e`'s columns of a wide block `x`. -/
abbrev ldCol {ty : EltTy} (x : Vec Ideal S64x4096 ty) (e : Fin 32) : Vec Ideal S64x128 ty :=
  View.ld x (Rect.unit (s := S64x4096) (colOff e) S64x128.size (colInb e))

/-- Head `e`'s plane of the carried gradient, as the body casts it. -/
abbrev hDs (s : Vec Ideal S32x128x128 .f32) (e : Fin 32) : FVec Ideal S128x128 .f32 :=
  k0_pay37 (View.ld s (Rect.unit (s := S32x128x128) (dsOff e) S1x128x128.size (dsInb e)))

/-! ## One head's payloads -/

/-- The head's decay over the chunk, `exp` of the sum of its log decays. -/
abbrev hDec (x7 : Vec Ideal S16x1x8x64 .f32) (e : Fin 32) : FVec Ideal S1x1 .f32 :=
  k0_pay165 (View.ld x7 (Rect.unit (s := S16x1x8x64) (gOff e) S1x1x1x64.size (gInb e)))

/-- The head's saved state. -/
abbrev hSt (x6 : Vec Ideal S1x32x128x128 .f32) (e : Fin 32) : FVec Ideal S128x128 .f32 :=
  k0_pay5 (View.ld x6 (Rect.unit (s := S1x32x128x128) (stOff e) S1x1x128x128.size (stInb e)))

/-- The gradient of the new values, `pᵀ·do + kd·dS`. -/
abbrev hDvn (x0 : Vec Ideal S64x4096 .f32) (x3 : Vec Ideal S64x4096 .bf16) (x4 : Vec Ideal S32x64x64 .bf16)
    (d : Fin 32 → FVec Ideal S128x128 .f32) (e : Fin 32) : FVec Ideal S64x128 .bf16 :=
  k0_pay397 (k0_pay197 (k0_pay133 (ldCol x0 e)) (View.ld x4 (Rect.unit (s := S32x64x64) (sqOff e) S1x64x64.size (sqInb e))))
    (k0_pay230 (k0_pay101 (d e)) (ldCol x3 e))

/-- The gradient of `w`, `-(dvn·Sᵀ)`. -/
abbrev hDw (x0 : Vec Ideal S64x4096 .f32) (x3 : Vec Ideal S64x4096 .bf16) (x4 : Vec Ideal S32x64x64 .bf16)
    (x6 : Vec Ideal S1x32x128x128 .f32) (d : Fin 32 → FVec Ideal S128x128 .f32) (e : Fin 32) : FVec Ideal S64x128 .bf16 :=
  k0_pay496 (k0_pay462 (k0_pay69 (hSt x6 e)) (hDvn x0 x3 x4 d e))

/-- The gradient of the decayed queries, `do·Sᵀ`. -/
abbrev hDqd (x0 : Vec Ideal S64x4096 .f32) (x6 : Vec Ideal S1x32x128x128 .f32) (e : Fin 32) : FVec Ideal S64x128 .f32 :=
  k0_pay294 (k0_pay69 (hSt x6 e)) (k0_pay133 (ldCol x0 e))

/-- The gradient of the decayed keys, `vn·dSᵀ`. -/
abbrev hDkd (x5 : Vec Ideal S64x4096 .bf16) (d : Fin 32 → FVec Ideal S128x128 .f32) (e : Fin 32) : FVec Ideal S64x128 .f32 :=
  k0_pay326 (k0_pay101 (d e)) (ldCol x5 e)

/-- The gradient of the in-chunk attention, `do·vnᵀ` on and below the diagonal. -/
abbrev hDp (x0 : Vec Ideal S64x4096 .f32) (x5 : Vec Ideal S64x4096 .bf16) (e : Fin 32) : FVec Ideal S1x64x64 .f32 :=
  k0_pay497 k0_pay4 (k0_pay362 (k0_pay133 (ldCol x0 e)) (k0_pay361 (ldCol x5 e)) (constant S64x64 FTy.f32 0#32))

/-- The gradient of the log decay, `exp(gl)·Σ S∘dS`, along a row. -/
abbrev hSd (x6 : Vec Ideal S1x32x128x128 .f32) (x7 : Vec Ideal S16x1x8x64 .f32) (d : Fin 32 → FVec Ideal S128x128 .f32)
    (e : Fin 32) : FVec Ideal S1x1x1x128 .f32 :=
  k0_pay498 (hSt x6 e) (d e) (hDec x7 e)

/-- The state's gradient before the chunk, `qdᵀ·do + exp(gl)·dS - wᵀ·dvn`. -/
abbrev hNext (x0 : Vec Ideal S64x4096 .f32) (x1 x2 x3 : Vec Ideal S64x4096 .bf16) (x4 : Vec Ideal S32x64x64 .bf16)
    (x7 : Vec Ideal S16x1x8x64 .f32) (d : Fin 32 → FVec Ideal S128x128 .f32) (e : Fin 32) : FVec Ideal S1x128x128 .f32 :=
  k0_pay495 (k0_pay494 (d e) (hDec x7 e) (k0_pay262 (k0_pay133 (ldCol x0 e)) (ldCol x2 e))
    (k0_pay430 (hDvn x0 x3 x4 d e) (ldCol x1 e)))

/-! ## The 32 tiles of an output block -/

/-- 32 tiles of a wide block. -/
abbrev wideTiles {ty : EltTy} (P : Fin 32 → Vec Ideal S64x128 ty) : List (View.Piece (Elt Ideal) S64x4096 ty) :=
  View.tilePieces (s := S64x4096) S64x128.size colOff colInb P 32 (le_refl 32)
/-- 32 planes of a square block. -/
abbrev sqTiles (P : Fin 32 → Vec Ideal S1x64x64 .f32) : List (View.Piece (Elt Ideal) S32x64x64 .f32) :=
  View.tilePieces (s := S32x64x64) S1x64x64.size sqOff sqInb P 32 (le_refl 32)
/-- 32 rows of the decay gradient's block. -/
abbrev sdTiles (P : Fin 32 → Vec Ideal S1x1x1x128 .f32) : List (View.Piece (Elt Ideal) S1x1x32x128 .f32) :=
  View.tilePieces (s := S1x1x32x128) S1x1x1x128.size sdOff sdInb P 32 (le_refl 32)
/-- 32 planes of the carried gradient. -/
abbrev dsTiles (P : Fin 32 → Vec Ideal S1x128x128 .f32) : List (View.Piece (Elt Ideal) S32x128x128 .f32) :=
  View.tilePieces (s := S32x128x128) S1x128x128.size dsOff dsInb P 32 (le_refl 32)

variable (m : (ℓ : Loc nD τ sig) → Buf (Elt Ideal) ℓ)

/-- The carried gradient the point `t` starts from, when it is not a run's first point: what the point before left. -/
abbrev prevDs (c : Dev nD) (t : Fin cfg0.N) : Vec Ideal S32x128x128 .f32 :=
  (outsAt0 m c (t.val - 1) (Nat.lt_of_le_of_lt (Nat.sub_le _ _) t.isLt)).2.2.2.2.2.2

/-- The whole of the carried gradient. -/
abbrev dsWhole : Rect S32x128x128 := Rect.unit ![0, 0, 0] S32x128x128.size (by decide)

/-- A run's first point stores zeros over the carried gradient before any head is read. -/
abbrev zeroPiece : View.Piece (Elt Ideal) S32x128x128 .f32 := ⟨dsWhole, k0_pay3 (F := Ideal)⟩

/-- Head `e`'s plane of the carried gradient at a run's first point. -/
abbrev hDs0 (e : Fin 32) : FVec Ideal S128x128 .f32 :=
  k0_pay37 ((View.whole cc0_scratch0).readCov [zeroPiece] (Rect.unit (s := S32x128x128) (dsOff e) S1x128x128.size (dsInb e)).toLoadRect)

end Cert.KernelIdeal.Val

end
-- ==== Proof.Bwd.Pay.lean ====
/- One head's payloads of the backward scan's body as sums over the blocks they are read from. -/
module

public import proofs.«01_k».proof.Proof.Bwd.Heads
public import Idealize.ShloMosaic.Lib.Pointwise
public import Idealize.ShloMosaic.Lib.ValueIdx

@[expose] public section

set_option maxRecDepth 16384

noncomputable section

namespace Cert.KernelIdeal.Val

open Cert.KernelIdeal Cert.KernelIdeal.Gen Idealize.ShloMosaic Idealize.ShloMosaic.TcCoe Idealize.SL.Sem

/-- Column `v` of head `e` among a block's 32. -/
def hcol (e : Fin 32) (v : Fin 128) : Fin 4096 := ⟨128 * e.val + v.val, by omega⟩
/-- The pair of heads `e` belongs to, among a block's 16. -/
def hpair (e : Fin 32) : Fin 16 := ⟨e.val / 2, by omega⟩
/-- The row of head `e`'s log decays among its pair's gate rows. -/
def hlane (e : Fin 32) : Fin 8 := ⟨2 + e.val % 2, by omega⟩

/-- Head `e`'s columns of a wide block at an index. -/
theorem ldCol_apply {ty : EltTy} (x : Vec Ideal S64x4096 ty) (e : Fin 32) (i : Fin 64) (v : Fin 128) :
    ldCol x e (ix2 i v) = x (ix2 i (hcol e v)) :=
  View.ld_unit_apply_of x _ _ _ _ _ fun a => by match a with | ⟨0, _⟩ => exact (Nat.zero_add _).symm | ⟨1, _⟩ => rfl

/-- Head `e`'s plane of a square block at an index. -/
theorem ldSq_apply {ty : EltTy} (x : Vec Ideal S32x64x64 ty) (e : Fin 32) (z : Fin 1) (i j : Fin 64) :
    View.ld x (Rect.unit (s := S32x64x64) (sqOff e) S1x64x64.size (sqInb e)) (ix3 z i j) = x (ix3 e i j) :=
  View.ld_unit_apply_of x _ _ _ _ _ fun a => by
    match a with
    | ⟨0, _⟩ => show e.val = e.val + z.val; omega
    | ⟨1, _⟩ => exact (Nat.zero_add _).symm
    | ⟨2, _⟩ => exact (Nat.zero_add _).symm

/-- Head `e`'s saved state at an index. -/
theorem ldSt_apply (x : Vec Ideal S1x32x128x128 .f32) (e : Fin 32) (z z' : Fin 1) (i j : Fin 128) :
    View.ld x (Rect.unit (s := S1x32x128x128) (stOff e) S1x1x128x128.size (stInb e)) (ix4 z z' i j) = x (ix4 0 e i j) :=
  View.ld_unit_apply_of x _ _ _ _ _ fun a => by
    match a with
    | ⟨0, _⟩ => show 0 = 0 + z.val; omega
    | ⟨1, _⟩ => show e.val = e.val + z'.val; omega
    | ⟨2, _⟩ => exact (Nat.zero_add _).symm
    | ⟨3, _⟩ => exact (Nat.zero_add _).symm

/-- Head `e`'s plane of the carried gradient at an index. -/
theorem ldDs_apply (x : Vec Ideal S32x128x128 .f32) (e : Fin 32) (z : Fin 1) (i j : Fin 128) :
    View.ld x (Rect.unit (s := S32x128x128) (dsOff e) S1x128x128.size (dsInb e)) (ix3 z i j) = x (ix3 e i j) :=
  View.ld_unit_apply_of x _ _ _ _ _ fun a => by
    match a with
    | ⟨0, _⟩ => show e.val = e.val + z.val; omega
    | ⟨1, _⟩ => exact (Nat.zero_add _).symm
    | ⟨2, _⟩ => exact (Nat.zero_add _).symm

/-- Head `e`'s log decays at an index. -/
theorem ldG_apply (x : Vec Ideal S16x1x8x64 .f32) (e : Fin 32) (z z' z'' : Fin 1) (j : Fin 64) :
    View.ld x (Rect.unit (s := S16x1x8x64) (gOff e) S1x1x1x64.size (gInb e)) (ix4 z z' z'' j)
      = x (ix4 (hpair e) 0 (hlane e) j) :=
  View.ld_unit_apply_of x _ _ _ _ _ fun a => by
    match a with
    | ⟨0, _⟩ => show e.val / 2 = e.val / 2 + z.val; omega
    | ⟨1, _⟩ => show 0 = 0 + z'.val; omega
    | ⟨2, _⟩ => show 2 + e.val % 2 = 2 + e.val % 2 + z''.val; omega
    | ⟨3, _⟩ => exact (Nat.zero_add _).symm

/-- A plane of the carried gradient, cast. -/
theorem hDs_apply (s : Vec Ideal S32x128x128 .f32) (e : Fin 32) (k v : Fin 128) : hDs s e (ix2 k v) = s (ix3 e k v) := by
  have h : ∀ x : FVec Ideal S1x128x128 .f32, k0_pay37 x (ix2 k v) = x (ix3 0 k v) := fun x => by
    unfold k0_pay37; pointwise
  exact (h _).trans (ldDs_apply s e 0 k v)

/-- At a run's first point every plane of the carried gradient is zero. -/
theorem hDs0_apply (e : Fin 32) (k v : Fin 128) : hDs0 e (ix2 k v) = 0 := by
  have h : ∀ x : FVec Ideal S1x128x128 .f32, k0_pay37 x (ix2 k v) = x (ix3 0 k v) := fun x => by
    unfold k0_pay37; pointwise
  have hz : (![0, 0, 0] : Fin 3 → ℕ) = fun _ => 0 := funext fun a => by fin_cases a <;> rfl
  refine (h _).trans ?_
  rw [View.readCov_eq_canon', View.canon_cons_unit_zero (S := S32x128x128) hz]
  unfold k0_pay3
  pointwise

/-- The saved state, cast. -/
theorem hSt_apply (x6 : Vec Ideal S1x32x128x128 .f32) (e : Fin 32) (k v : Fin 128) :
    hSt x6 e (ix2 k v) = x6 (ix4 0 e k v) := by
  have h : ∀ x : FVec Ideal S1x1x128x128 .f32, k0_pay5 x (ix2 k v) = x (ix4 0 0 k v) := fun x => by
    unfold k0_pay5; pointwise
  exact (h _).trans (ldSt_apply x6 e 0 0 k v)

/-- The decay over the chunk. -/
theorem hDec_apply (x7 : Vec Ideal S16x1x8x64 .f32) (e : Fin 32) (z z' : Fin 1) :
    hDec x7 e (ix2 z z') = Ideal.exp (∑ x : Fin 64, x7 (ix4 (hpair e) 0 (hlane e) x)) := by
  have h : ∀ b : FVec Ideal S1x1x1x64 .f32, k0_pay165 (F := Ideal) b (ix2 z z') = Ideal.exp (∑ x : Fin 64, b (ix4 0 0 0 x)) := fun b => by
    unfold k0_pay165; pointwise
  exact (h _).trans (congrArg Ideal.exp (Finset.sum_congr rfl fun x _ => ldG_apply x7 e 0 0 0 x))

/-- The gradient of the new values at an index. -/
theorem hDvn_apply (x0 : Vec Ideal S64x4096 .f32) (x3 : Vec Ideal S64x4096 .bf16) (x4 : Vec Ideal S32x64x64 .bf16)
    (d : Fin 32 → FVec Ideal S128x128 .f32) (e : Fin 32) (i : Fin 64) (v : Fin 128) :
    hDvn x0 x3 x4 d e (ix2 i v)
      = ((∑ j : Fin 64, x4 (ix3 e j i) * x0 (ix2 j (hcol e v))) + ∑ k : Fin 128, x3 (ix2 i (hcol e k)) * d e (ix2 k v) : EReal) := by
  have h : ∀ (A : FVec Ideal S64x128 .f32) (B : FVec Ideal S1x64x64 .bf16) (C : FVec Ideal S128x128 .f32) (E : FVec Ideal S64x128 .bf16),
      k0_pay397 (k0_pay197 (k0_pay133 A) B) (k0_pay230 (k0_pay101 C) E) (ix2 i v)
        = ((∑ j : Fin 64, B (ix3 0 j i) * A (ix2 j v)) + ∑ k : Fin 128, E (ix2 i k) * C (ix2 k v) : EReal) := fun A B C E => by
    unfold k0_pay397 k0_pay197 k0_pay133 k0_pay230 k0_pay101; pointwise
  exact (h ..).trans (congrArg₂ (· + ·) (Finset.sum_congr rfl fun j _ => congrArg₂ (· * ·) (ldSq_apply x4 e 0 j i) (ldCol_apply x0 e j v))
    (Finset.sum_congr rfl fun k _ => congrArg₂ (· * ·) (ldCol_apply x3 e i k) (rfl)))

/-- The gradient of `w` at an index. -/
theorem hDw_apply (x0 : Vec Ideal S64x4096 .f32) (x3 : Vec Ideal S64x4096 .bf16) (x4 : Vec Ideal S32x64x64 .bf16)
    (x6 : Vec Ideal S1x32x128x128 .f32) (d : Fin 32 → FVec Ideal S128x128 .f32) (e : Fin 32) (i : Fin 64) (k : Fin 128) :
    hDw x0 x3 x4 x6 d e (ix2 i k)
      = (0 - ∑ v : Fin 128, hDvn x0 x3 x4 d e (ix2 i v) * x6 (ix4 0 e k v) : EReal) := by
  have h : ∀ (A : FVec Ideal S128x128 .f32) (B : FVec Ideal S64x128 .bf16),
      k0_pay496 (k0_pay462 (k0_pay69 A) B) (ix2 i k) = (0 - ∑ v : Fin 128, B (ix2 i v) * A (ix2 k v) : EReal) := fun A B => by
    unfold k0_pay496 k0_pay462 k0_pay69; pointwise
  exact (h ..).trans (congrArg (0 - ·) (Finset.sum_congr rfl fun v _ => congrArg₂ (· * ·) (rfl) (hSt_apply x6 e k v)))

/-- The gradient of the decayed queries at an index. -/
theorem hDqd_apply (x0 : Vec Ideal S64x4096 .f32) (x6 : Vec Ideal S1x32x128x128 .f32) (e : Fin 32) (i : Fin 64) (k : Fin 128) :
    hDqd x0 x6 e (ix2 i k) = (∑ v : Fin 128, x0 (ix2 i (hcol e v)) * x6 (ix4 0 e k v) : EReal) := by
  have h : ∀ (A : FVec Ideal S128x128 .f32) (B : FVec Ideal S64x128 .f32),
      k0_pay294 (k0_pay69 A) (k0_pay133 B) (ix2 i k) = (∑ v : Fin 128, B (ix2 i v) * A (ix2 k v) : EReal) := fun A B => by
    unfold k0_pay294 k0_pay69 k0_pay133; pointwise
  exact (h ..).trans (Finset.sum_congr rfl fun v _ => congrArg₂ (· * ·) (ldCol_apply x0 e i v) (hSt_apply x6 e k v))

/-- The gradient of the decayed keys at an index. -/
theorem hDkd_apply (x5 : Vec Ideal S64x4096 .bf16) (d : Fin 32 → FVec Ideal S128x128 .f32) (e : Fin 32) (i : Fin 64) (k : Fin 128) :
    hDkd x5 d e (ix2 i k) = (∑ v : Fin 128, x5 (ix2 i (hcol e v)) * d e (ix2 k v) : EReal) := by
  have h : ∀ (A : FVec Ideal S128x128 .f32) (B : FVec Ideal S64x128 .bf16),
      k0_pay326 (k0_pay101 A) B (ix2 i k) = (∑ v : Fin 128, B (ix2 i v) * A (ix2 k v) : EReal) := fun A B => by
    unfold k0_pay326 k0_pay101; pointwise
  exact (h ..).trans (Finset.sum_congr rfl fun v _ => congrArg₂ (· * ·) (ldCol_apply x5 e i v) (rfl))

/-- The gradient of the in-chunk attention at an index. -/
theorem hDp_apply (x0 : Vec Ideal S64x4096 .f32) (x5 : Vec Ideal S64x4096 .bf16) (e : Fin 32) (z : Fin 1) (i j : Fin 64) :
    hDp x0 x5 e (ix3 z i j)
      = (if j ≤ i then ∑ v : Fin 128, x0 (ix2 i (hcol e v)) * x5 (ix2 j (hcol e v)) else 0 : EReal) := by
  have h : ∀ (A : FVec Ideal S64x128 .f32) (B : FVec Ideal S64x128 .bf16),
      k0_pay497 (F := Ideal) k0_pay4 (k0_pay362 (k0_pay133 A) (k0_pay361 B) (constant S64x64 FTy.f32 0#32)) (ix3 z i j)
        = (Scalar.select (IntOp.cmpi .sge (BitVec.ofNat 32 i.val) (BitVec.ofNat 32 j.val))
            (∑ v : Fin 128, A (ix2 i v) * B (ix2 j v)) 0 : EReal) := fun A B => by
    unfold k0_pay497 k0_pay4 k0_pay362 k0_pay133 k0_pay361; pointwise
  refine (h ..).trans ?_
  have hs : (∑ v : Fin 128, ldCol x0 e (ix2 i v) * ldCol x5 e (ix2 j v) : EReal)
      = ∑ v : Fin 128, x0 (ix2 i (hcol e v)) * x5 (ix2 j (hcol e v)) :=
    Finset.sum_congr rfl fun v _ => congrArg₂ (· * ·) (ldCol_apply x0 e i v) (ldCol_apply x5 e j v)
  have hm : IntOp.cmpi .sge (BitVec.ofNat 32 i.val) (BitVec.ofNat 32 j.val) = if j ≤ i then 1#1 else 0#1 := by
    clear h hs; revert i j; decide +kernel
  rw [hm, ← hs]
  split <;> rfl

/-- The gradient of the log decay along its row. -/
theorem hSd_apply (x6 : Vec Ideal S1x32x128x128 .f32) (x7 : Vec Ideal S16x1x8x64 .f32) (d : Fin 32 → FVec Ideal S128x128 .f32)
    (e : Fin 32) (z z' z'' : Fin 1) (l : Fin 128) :
    hSd x6 x7 d e (ix4 z z' z'' l)
      = (Ideal.exp (∑ x : Fin 64, x7 (ix4 (hpair e) 0 (hlane e) x))
          * ∑ k : Fin 128, ∑ v : Fin 128, x6 (ix4 0 e k v) * d e (ix2 k v) : EReal) := by
  have h : ∀ (A B : FVec Ideal S128x128 .f32) (E : FVec Ideal S1x1 .f32), k0_pay498 A B E (ix4 z z' z'' l)
      = (E (ix2 0 0) * ∑ k : Fin 128, ∑ v : Fin 128, A (ix2 k v) * B (ix2 k v) : EReal) := fun A B E => by
    unfold k0_pay498; pointwise
  exact (h ..).trans (congrArg₂ (· * ·) (hDec_apply x7 e 0 0)
    (Finset.sum_congr rfl fun k _ => Finset.sum_congr rfl fun v _ => congrArg₂ (· * ·) (hSt_apply x6 e k v) rfl))

/-- The state's gradient before the chunk at an index. -/
theorem hNext_apply (x0 : Vec Ideal S64x4096 .f32) (x1 x2 x3 : Vec Ideal S64x4096 .bf16) (x4 : Vec Ideal S32x64x64 .bf16)
    (x7 : Vec Ideal S16x1x8x64 .f32) (d : Fin 32 → FVec Ideal S128x128 .f32) (e : Fin 32) (z : Fin 1) (k v : Fin 128) :
    hNext x0 x1 x2 x3 x4 x7 d e (ix3 z k v)
      = (((∑ i : Fin 64, x2 (ix2 i (hcol e k)) * x0 (ix2 i (hcol e v)))
            + Ideal.exp (∑ x : Fin 64, x7 (ix4 (hpair e) 0 (hlane e) x)) * d e (ix2 k v))
          - ∑ i : Fin 64, x1 (ix2 i (hcol e k)) * hDvn x0 x3 x4 d e (ix2 i v) : EReal) := by
  have h : ∀ (A : FVec Ideal S128x128 .f32) (B : FVec Ideal S1x1 .f32) (X : FVec Ideal S64x128 .f32) (Y Z W : FVec Ideal S64x128 .bf16),
      k0_pay495 (k0_pay494 A B (k0_pay262 (k0_pay133 X) Y) (k0_pay430 Z W)) (ix3 z k v)
        = (((∑ i : Fin 64, Y (ix2 i k) * X (ix2 i v)) + B (ix2 0 0) * A (ix2 k v)) - ∑ i : Fin 64, W (ix2 i k) * Z (ix2 i v) : EReal) :=
    fun A B X Y Z W => by
      unfold k0_pay495 k0_pay494 k0_pay262 k0_pay133 k0_pay430; pointwise
  exact (h ..).trans (congrArg₂ (· - ·) (congrArg₂ (· + ·) (Finset.sum_congr rfl fun i _ => congrArg₂ (· * ·) (ldCol_apply x2 e i k) (ldCol_apply x0 e i v))
    (congrArg₂ (· * ·) (hDec_apply x7 e 0 0) (rfl))) (Finset.sum_congr rfl fun i _ => congrArg₂ (· * ·) (ldCol_apply x1 e i k) (rfl)))

end Cert.KernelIdeal.Val

end
-- ==== Proof.Bwd.Spec.lean ====
/- The gradient of the chunked delta-rule scan as sums over one head and one chunk: what both programs compute.
   `Inp` holds the seven arrays, `gradS` the state's gradient after `r` chunks counted from the last one. -/
module

public import Idealize.ShloMosaic.Lib.Pointwise
public import Idealize.ShloMosaic.Lib.Tactic
public import Mathlib.Algebra.BigOperators.Fin

@[expose] public section

noncomputable section

namespace Cert.Bwd

open Idealize.ShloMosaic

/-- The arrays of the backward scan: the result's cotangent, the update's operands, the decayed queries and keys, the
    in-chunk attention, the log decays and the state saved before each chunk. -/
structure Inp where
  dO : (⟨2, ![4224, 8192]⟩ : Shape).Idx → EReal
  u : (⟨2, ![4224, 8192]⟩ : Shape).Idx → EReal
  w : (⟨2, ![4224, 8192]⟩ : Shape).Idx → EReal
  qd : (⟨2, ![4224, 8192]⟩ : Shape).Idx → EReal
  kd : (⟨2, ![4224, 8192]⟩ : Shape).Idx → EReal
  p : (⟨3, ![64, 4224, 64]⟩ : Shape).Idx → EReal
  g : (⟨4, ![32, 66, 8, 64]⟩ : Shape).Idx → EReal
  st : (⟨4, ![66, 64, 128, 128]⟩ : Shape).Idx → EReal

/-- Row `i` of chunk `n`. -/
def row (n : Fin 66) (i : Fin 64) : Fin 4224 := ⟨64 * n.val + i.val, by omega⟩
/-- Column `v` of head `h`. -/
def col (h : Fin 64) (v : Fin 128) : Fin 8192 := ⟨128 * h.val + v.val, by omega⟩
/-- The chunk met after `r` others, counted from the last. -/
def chunk (r : ℕ) : Fin 66 := ⟨65 - r, by omega⟩
/-- The pair of heads `h` belongs to. -/
def pair (h : Fin 64) : Fin 32 := ⟨h.val / 2, by omega⟩
/-- The row of head `h`'s log decay among its pair's eight gate rows. -/
def lane (h : Fin 64) : Fin 8 := ⟨2 + h.val % 2, by omega⟩

namespace Inp

variable (a : Inp) (h : Fin 64) (n : Fin 66)

/-- An entry of head `h`, chunk `n` of a wide array. -/
def at2 (x : (⟨2, ![4224, 8192]⟩ : Shape).Idx → EReal) (i : Fin 64) (v : Fin 128) : EReal := x (ix2 (row n i) (col h v))
/-- An entry of the in-chunk attention. -/
def pAt (i j : Fin 64) : EReal := a.p (ix3 h (row n i) j)
/-- An entry of the state saved before the chunk. -/
def sAt (k v : Fin 128) : EReal := a.st (ix4 n h k v)
/-- The head's decay over the chunk. -/
def dec : EReal := Ideal.exp (∑ x : Fin 64, a.g (ix4 (pair h) n (lane h) x))
/-- The new values, `u - w·S`. -/
def vn (i : Fin 64) (v : Fin 128) : EReal := at2 h n a.u i v - ∑ k : Fin 128, at2 h n a.w i k * a.sAt h n k v

variable (D : Fin 128 → Fin 128 → EReal)

/-- The gradient of the new values, `pᵀ·do + kd·D`. -/
def dVn (i : Fin 64) (v : Fin 128) : EReal :=
  (∑ j : Fin 64, a.pAt h n j i * at2 h n a.dO j v) + ∑ k : Fin 128, at2 h n a.kd i k * D k v
/-- The gradient of `w`. -/
def dW (i : Fin 64) (k : Fin 128) : EReal := 0 - ∑ v : Fin 128, a.dVn h n D i v * a.sAt h n k v
/-- The gradient of the decayed queries. -/
def dQd (i : Fin 64) (k : Fin 128) : EReal := ∑ v : Fin 128, at2 h n a.dO i v * a.sAt h n k v
/-- The gradient of the decayed keys. -/
def dKd (i : Fin 64) (k : Fin 128) : EReal := ∑ v : Fin 128, a.vn h n i v * D k v
/-- The gradient of the in-chunk attention: on and below the diagonal. -/
def dP (i j : Fin 64) : EReal := if j ≤ i then ∑ v : Fin 128, at2 h n a.dO i v * a.vn h n j v else 0
/-- The gradient of the chunk's log decay. -/
def dG : EReal := a.dec h n * ∑ k : Fin 128, ∑ v : Fin 128, a.sAt h n k v * D k v
/-- The state's gradient before the chunk. -/
def next (k v : Fin 128) : EReal :=
  ((∑ i : Fin 64, at2 h n a.qd i k * at2 h n a.dO i v) + a.dec h n * D k v) - ∑ i : Fin 64, at2 h n a.w i k * a.dVn h n D i v

/-- The state's gradient after `r` chunks, from the last chunk down: zero, then `next`. -/
def gradS : ℕ → Fin 128 → Fin 128 → EReal
  | 0 => fun _ _ => 0
  | r + 1 => a.next h (chunk r) (gradS r)

end Inp

/-- Head `e` of half `z` of the heads. -/
def half (z : Fin 2) (e : Fin 32) : Fin 64 := ⟨32 * z.val + e.val, by omega⟩
/-- The chunk a row of a wide array lies in. -/
def rowChunk (i : Fin 4224) : Fin 66 := ⟨i.val / 64, by omega⟩
/-- … and its place there. -/
def rowIn (i : Fin 4224) : Fin 64 := ⟨i.val % 64, by omega⟩
/-- The head a column of a wide array lies in. -/
def colHead (j : Fin 8192) : Fin 64 := ⟨j.val / 128, by omega⟩
/-- … and its place there. -/
def colIn (j : Fin 8192) : Fin 128 := ⟨j.val % 128, by omega⟩

namespace Inp

/-- The state's gradient that chunk `n` starts from. -/
def D (a : Inp) (h : Fin 64) (n : Fin 66) : Fin 128 → Fin 128 → EReal := a.gradS h (65 - n.val)

/-- A wide array given head by head and chunk by chunk. -/
def wide (f : Fin 64 → Fin 66 → Fin 64 → Fin 128 → EReal) (y : (⟨2, ![4224, 8192]⟩ : Shape).Idx) : EReal :=
  f (colHead (y 1)) (rowChunk (y 0)) (rowIn (y 0)) (colIn (y 1))

/-- `wide` at a row and a column of a chunk and a head. -/
theorem wide_apply (f : Fin 64 → Fin 66 → Fin 64 → Fin 128 → EReal) (h : Fin 64) (n : Fin 66) (i : Fin 64) (v : Fin 128) :
    wide f (ix2 (row n i) (col h v)) = f h n i v := by
  have e1 : colHead (col h v) = h := Fin.ext (by simp only [colHead, col]; omega)
  have e2 : rowChunk (row n i) = n := Fin.ext (by simp only [rowChunk, row]; omega)
  have e3 : rowIn (row n i) = i := Fin.ext (by simp only [rowIn, row]; omega)
  have e4 : colIn (col h v) = v := Fin.ext (by simp only [colIn, col]; omega)
  show f (colHead (col h v)) (rowChunk (row n i)) (rowIn (row n i)) (colIn (col h v)) = _
  rw [e1, e2, e3, e4]

variable (a : Inp)

/-- The gradient of `u`. -/
def outDu : (⟨2, ![4224, 8192]⟩ : Shape).Idx → EReal := wide fun h n => a.dVn h n (a.D h n)
/-- The gradient of `w`. -/
def outDw : (⟨2, ![4224, 8192]⟩ : Shape).Idx → EReal := wide fun h n => a.dW h n (a.D h n)
/-- The gradient of the decayed queries. -/
def outDqd : (⟨2, ![4224, 8192]⟩ : Shape).Idx → EReal := wide fun h n => a.dQd h n
/-- The gradient of the decayed keys. -/
def outDkd : (⟨2, ![4224, 8192]⟩ : Shape).Idx → EReal := wide fun h n => a.dKd h n (a.D h n)
/-- The gradient of `u` at a row and a column of a chunk and a head. -/
theorem outDu_apply (h : Fin 64) (n : Fin 66) (i : Fin 64) (v : Fin 128) :
    a.outDu (ix2 (row n i) (col h v)) = a.dVn h n (a.D h n) i v := wide_apply (fun h n => a.dVn h n (a.D h n)) h n i v
/-- The gradient of `w` at a row and a column of a chunk and a head. -/
theorem outDw_apply (h : Fin 64) (n : Fin 66) (i : Fin 64) (v : Fin 128) :
    a.outDw (ix2 (row n i) (col h v)) = a.dW h n (a.D h n) i v := wide_apply (fun h n => a.dW h n (a.D h n)) h n i v
/-- The gradient of the decayed queries at a row and a column of a chunk and a head. -/
theorem outDqd_apply (h : Fin 64) (n : Fin 66) (i : Fin 64) (v : Fin 128) :
    a.outDqd (ix2 (row n i) (col h v)) = a.dQd h n i v := wide_apply (fun h n => a.dQd h n) h n i v
/-- The gradient of the decayed keys at a row and a column of a chunk and a head. -/
theorem outDkd_apply (h : Fin 64) (n : Fin 66) (i : Fin 64) (v : Fin 128) :
    a.outDkd (ix2 (row n i) (col h v)) = a.dKd h n (a.D h n) i v := wide_apply (fun h n => a.dKd h n (a.D h n)) h n i v
/-- The gradient of the in-chunk attention. -/
def outDp (y : (⟨3, ![64, 4224, 64]⟩ : Shape).Idx) : EReal := a.dP (y 0) (rowChunk (y 1)) (rowIn (y 1)) (y 2)
/-- … at a row and a column of a chunk and a head. -/
theorem outDp_apply (h : Fin 64) (n : Fin 66) (i j : Fin 64) : a.outDp (ix3 h (row n i) j) = a.dP h n i j := by
  have e2 : rowChunk (row n i) = n := Fin.ext (by simp only [rowChunk, row]; omega)
  have e3 : rowIn (row n i) = i := Fin.ext (by simp only [rowIn, row]; omega)
  show a.dP h (rowChunk (row n i)) (rowIn (row n i)) j = _
  rw [e2, e3]
/-- The gradient of the log decays, one value along a row. -/
def outDg (y : (⟨4, ![2, 66, 32, 128]⟩ : Shape).Idx) : EReal :=
  a.dG (half (y 0) (y 2)) (y 1) (a.D (half (y 0) (y 2)) (y 1))
/-- … at its coordinates. -/
theorem outDg_apply (z : Fin 2) (n : Fin 66) (e : Fin 32) (l : Fin 128) :
    a.outDg (ix4 z n e l) = a.dG (half z e) n (a.D (half z e) n) := rfl

end Inp

end Cert.Bwd

end
-- ==== Proof.Bwd.Blocks.lean ====
/- The blocks the backward scan's grid points read, as entries of the argument arrays. -/
module

public import proofs.«01_k».proof.Proof.Bwd.Pay
public import proofs.«01_k».proof.Proof.Bwd.Spec
public import proofs.«01_k».proof.Proof.Gen.KernelIdeal.Value

@[expose] public section

set_option maxRecDepth 16384

noncomputable section

namespace Cert.KernelIdeal.Val

open Cert.KernelIdeal Cert.KernelIdeal.Gen Idealize.ShloMosaic Idealize.ShloMosaic.TcCoe Idealize.SL.Sem
open Cert.Bwd
open Idealize.ShloMosaic.Pipeline (Dat)

variable (m : (ℓ : Loc nD τ sig) → Buf (Elt Ideal) ℓ)

/-- The kernel's argument arrays. -/
def inp (c : Dev nD) : Inp where
  dO := m ((c : Thread nD τ).loc main_arg0)
  u := m ((c : Thread nD τ).loc main_arg1)
  w := m ((c : Thread nD τ).loc main_arg2)
  qd := m ((c : Thread nD τ).loc main_arg3)
  kd := m ((c : Thread nD τ).loc main_arg4)
  p := m ((c : Thread nD τ).loc main_arg5)
  g := m ((c : Thread nD τ).loc main_arg6)
  st := m ((c : Thread nD τ).loc main_arg7)

/-- The chunk a grid point works on: from the last one down. -/
def ptChunk (t : Fin cfg0.N) : Fin 66 := chunk (t.val % 66)
/-- Head `e` of a grid point's 32. -/
def ptHead (t : Fin cfg0.N) (e : Fin 32) : Fin 64 :=
  ⟨32 * (t.val / 66) + e.val, by have := t.isLt; have : cfg0.N = 132 := N_0; omega⟩

/-- The new values the host lines before the call prepare. -/
theorem vn_host (c : Dev nD) (h : Fin 64) (n : Fin 66) (i : Fin 64) (v : Fin 128) :
    V m c main_v9 (ix2 (row n i) (col h v)) = (inp m c).vn h n i v := by
  unfold_abbrev_sides
  after_results_simp
  pointwise
  have e1 : (row n i).val = 64 * n.val + i.val := rfl
  have e2 : (col h v).val = 128 * h.val + v.val := rfl
  have e3 : ∀ x : Fin 128, (col h x).val = 128 * h.val + x.val := fun _ => rfl
  unfold Inp.vn Inp.at2 Inp.sAt
  congr 1
  · exact congrArg (m (c, Proc.tc.devRef main_arg1)) (congrArg₂ ix2 (Fin.ext (by simp only [e1]; omega)) (Fin.ext (by simp only [e2]; omega)))
  · refine Finset.sum_congr rfl fun x _ => congrArg₂ (· * ·) ?_ ?_
    · exact congrArg (m (c, Proc.tc.devRef main_arg2)) (congrArg₂ ix2 (Fin.ext (by simp only [e1]; omega)) (Fin.ext (by simp only [e2, e3]; omega)))
    · have f1 : (⟨(row n i).val / 64, by have := (row n i).isLt; omega⟩ : Fin 66) = n := Fin.ext (by simp only [e1]; omega)
      have f2 : (⟨(col h v).val / 128, by have := (col h v).isLt; omega⟩ : Fin 64) = h := Fin.ext (by simp only [e2]; omega)
      have f3 : (⟨(col h v).val % 128, by omega⟩ : Fin 128) = v := Fin.ext (by simp only [e2]; omega)
      rw [f1, f2, f3]
      rfl

/-- The index map of the wide windows, over the grid. -/
theorem idxWide : ∀ t : Fin cfg0.N, (win0_0.index t 0 = 65 - t.val % 66 ∧ win0_0.index t 1 = t.val / 66) :=
  (by decide +kernel : ∀ t : Fin grid0.N, (win0_0.index t 0 = 65 - t.val % 66 ∧ win0_0.index t 1 = t.val / 66))
/-- The index map of the square windows, over the grid. -/
theorem idxSq : ∀ t : Fin cfg0.N, (win0_4.index t 0 = t.val / 66 ∧ win0_4.index t 1 = 65 - t.val % 66 ∧ win0_4.index t 2 = 0) :=
  (by decide +kernel : ∀ t : Fin grid0.N, (win0_4.index t 0 = t.val / 66 ∧ win0_4.index t 1 = 65 - t.val % 66 ∧ win0_4.index t 2 = 0))
/-- The index map of the saved states' window, over the grid. -/
theorem idxSt : ∀ t : Fin cfg0.N, (win0_6.index t 0 = 65 - t.val % 66 ∧ win0_6.index t 1 = t.val / 66 ∧ win0_6.index t 2 = 0 ∧ win0_6.index t 3 = 0) :=
  (by decide +kernel : ∀ t : Fin grid0.N, (win0_6.index t 0 = 65 - t.val % 66 ∧ win0_6.index t 1 = t.val / 66 ∧ win0_6.index t 2 = 0 ∧ win0_6.index t 3 = 0))
/-- The index map of the gates' window and of the decay gradient's, over the grid. -/
theorem idxG : ∀ t : Fin cfg0.N, (win0_7.index t 0 = t.val / 66 ∧ win0_7.index t 1 = 65 - t.val % 66 ∧ win0_7.index t 2 = 0 ∧ win0_7.index t 3 = 0) :=
  (by decide +kernel : ∀ t : Fin grid0.N, (win0_7.index t 0 = t.val / 66 ∧ win0_7.index t 1 = 65 - t.val % 66 ∧ win0_7.index t 2 = 0 ∧ win0_7.index t 3 = 0))

/-- Where a wide block's entry lies in its array. -/
theorem wide_eq (y : S4224x8192.Idx) (t : Fin cfg0.N) (e : Fin 32) (i : Fin 64) (v : Fin 128)
    (h0 : (y 0).val = (65 - t.val % 66) * 64 + i.val) (h1 : (y 1).val = t.val / 66 * 4096 + (hcol e v).val) :
    y = ix2 (row (ptChunk t) i) (col (ptHead t e) v) := by
  funext a
  apply Fin.ext
  match a with
  | ⟨0, _⟩ =>
    refine h0.trans ?_
    show _ = 64 * (65 - _) + i.val
    omega
  | ⟨1, _⟩ =>
    refine h1.trans ?_
    show _ * 4096 + (128 * e.val + v.val) = 128 * (32 * _ + e.val) + v.val
    omega

/-- Where a square block's entry lies in its array. -/
theorem sq_eq (y : S64x4224x64.Idx) (t : Fin cfg0.N) (e : Fin 32) (i j : Fin 64)
    (h0 : (y 0).val = t.val / 66 * 32 + e.val) (h1 : (y 1).val = (65 - t.val % 66) * 64 + i.val) (h2 : (y 2).val = 0 * 64 + j.val) :
    y = ix3 (ptHead t e) (row (ptChunk t) i) j := by
  funext a
  apply Fin.ext
  match a with
  | ⟨0, _⟩ =>
    refine h0.trans ?_
    show _ = 32 * _ + e.val
    omega
  | ⟨1, _⟩ =>
    refine h1.trans ?_
    show _ = 64 * (65 - _) + i.val
    omega
  | ⟨2, _⟩ =>
    refine h2.trans ?_
    show _ = j.val
    omega

/-- Window 0's block at an index. -/
theorem read0 (c : Dev nD) (t : Fin cfg0.N) (e : Fin 32) (i : Fin 64) (v : Fin 128) :
    iblk m c 0 t (ix2 i (hcol e v)) = Inp.at2 (ptHead t e) (ptChunk t) (inp m c).dO i v := by
  unfold iblk
  show V m c main_arg0 _ = _
  rw [V_main_arg0]
  exact congrArg (m ((c : Thread nD τ).loc main_arg0)) (wide_eq _ t e i v
    ((Pipeline.Window.rect_emb_val win0_0 t _ 0).trans (congrArg (· * 64 + i.val) (idxWide t).1))
    ((Pipeline.Window.rect_emb_val win0_0 t _ 1).trans (congrArg (· * 4096 + (hcol e v).val) (idxWide t).2)))

/-- Window 1's block at an index. -/
theorem read1 (c : Dev nD) (t : Fin cfg0.N) (e : Fin 32) (i : Fin 64) (v : Fin 128) :
    iblk m c 1 t (ix2 i (hcol e v)) = Inp.at2 (ptHead t e) (ptChunk t) (inp m c).w i v := by
  unfold iblk
  show V m c main_arg2 _ = _
  rw [V_main_arg2]
  exact congrArg (m ((c : Thread nD τ).loc main_arg2)) (wide_eq _ t e i v
    ((Pipeline.Window.rect_emb_val win0_1 t _ 0).trans (congrArg (· * 64 + i.val) (idxWide t).1))
    ((Pipeline.Window.rect_emb_val win0_1 t _ 1).trans (congrArg (· * 4096 + (hcol e v).val) (idxWide t).2)))

/-- Window 2's block at an index. -/
theorem read2 (c : Dev nD) (t : Fin cfg0.N) (e : Fin 32) (i : Fin 64) (v : Fin 128) :
    iblk m c 2 t (ix2 i (hcol e v)) = Inp.at2 (ptHead t e) (ptChunk t) (inp m c).qd i v := by
  unfold iblk
  show V m c main_arg3 _ = _
  rw [V_main_arg3]
  exact congrArg (m ((c : Thread nD τ).loc main_arg3)) (wide_eq _ t e i v
    ((Pipeline.Window.rect_emb_val win0_2 t _ 0).trans (congrArg (· * 64 + i.val) (idxWide t).1))
    ((Pipeline.Window.rect_emb_val win0_2 t _ 1).trans (congrArg (· * 4096 + (hcol e v).val) (idxWide t).2)))

/-- Window 3's block at an index. -/
theorem read3 (c : Dev nD) (t : Fin cfg0.N) (e : Fin 32) (i : Fin 64) (v : Fin 128) :
    iblk m c 3 t (ix2 i (hcol e v)) = Inp.at2 (ptHead t e) (ptChunk t) (inp m c).kd i v := by
  unfold iblk
  show V m c main_arg4 _ = _
  rw [V_main_arg4]
  exact congrArg (m ((c : Thread nD τ).loc main_arg4)) (wide_eq _ t e i v
    ((Pipeline.Window.rect_emb_val win0_3 t _ 0).trans (congrArg (· * 64 + i.val) (idxWide t).1))
    ((Pipeline.Window.rect_emb_val win0_3 t _ 1).trans (congrArg (· * 4096 + (hcol e v).val) (idxWide t).2)))

/-- Window 4's block at an index. -/
theorem read4 (c : Dev nD) (t : Fin cfg0.N) (e : Fin 32) (i j : Fin 64) :
    iblk m c 4 t (ix3 e i j) = (inp m c).pAt (ptHead t e) (ptChunk t) i j := by
  unfold iblk
  show V m c main_arg5 _ = _
  rw [V_main_arg5]
  exact congrArg (m ((c : Thread nD τ).loc main_arg5)) (sq_eq _ t e i j
    ((Pipeline.Window.rect_emb_val win0_4 t _ 0).trans (congrArg (· * 32 + e.val) (idxSq t).1))
    ((Pipeline.Window.rect_emb_val win0_4 t _ 1).trans (congrArg (· * 64 + i.val) (idxSq t).2.1))
    ((Pipeline.Window.rect_emb_val win0_4 t _ 2).trans (congrArg (· * 64 + j.val) (idxSq t).2.2)))

/-- Window 5's block at an index: the new values. -/
theorem read5 (c : Dev nD) (t : Fin cfg0.N) (e : Fin 32) (i : Fin 64) (v : Fin 128) :
    iblk m c 5 t (ix2 i (hcol e v)) = (inp m c).vn (ptHead t e) (ptChunk t) i v := by
  unfold iblk
  show V m c main_v9 _ = _
  rw [← vn_host]
  exact congrArg (V m c main_v9) (wide_eq _ t e i v
    ((Pipeline.Window.rect_emb_val win0_5 t _ 0).trans (congrArg (· * 64 + i.val) (idxWide t).1))
    ((Pipeline.Window.rect_emb_val win0_5 t _ 1).trans (congrArg (· * 4096 + (hcol e v).val) (idxWide t).2)))

/-- Window 6's block at an index. -/
theorem read6 (c : Dev nD) (t : Fin cfg0.N) (e : Fin 32) (k v : Fin 128) :
    iblk m c 6 t (ix4 0 e k v) = (inp m c).sAt (ptHead t e) (ptChunk t) k v := by
  unfold iblk
  show V m c main_arg7 _ = _
  rw [V_main_arg7]
  refine congrArg (m ((c : Thread nD τ).loc main_arg7)) (funext fun a => Fin.ext ?_)
  match a with
  | ⟨0, _⟩ =>
    refine (Pipeline.Window.rect_emb_val win0_6 t _ 0).trans ?_
    rw [(idxSt t).1]; show (65 - t.val % 66) * 1 + 0 = 65 - t.val % 66; omega
  | ⟨1, _⟩ =>
    refine (Pipeline.Window.rect_emb_val win0_6 t _ 1).trans ?_
    rw [(idxSt t).2.1]; show _ * 32 + e.val = 32 * _ + e.val; omega
  | ⟨2, _⟩ =>
    refine (Pipeline.Window.rect_emb_val win0_6 t _ 2).trans ?_
    rw [(idxSt t).2.2.1]; show 0 * 128 + k.val = k.val; omega
  | ⟨3, _⟩ =>
    refine (Pipeline.Window.rect_emb_val win0_6 t _ 3).trans ?_
    rw [(idxSt t).2.2.2]; show 0 * 128 + v.val = v.val; omega

/-- Window 7's block at an index. -/
theorem read7 (c : Dev nD) (t : Fin cfg0.N) (e : Fin 32) (x : Fin 64) :
    iblk m c 7 t (ix4 (hpair e) 0 (hlane e) x)
      = (inp m c).g (ix4 (pair (ptHead t e)) (ptChunk t) (lane (ptHead t e)) x) := by
  unfold iblk
  show V m c main_arg6 _ = _
  rw [V_main_arg6]
  refine congrArg (m ((c : Thread nD τ).loc main_arg6)) (funext fun a => Fin.ext ?_)
  match a with
  | ⟨0, _⟩ =>
    refine (Pipeline.Window.rect_emb_val win0_7 t _ 0).trans ?_
    rw [(idxG t).1]; show _ * 16 + e.val / 2 = (32 * _ + e.val) / 2; omega
  | ⟨1, _⟩ =>
    refine (Pipeline.Window.rect_emb_val win0_7 t _ 1).trans ?_
    rw [(idxG t).2.1]; show (65 - t.val % 66) * 1 + 0 = 65 - t.val % 66; omega
  | ⟨2, _⟩ =>
    refine (Pipeline.Window.rect_emb_val win0_7 t _ 2).trans ?_
    rw [(idxG t).2.2.1]; show 0 * 8 + (2 + e.val % 2) = 2 + (32 * _ + e.val) % 2; omega
  | ⟨3, _⟩ =>
    refine (Pipeline.Window.rect_emb_val win0_7 t _ 3).trans ?_
    rw [(idxG t).2.2.2]; show 0 * 64 + x.val = x.val; omega

/-- The decay the body takes of its gates' block. -/
theorem read_dec (c : Dev nD) (t : Fin cfg0.N) (e : Fin 32) :
    (Ideal.exp (∑ x : Fin 64, iblk m c 7 t (ix4 (hpair e) 0 (hlane e) x)) : EReal) = (inp m c).dec (ptHead t e) (ptChunk t) :=
  congrArg Ideal.exp (Finset.sum_congr rfl fun x _ => read7 m c t e x)

end Cert.KernelIdeal.Val

end
-- ==== Proof.Bwd.TilesA.lean ====
/- What a grid point at the start of a run leaves in every output block, as the list of its 32 tiles. -/
module

public import proofs.«01_k».proof.Proof.Bwd.Heads

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Point `t` leaves the block of `dvn` as its 32 tiles, at a run's first point. -/
theorem dvn_A (c : Dev nD) (t : Fin cfg0.N) (h0 : t.val % 66 = 0) : (outsAt0 m c t.val t.isLt).1
    = View.canon (wideTiles (hDvn (iblk m c 0 t) (iblk m c 3 t) (iblk m c 4 t) hDs0)) := by
  rw [outsAt0_A m c t h0]
  frame_out
  rfl

/-- Point `t` leaves the block of `dw` as its 32 tiles, at a run's first point. -/
theorem dw_A (c : Dev nD) (t : Fin cfg0.N) (h0 : t.val % 66 = 0) : (outsAt0 m c t.val t.isLt).2.1
    = View.canon (wideTiles (hDw (iblk m c 0 t) (iblk m c 3 t) (iblk m c 4 t) (iblk m c 6 t) hDs0)) := by
  rw [outsAt0_A m c t h0]
  frame_out
  rfl

/-- Point `t` leaves the block of `dqd` as its 32 tiles, at a run's first point. -/
theorem dqd_A (c : Dev nD) (t : Fin cfg0.N) (h0 : t.val % 66 = 0) : (outsAt0 m c t.val t.isLt).2.2.1
    = View.canon (wideTiles (hDqd (iblk m c 0 t) (iblk m c 6 t))) := by
  rw [outsAt0_A m c t h0]
  frame_out
  rfl

/-- Point `t` leaves the block of `dkd` as its 32 tiles, at a run's first point. -/
theorem dkd_A (c : Dev nD) (t : Fin cfg0.N) (h0 : t.val % 66 = 0) : (outsAt0 m c t.val t.isLt).2.2.2.1
    = View.canon (wideTiles (hDkd (iblk m c 5 t) hDs0)) := by
  rw [outsAt0_A m c t h0]
  frame_out
  rfl

/-- Point `t` leaves the block of `dp` as its 32 tiles, at a run's first point. -/
theorem dp_A (c : Dev nD) (t : Fin cfg0.N) (h0 : t.val % 66 = 0) : (outsAt0 m c t.val t.isLt).2.2.2.2.1
    = View.canon (sqTiles (hDp (iblk m c 0 t) (iblk m c 5 t))) := by
  rw [outsAt0_A m c t h0]
  frame_out
  rfl

/-- Point `t` leaves the decay gradient's block as its 32 tiles, at a run's first point. -/
theorem sd_A (c : Dev nD) (t : Fin cfg0.N) (h0 : t.val % 66 = 0) : (outsAt0 m c t.val t.isLt).2.2.2.2.2.1
    = View.canon (sdTiles (hSd (iblk m c 6 t) (iblk m c 7 t) hDs0)) := by
  rw [outsAt0_A m c t h0]
  frame_out
  rfl

/-- Point `t` leaves the carried gradient as its 32 tiles, at a run's first point. -/
theorem next_A (c : Dev nD) (t : Fin cfg0.N) (h0 : t.val % 66 = 0) : (outsAt0 m c t.val t.isLt).2.2.2.2.2.2
    = View.canon (dsTiles (hNext (iblk m c 0 t) (iblk m c 1 t) (iblk m c 2 t) (iblk m c 3 t) (iblk m c 4 t) (iblk m c 7 t) hDs0) ++ [zeroPiece]) := by
  rw [outsAt0_A m c t h0]
  frame_out
  rfl

end Cert.KernelIdeal.Val

end
-- ==== Proof.Bwd.TilesB.lean ====
/- What a grid point past a run's first leaves in every output block, as the list of its 32 tiles. -/
module

public import proofs.«01_k».proof.Proof.Bwd.Heads

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Point `t` leaves the block of `dvn` as its 32 tiles, past a run's first point. -/
theorem dvn_B (c : Dev nD) (t : Fin cfg0.N) (h0 : ¬t.val % 66 = 0) : (outsAt0 m c t.val t.isLt).1
    = View.canon (wideTiles (hDvn (iblk m c 0 t) (iblk m c 3 t) (iblk m c 4 t) (hDs (prevDs m c t)))) := by
  rw [outsAt0_B m c t h0]
  frame_out
  erw [Memref.IsWhole.read_unread]
  rfl

/-- Point `t` leaves the block of `dw` as its 32 tiles, past a run's first point. -/
theorem dw_B (c : Dev nD) (t : Fin cfg0.N) (h0 : ¬t.val % 66 = 0) : (outsAt0 m c t.val t.isLt).2.1
    = View.canon (wideTiles (hDw (iblk m c 0 t) (iblk m c 3 t) (iblk m c 4 t) (iblk m c 6 t) (hDs (prevDs m c t)))) := by
  rw [outsAt0_B m c t h0]
  frame_out
  erw [Memref.IsWhole.read_unread]
  rfl

/-- Point `t` leaves the block of `dqd` as its 32 tiles, past a run's first point. -/
theorem dqd_B (c : Dev nD) (t : Fin cfg0.N) (h0 : ¬t.val % 66 = 0) : (outsAt0 m c t.val t.isLt).2.2.1
    = View.canon (wideTiles (hDqd (iblk m c 0 t) (iblk m c 6 t))) := by
  rw [outsAt0_B m c t h0]
  frame_out
  rfl

/-- Point `t` leaves the block of `dkd` as its 32 tiles, past a run's first point. -/
theorem dkd_B (c : Dev nD) (t : Fin cfg0.N) (h0 : ¬t.val % 66 = 0) : (outsAt0 m c t.val t.isLt).2.2.2.1
    = View.canon (wideTiles (hDkd (iblk m c 5 t) (hDs (prevDs m c t)))) := by
  rw [outsAt0_B m c t h0]
  frame_out
  erw [Memref.IsWhole.read_unread]
  rfl

/-- Point `t` leaves the block of `dp` as its 32 tiles, past a run's first point. -/
theorem dp_B (c : Dev nD) (t : Fin cfg0.N) (h0 : ¬t.val % 66 = 0) : (outsAt0 m c t.val t.isLt).2.2.2.2.1
    = View.canon (sqTiles (hDp (iblk m c 0 t) (iblk m c 5 t))) := by
  rw [outsAt0_B m c t h0]
  frame_out
  rfl

/-- Point `t` leaves the decay gradient's block as its 32 tiles, past a run's first point. -/
theorem sd_B (c : Dev nD) (t : Fin cfg0.N) (h0 : ¬t.val % 66 = 0) : (outsAt0 m c t.val t.isLt).2.2.2.2.2.1
    = View.canon (sdTiles (hSd (iblk m c 6 t) (iblk m c 7 t) (hDs (prevDs m c t)))) := by
  rw [outsAt0_B m c t h0]
  frame_out
  erw [Memref.IsWhole.read_unread]
  rfl

/-- Point `t` leaves the carried gradient as its 32 tiles, past a run's first point. -/
theorem next_B (c : Dev nD) (t : Fin cfg0.N) (h0 : ¬t.val % 66 = 0) : (outsAt0 m c t.val t.isLt).2.2.2.2.2.2
    = View.canon (dsTiles (hNext (iblk m c 0 t) (iblk m c 1 t) (iblk m c 2 t) (iblk m c 3 t) (iblk m c 4 t) (iblk m c 7 t) (hDs (prevDs m c t)))) := by
  rw [outsAt0_B m c t h0]
  frame_out
  erw [Memref.IsWhole.read_unread]
  rfl

end Cert.KernelIdeal.Val

end
-- ==== Proof.Bwd.Points.lean ====
/- What every grid point of the backward scan leaves in its output blocks and in the carried gradient, as entries of
   the gradient given by sums (`Cert.Bwd.Inp`). -/
module

public import proofs.«01_k».proof.Proof.Bwd.Blocks
public import proofs.«01_k».proof.Proof.Bwd.TilesA
public import proofs.«01_k».proof.Proof.Bwd.TilesB

@[expose] public section

set_option maxRecDepth 16384

noncomputable section

namespace Cert.KernelIdeal.Val

open Cert.KernelIdeal Cert.KernelIdeal.Gen Idealize.ShloMosaic Idealize.ShloMosaic.TcCoe Idealize.SL.Sem
open Cert.Bwd
open Idealize.ShloMosaic.Pipeline (Dat)

/-- A list of tiles that one axis keeps apart, with any stores before them: at an index of tile `i` it holds that
    tile's payload. -/
theorem canon_tiles_append {Val : EltTy → Type} [∀ e, Nonempty (Val e)] {s : Shape} {ty : EltTy} {NT : ℕ}
    (tsz : Fin s.rank → ℕ) (off : Fin NT → Fin s.rank → ℕ) (inb : ∀ i a, off i a + tsz a ≤ s.size a)
    (P : Fin NT → (⟨s.rank, tsz⟩ : Shape).Idx → Val ty) (L : List (View.Piece Val s ty)) (y : s.Idx) (i : Fin NT)
    (x : (⟨s.rank, tsz⟩ : Shape).Idx) (hx : ∀ a, (y a).val = off i a + (x a).val) (ax : Fin s.rank)
    (hdis : ∀ i' : Fin NT, i' ≠ i → (y ax).val < off i' ax ∨ off i' ax + tsz ax ≤ (y ax).val)
    (j : ℕ) (hj : j ≤ NT) (hi : i.val < j) :
    View.canon (View.tilePieces tsz off inb P j hj ++ L) y = P i x := by
  induction j with
  | zero => exact absurd hi (Nat.not_lt_zero _)
  | succ j ih =>
    rw [View.tilePieces_succ, List.cons_append]
    by_cases hn : (⟨j, hj⟩ : Fin NT) = i
    · subst hn
      have hy : y = (Rect.unit (off ⟨j, hj⟩) tsz (inb ⟨j, hj⟩)).emb x := funext fun a => Fin.ext <| by
        rw [Rect.emb_apply]
        show _ = off ⟨j, hj⟩ a + 1 * (x a).val
        rw [hx a]; omega
      rw [hy]
      exact View.canon_cons_emb ..
    · have hm : y ∉ (Rect.unit (off ⟨j, hj⟩) tsz (inb ⟨j, hj⟩)).set := fun hm => by
        have h := (Rect.mem_set_unit.mp hm) ax
        rcases hdis ⟨j, hj⟩ hn with h' | h' <;> omega
      rw [View.canon_cons_of_not_mem _ _ hm]
      exact ih (Nat.le_of_succ_le hj) (by
        have : i.val ≠ j := fun h => hn (Fin.ext h.symm)
        omega)

/-- A wide block stored as 32 tiles, at an index. -/
theorem wideTiles_apply {ty : EltTy} (P : Fin 32 → Vec Ideal S64x128 ty) (e : Fin 32) (i : Fin 64) (v : Fin 128) :
    View.canon (wideTiles P) (ix2 i (hcol e v)) = P e (ix2 i v) := by
  have h := canon_tiles_append (s := S64x4096) S64x128.size colOff colInb P [] (ix2 i (hcol e v)) e (ix2 i v)
    (fun a => by match a with | ⟨0, _⟩ => exact (Nat.zero_add _).symm | ⟨1, _⟩ => rfl) 1
    (fun i' hi' => by
      have : i'.val ≠ e.val := fun h => hi' (Fin.ext h)
      have : (hcol e v).val = 128 * e.val + v.val := rfl
      show (hcol e v).val < 128 * i'.val ∨ 128 * i'.val + 128 ≤ (hcol e v).val
      omega) 32 (le_refl 32) e.isLt
  rwa [List.append_nil] at h

/-- A square block stored as 32 planes, at an index. -/
theorem sqTiles_apply (P : Fin 32 → Vec Ideal S1x64x64 .f32) (e : Fin 32) (i j : Fin 64) :
    View.canon (sqTiles P) (ix3 e i j) = P e (ix3 0 i j) := by
  have h := canon_tiles_append (s := S32x64x64) S1x64x64.size sqOff sqInb P [] (ix3 e i j) e (ix3 0 i j)
    (fun a => by match a with | ⟨0, _⟩ => rfl | ⟨1, _⟩ => exact (Nat.zero_add _).symm | ⟨2, _⟩ => exact (Nat.zero_add _).symm) 0
    (fun i' hi' => by
      have : i'.val ≠ e.val := fun h => hi' (Fin.ext h)
      show e.val < i'.val ∨ i'.val + 1 ≤ e.val
      omega) 32 (le_refl 32) e.isLt
  rwa [List.append_nil] at h

/-- The decay gradient's block stored as 32 rows, at an index. -/
theorem sdTiles_apply (P : Fin 32 → Vec Ideal S1x1x1x128 .f32) (e : Fin 32) (l : Fin 128) :
    View.canon (sdTiles P) (ix4 0 0 e l) = P e (ix4 0 0 0 l) := by
  have h := canon_tiles_append (s := S1x1x32x128) S1x1x1x128.size sdOff sdInb P [] (ix4 0 0 e l) e (ix4 0 0 0 l)
    (fun a => by match a with | ⟨0, _⟩ => rfl | ⟨1, _⟩ => rfl | ⟨2, _⟩ => rfl | ⟨3, _⟩ => exact (Nat.zero_add _).symm) 2
    (fun i' hi' => by
      have : i'.val ≠ e.val := fun h => hi' (Fin.ext h)
      show e.val < i'.val ∨ i'.val + 1 ≤ e.val
      omega) 32 (le_refl 32) e.isLt
  rwa [List.append_nil] at h

/-- The carried gradient stored as 32 planes over anything, at an index. -/
theorem dsTiles_apply (P : Fin 32 → Vec Ideal S1x128x128 .f32) (L : List (View.Piece (Elt Ideal) S32x128x128 .f32))
    (e : Fin 32) (k v : Fin 128) : View.canon (dsTiles P ++ L) (ix3 e k v) = P e (ix3 0 k v) :=
  canon_tiles_append (s := S32x128x128) S1x128x128.size dsOff dsInb P L (ix3 e k v) e (ix3 0 k v)
    (fun a => by match a with | ⟨0, _⟩ => rfl | ⟨1, _⟩ => exact (Nat.zero_add _).symm | ⟨2, _⟩ => exact (Nat.zero_add _).symm) 0
    (fun i' hi' => by
      have : i'.val ≠ e.val := fun h => hi' (Fin.ext h)
      show e.val < i'.val ∨ i'.val + 1 ≤ e.val
      omega) 32 (le_refl 32) e.isLt

variable (m : (ℓ : Loc nD τ sig) → Buf (Elt Ideal) ℓ)

/-- The carried gradient grid point `t` reads, head by head. -/
def curDs (c : Dev nD) (t : Fin cfg0.N) : Fin 32 → FVec Ideal S128x128 .f32 :=
  if t.val % 66 = 0 then hDs0 else hDs (prevDs m c t)

/-- At a run's first point it is the zeros just stored. -/
theorem curDs_A (c : Dev nD) (t : Fin cfg0.N) (h0 : t.val % 66 = 0) : hDs0 = curDs m c t := (if_pos h0).symm
/-- At any other point it is what the point before left. -/
theorem curDs_B (c : Dev nD) (t : Fin cfg0.N) (h0 : ¬t.val % 66 = 0) : hDs (prevDs m c t) = curDs m c t := (if_neg h0).symm

/-- Every point leaves `next` of the carried gradient it read. -/
theorem next_apply (c : Dev nD) (t : Fin cfg0.N) (e : Fin 32) (k v : Fin 128) :
    (outsAt0 m c t.val t.isLt).2.2.2.2.2.2 (ix3 e k v)
      = (inp m c).next (ptHead t e) (ptChunk t) (fun k v => curDs m c t e (ix2 k v)) k v := by
  have hv : ∀ i : Fin 64, hDvn (iblk m c 0 t) (iblk m c 3 t) (iblk m c 4 t) (curDs m c t) e (ix2 i v)
      = (inp m c).dVn (ptHead t e) (ptChunk t) (fun k v => curDs m c t e (ix2 k v)) i v := fun i => by
    rw [hDvn_apply]
    unfold Inp.dVn
    exact congrArg₂ (· + ·) (Finset.sum_congr rfl fun j _ => congrArg₂ (· * ·) (read4 m c t e j i) (read0 m c t e j v))
      (Finset.sum_congr rfl fun k _ => congrArg₂ (· * ·) (read3 m c t e i k) rfl)
  have hP : (hNext (iblk m c 0 t) (iblk m c 1 t) (iblk m c 2 t) (iblk m c 3 t) (iblk m c 4 t) (iblk m c 7 t) (curDs m c t) e (ix3 0 k v))
      = (inp m c).next (ptHead t e) (ptChunk t) (fun k v => curDs m c t e (ix2 k v)) k v := by
    rw [hNext_apply, read_dec]
    unfold Inp.next
    exact congrArg₂ (· - ·)
      (congrArg (· + _) (Finset.sum_congr rfl fun i _ => congrArg₂ (· * ·) (read2 m c t e i k) (read0 m c t e i v)))
      (Finset.sum_congr rfl fun i _ => congrArg₂ (· * ·) (read1 m c t e i k) (hv i))
  by_cases h0 : t.val % 66 = 0
  · rw [next_A m c t h0, curDs_A m c t h0, dsTiles_apply]
    exact hP
  · rw [next_B m c t h0, curDs_B m c t h0]
    have h := dsTiles_apply (hNext (iblk m c 0 t) (iblk m c 1 t) (iblk m c 2 t) (iblk m c 3 t) (iblk m c 4 t) (iblk m c 7 t) (curDs m c t)) [] e k v
    rw [List.append_nil] at h
    exact h.trans hP

/-- The carried gradient a point reads is the state's gradient after the chunks already met. -/
theorem curDs_apply (c : Dev nD) (r : ℕ) : ∀ (t : Fin cfg0.N) (_ : t.val % 66 = r) (e : Fin 32) (k v : Fin 128),
    curDs m c t e (ix2 k v) = (inp m c).gradS (ptHead t e) r k v := by
  induction r with
  | zero =>
    intro t ht e k v
    rw [← curDs_A m c t ht, hDs0_apply]
    rfl
  | succ r ih =>
    intro t ht e k v
    have h0 : ¬t.val % 66 = 0 := by omega
    rw [← curDs_B m c t h0, hDs_apply]
    have hl : t.val - 1 < cfg0.N := Nat.lt_of_le_of_lt (Nat.sub_le _ _) t.isLt
    have h := next_apply m c ⟨t.val - 1, hl⟩ e k v
    have hr : (t.val - 1) % 66 = r := by omega
    have hh : ptHead ⟨t.val - 1, hl⟩ e = ptHead t e := Fin.ext (by show 32 * ((t.val - 1) / 66) + _ = 32 * (t.val / 66) + _; omega)
    have hc : ptChunk ⟨t.val - 1, hl⟩ = chunk r := by unfold ptChunk; exact congrArg chunk hr
    refine h.trans ?_
    rw [hh, hc]
    show _ = (inp m c).next (ptHead t e) (chunk r) ((inp m c).gradS (ptHead t e) r) k v
    refine congrArg (fun D => (inp m c).next (ptHead t e) (chunk r) D k v) (funext fun k' => funext fun v' => ?_)
    rw [ih ⟨t.val - 1, hl⟩ hr e k' v', hh]

/-- … so it is the one the chunk starts from. -/
theorem curDs_eq (c : Dev nD) (t : Fin cfg0.N) (e : Fin 32) (k v : Fin 128) :
    curDs m c t e (ix2 k v) = (inp m c).D (ptHead t e) (ptChunk t) k v := by
  rw [curDs_apply m c (t.val % 66) t rfl e k v]
  unfold Inp.D
  have : t.val % 66 = 65 - (ptChunk t).val := by
    have := Nat.mod_lt t.val (show 66 > 0 by decide)
    show _ = 65 - (65 - t.val % 66)
    omega
  rw [← this]

/-- The gradient of the new values a point leaves. -/
theorem dvn_apply (c : Dev nD) (t : Fin cfg0.N) (e : Fin 32) (i : Fin 64) (v : Fin 128) :
    hDvn (iblk m c 0 t) (iblk m c 3 t) (iblk m c 4 t) (curDs m c t) e (ix2 i v)
      = (inp m c).dVn (ptHead t e) (ptChunk t) ((inp m c).D (ptHead t e) (ptChunk t)) i v := by
  rw [hDvn_apply]
  unfold Inp.dVn
  exact congrArg₂ (· + ·) (Finset.sum_congr rfl fun j _ => congrArg₂ (· * ·) (read4 m c t e j i) (read0 m c t e j v))
    (Finset.sum_congr rfl fun k _ => congrArg₂ (· * ·) (read3 m c t e i k) (curDs_eq m c t e k v))

/-- Output block 0, the gradient of `u`. -/
theorem out_du (c : Dev nD) (t : Fin cfg0.N) (e : Fin 32) (i : Fin 64) (v : Fin 128) :
    (outsAt0 m c t.val t.isLt).1 (ix2 i (hcol e v))
      = (inp m c).dVn (ptHead t e) (ptChunk t) ((inp m c).D (ptHead t e) (ptChunk t)) i v := by
  rw [← dvn_apply]
  by_cases h0 : t.val % 66 = 0
  · rw [dvn_A m c t h0, curDs_A m c t h0, wideTiles_apply]
  · rw [dvn_B m c t h0, curDs_B m c t h0, wideTiles_apply]

/-- Output block 1, the gradient of `w`. -/
theorem out_dw (c : Dev nD) (t : Fin cfg0.N) (e : Fin 32) (i : Fin 64) (k : Fin 128) :
    (outsAt0 m c t.val t.isLt).2.1 (ix2 i (hcol e k))
      = (inp m c).dW (ptHead t e) (ptChunk t) ((inp m c).D (ptHead t e) (ptChunk t)) i k := by
  have hP : hDw (iblk m c 0 t) (iblk m c 3 t) (iblk m c 4 t) (iblk m c 6 t) (curDs m c t) e (ix2 i k)
      = (inp m c).dW (ptHead t e) (ptChunk t) ((inp m c).D (ptHead t e) (ptChunk t)) i k := by
    rw [hDw_apply]
    unfold Inp.dW
    exact congrArg (0 - ·) (Finset.sum_congr rfl fun v _ => congrArg₂ (· * ·) (dvn_apply m c t e i v) (read6 m c t e k v))
  by_cases h0 : t.val % 66 = 0
  · rw [dw_A m c t h0, curDs_A m c t h0, wideTiles_apply]; exact hP
  · rw [dw_B m c t h0, curDs_B m c t h0, wideTiles_apply]; exact hP

/-- Output block 2, the gradient of the decayed queries. -/
theorem out_dqd (c : Dev nD) (t : Fin cfg0.N) (e : Fin 32) (i : Fin 64) (k : Fin 128) :
    (outsAt0 m c t.val t.isLt).2.2.1 (ix2 i (hcol e k)) = (inp m c).dQd (ptHead t e) (ptChunk t) i k := by
  have hP : hDqd (iblk m c 0 t) (iblk m c 6 t) e (ix2 i k) = (inp m c).dQd (ptHead t e) (ptChunk t) i k := by
    rw [hDqd_apply]
    unfold Inp.dQd
    exact Finset.sum_congr rfl fun v _ => congrArg₂ (· * ·) (read0 m c t e i v) (read6 m c t e k v)
  by_cases h0 : t.val % 66 = 0
  · rw [dqd_A m c t h0, wideTiles_apply]; exact hP
  · rw [dqd_B m c t h0, wideTiles_apply]; exact hP

/-- Output block 3, the gradient of the decayed keys. -/
theorem out_dkd (c : Dev nD) (t : Fin cfg0.N) (e : Fin 32) (i : Fin 64) (k : Fin 128) :
    (outsAt0 m c t.val t.isLt).2.2.2.1 (ix2 i (hcol e k))
      = (inp m c).dKd (ptHead t e) (ptChunk t) ((inp m c).D (ptHead t e) (ptChunk t)) i k := by
  have hP : hDkd (iblk m c 5 t) (curDs m c t) e (ix2 i k)
      = (inp m c).dKd (ptHead t e) (ptChunk t) ((inp m c).D (ptHead t e) (ptChunk t)) i k := by
    rw [hDkd_apply]
    unfold Inp.dKd
    exact Finset.sum_congr rfl fun v _ => congrArg₂ (· * ·) (read5 m c t e i v) (curDs_eq m c t e k v)
  by_cases h0 : t.val % 66 = 0
  · rw [dkd_A m c t h0, curDs_A m c t h0, wideTiles_apply]; exact hP
  · rw [dkd_B m c t h0, curDs_B m c t h0, wideTiles_apply]; exact hP

/-- Output block 4, the gradient of the in-chunk attention. -/
theorem out_dp (c : Dev nD) (t : Fin cfg0.N) (e : Fin 32) (i j : Fin 64) :
    (outsAt0 m c t.val t.isLt).2.2.2.2.1 (ix3 e i j) = (inp m c).dP (ptHead t e) (ptChunk t) i j := by
  have hP : hDp (iblk m c 0 t) (iblk m c 5 t) e (ix3 0 i j) = (inp m c).dP (ptHead t e) (ptChunk t) i j := by
    rw [hDp_apply]
    unfold Inp.dP
    split
    · exact Finset.sum_congr rfl fun v _ => congrArg₂ (· * ·) (read0 m c t e i v) (read5 m c t e j v)
    · rfl
  by_cases h0 : t.val % 66 = 0
  · rw [dp_A m c t h0, sqTiles_apply]; exact hP
  · rw [dp_B m c t h0, sqTiles_apply]; exact hP

/-- Output block 5, the gradient of the log decays. -/
theorem out_dg (c : Dev nD) (t : Fin cfg0.N) (e : Fin 32) (l : Fin 128) :
    (outsAt0 m c t.val t.isLt).2.2.2.2.2.1 (ix4 0 0 e l)
      = (inp m c).dG (ptHead t e) (ptChunk t) ((inp m c).D (ptHead t e) (ptChunk t)) := by
  have hP : hSd (iblk m c 6 t) (iblk m c 7 t) (curDs m c t) e (ix4 0 0 0 l)
      = (inp m c).dG (ptHead t e) (ptChunk t) ((inp m c).D (ptHead t e) (ptChunk t)) := by
    rw [hSd_apply, read_dec]
    unfold Inp.dG
    exact congrArg₂ (· * ·) rfl (Finset.sum_congr rfl fun k _ => Finset.sum_congr rfl fun v _ =>
      congrArg₂ (· * ·) (read6 m c t e k v) (curDs_eq m c t e k v))
  by_cases h0 : t.val % 66 = 0
  · rw [sd_A m c t h0, curDs_A m c t h0, sdTiles_apply]; exact hP
  · rw [sd_B m c t h0, curDs_B m c t h0, sdTiles_apply]; exact hP

end Cert.KernelIdeal.Val

end
-- ==== Proof.Bwd.Final.lean ====
/- The backward scan's result arrays: every entry is the gradient given by sums. -/
module

public import proofs.«01_k».proof.Proof.Bwd.Points

@[expose] public section

set_option maxRecDepth 16384

noncomputable section

namespace Cert.KernelIdeal.Val

open Cert.KernelIdeal Cert.KernelIdeal.Gen Idealize.ShloMosaic Idealize.ShloMosaic.TcCoe Idealize.SL.Sem
open Cert.Bwd
open Idealize.ShloMosaic.Pipeline (Dat)

variable (m : (ℓ : Loc nD τ sig) → Buf (Elt Ideal) ℓ) (ρ : Dev nD → PrngReg)

/-- A wide block's index is a row and a head's column. -/
theorem wide_cases (y : S64x4096.Idx) : ∃ (i : Fin 64) (e : Fin 32) (v : Fin 128), y = ix2 i (hcol e v) := by
  have h1 : (y 1).val < 4096 := (y 1).isLt
  refine ⟨y 0, ⟨(y 1).val / 128, by omega⟩, ⟨(y 1).val % 128, by omega⟩, funext fun a => Fin.ext ?_⟩
  match a with
  | ⟨0, _⟩ => rfl
  | ⟨1, _⟩ => show (y 1).val = 128 * ((y 1).val / 128) + (y 1).val % 128; omega

/-- A square block's index by its coordinates. -/
theorem sq_cases (y : S32x64x64.Idx) : ∃ (e : Fin 32) (i j : Fin 64), y = ix3 e i j :=
  ⟨y 0, y 1, y 2, funext fun a => by match a with | ⟨0, _⟩ => rfl | ⟨1, _⟩ => rfl | ⟨2, _⟩ => rfl⟩

/-- The decay gradient's block's index by its coordinates. -/
theorem sd_cases (y : S1x1x32x128.Idx) : ∃ (e : Fin 32) (l : Fin 128), y = ix4 0 0 e l :=
  ⟨y 2, y 3, funext fun a => by
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => rfl
    | ⟨3, _⟩ => rfl⟩

/-- The gradient of `u`, the whole array. -/
theorem final_du (c : Dev nD) : (dats m 0 c).arrAt 8 cfg0.N = (inp m c).outDu := by
  refine (dats m 0 c).arrAt_eq_of_covers 8 _ (by decide +kernel) fun t hf y => ?_
  obtain ⟨i, e, v, rfl⟩ := wide_cases y
  have hy : ((cfg0.win 8).blk t).view.emb (ix2 i (hcol e v)) = ix2 (row (ptChunk t) i) (col (ptHead t e) v) := wide_eq _ t e i v
    ((Pipeline.Window.rect_emb_val win0_8 t _ 0).trans (congrArg (· * 64 + i.val) (idxWide t).1))
    ((Pipeline.Window.rect_emb_val win0_8 t _ 1).trans (congrArg (· * 4096 + (hcol e v).val) (idxWide t).2))
  rw [after0_8]
  refine (out_du m c t e i v).trans ?_
  refine Eq.trans ?_ (congrArg (inp m c).outDu hy.symm)
  exact (Inp.outDu_apply _ _ _ _ _).symm

/-- The gradient of `w`, the whole array. -/
theorem final_dw (c : Dev nD) : (dats m 0 c).arrAt 9 cfg0.N = (inp m c).outDw := by
  refine (dats m 0 c).arrAt_eq_of_covers 9 _ (by decide +kernel) fun t hf y => ?_
  obtain ⟨i, e, v, rfl⟩ := wide_cases y
  have hy : ((cfg0.win 9).blk t).view.emb (ix2 i (hcol e v)) = ix2 (row (ptChunk t) i) (col (ptHead t e) v) := wide_eq _ t e i v
    ((Pipeline.Window.rect_emb_val win0_9 t _ 0).trans (congrArg (· * 64 + i.val) (idxWide t).1))
    ((Pipeline.Window.rect_emb_val win0_9 t _ 1).trans (congrArg (· * 4096 + (hcol e v).val) (idxWide t).2))
  rw [after0_9]
  refine (out_dw m c t e i v).trans ?_
  refine Eq.trans ?_ (congrArg (inp m c).outDw hy.symm)
  exact (Inp.outDw_apply _ _ _ _ _).symm

/-- The gradient of the decayed queries, the whole array. -/
theorem final_dqd (c : Dev nD) : (dats m 0 c).arrAt 10 cfg0.N = (inp m c).outDqd := by
  refine (dats m 0 c).arrAt_eq_of_covers 10 _ (by decide +kernel) fun t hf y => ?_
  obtain ⟨i, e, v, rfl⟩ := wide_cases y
  have hy : ((cfg0.win 10).blk t).view.emb (ix2 i (hcol e v)) = ix2 (row (ptChunk t) i) (col (ptHead t e) v) := wide_eq _ t e i v
    ((Pipeline.Window.rect_emb_val win0_10 t _ 0).trans (congrArg (· * 64 + i.val) (idxWide t).1))
    ((Pipeline.Window.rect_emb_val win0_10 t _ 1).trans (congrArg (· * 4096 + (hcol e v).val) (idxWide t).2))
  rw [after0_10]
  refine (out_dqd m c t e i v).trans ?_
  refine Eq.trans ?_ (congrArg (inp m c).outDqd hy.symm)
  exact (Inp.outDqd_apply _ _ _ _ _).symm

/-- The gradient of the decayed keys, the whole array. -/
theorem final_dkd (c : Dev nD) : (dats m 0 c).arrAt 11 cfg0.N = (inp m c).outDkd := by
  refine (dats m 0 c).arrAt_eq_of_covers 11 _ (by decide +kernel) fun t hf y => ?_
  obtain ⟨i, e, v, rfl⟩ := wide_cases y
  have hy : ((cfg0.win 11).blk t).view.emb (ix2 i (hcol e v)) = ix2 (row (ptChunk t) i) (col (ptHead t e) v) := wide_eq _ t e i v
    ((Pipeline.Window.rect_emb_val win0_11 t _ 0).trans (congrArg (· * 64 + i.val) (idxWide t).1))
    ((Pipeline.Window.rect_emb_val win0_11 t _ 1).trans (congrArg (· * 4096 + (hcol e v).val) (idxWide t).2))
  rw [after0_11]
  refine (out_dkd m c t e i v).trans ?_
  refine Eq.trans ?_ (congrArg (inp m c).outDkd hy.symm)
  exact (Inp.outDkd_apply _ _ _ _ _).symm

/-- The gradient of the in-chunk attention, the whole array. -/
theorem final_dp (c : Dev nD) : (dats m 0 c).arrAt 12 cfg0.N = (inp m c).outDp := by
  refine (dats m 0 c).arrAt_eq_of_covers 12 _ (by decide +kernel) fun t hf y => ?_
  obtain ⟨e, i, j, rfl⟩ := sq_cases y
  have hy : ((cfg0.win 12).blk t).view.emb (ix3 e i j) = ix3 (ptHead t e) (row (ptChunk t) i) j := sq_eq _ t e i j
    ((Pipeline.Window.rect_emb_val win0_12 t _ 0).trans (congrArg (· * 32 + e.val) (idxSq t).1))
    ((Pipeline.Window.rect_emb_val win0_12 t _ 1).trans (congrArg (· * 64 + i.val) (idxSq t).2.1))
    ((Pipeline.Window.rect_emb_val win0_12 t _ 2).trans (congrArg (· * 64 + j.val) (idxSq t).2.2))
  rw [after0_12]
  refine (out_dp m c t e i j).trans ?_
  refine Eq.trans ?_ (congrArg (inp m c).outDp hy.symm)
  exact (Inp.outDp_apply _ _ _ _ _).symm

/-- Where the decay gradient's block's entry lies in its array. -/
theorem sd_eq (y : S2x66x32x128.Idx) (t : Fin cfg0.N) (h2 : t.val / 66 < 2) (e : Fin 32) (l : Fin 128)
    (h0 : (y 0).val = t.val / 66 * 1 + 0) (h1 : (y 1).val = (65 - t.val % 66) * 1 + 0) (h2' : (y 2).val = 0 * 32 + e.val)
    (h3 : (y 3).val = 0 * 128 + l.val) : y = ix4 ⟨t.val / 66, h2⟩ (ptChunk t) e l := by
  funext a
  apply Fin.ext
  match a with
  | ⟨0, _⟩ => refine h0.trans ?_; show _ = t.val / 66; omega
  | ⟨1, _⟩ => refine h1.trans ?_; show _ = 65 - t.val % 66; omega
  | ⟨2, _⟩ => refine h2'.trans ?_; show _ = e.val; omega
  | ⟨3, _⟩ => refine h3.trans ?_; show _ = l.val; omega

/-- The gradient of the log decays, the whole array. -/
theorem final_dg (c : Dev nD) : (dats m 0 c).arrAt 13 cfg0.N = (inp m c).outDg := by
  refine (dats m 0 c).arrAt_eq_of_covers 13 _ (by decide +kernel) fun t hf y => ?_
  obtain ⟨e, l, rfl⟩ := sd_cases y
  have h2 : t.val / 66 < 2 := by have := lt_of_lt_of_eq t.isLt (show cfg0.N = 132 from N_0); omega
  have hy : ((cfg0.win 13).blk t).view.emb (ix4 0 0 e l) = ix4 ⟨t.val / 66, h2⟩ (ptChunk t) e l := sd_eq _ t h2 e l
    ((Pipeline.Window.rect_emb_val win0_13 t _ 0).trans (congrArg (· * 1 + 0) (idxG t).1))
    ((Pipeline.Window.rect_emb_val win0_13 t _ 1).trans (congrArg (· * 1 + 0) (idxG t).2.1))
    ((Pipeline.Window.rect_emb_val win0_13 t _ 2).trans (congrArg (· * 32 + e.val) (idxG t).2.2.1))
    ((Pipeline.Window.rect_emb_val win0_13 t _ 3).trans (congrArg (· * 128 + l.val) (idxG t).2.2.2))
  rw [after0_13]
  refine (out_dg m c t e l).trans ?_
  refine Eq.trans ?_ (congrArg (inp m c).outDg hy.symm)
  exact (Inp.outDg_apply (inp m c) ⟨t.val / 66, h2⟩ (ptChunk t) e l).symm

end Cert.KernelIdeal.Val

end
-- ==== Proof.Bwd.Finite.lean ====
/- Finite inputs keep every gradient of the scan finite, so a sign may be moved through its sums. -/
module

public import proofs.«01_k».proof.Proof.Bwd.Spec

@[expose] public section

noncomputable section

namespace Cert.Bwd

open Idealize.ShloMosaic

/-- A value that is neither infinity. -/
def Real (x : EReal) : Prop := ∃ r : ℝ, x = (r : EReal)

namespace Real

/-- Zero is finite. -/
theorem zero : Real 0 := ⟨0, rfl⟩
/-- A sum of two finite values is finite. -/
theorem add {x y : EReal} : Real x → Real y → Real (x + y)
  | ⟨r, hr⟩, ⟨s, hs⟩ => ⟨r + s, by rw [hr, hs, EReal.coe_add]⟩
/-- A product of two finite values is finite. -/
theorem mul {x y : EReal} : Real x → Real y → Real (x * y)
  | ⟨r, hr⟩, ⟨s, hs⟩ => ⟨r * s, by rw [hr, hs, EReal.coe_mul]⟩
/-- A difference of two finite values is finite. -/
theorem sub {x y : EReal} : Real x → Real y → Real (x - y)
  | ⟨r, hr⟩, ⟨s, hs⟩ => ⟨r - s, by rw [hr, hs, EReal.coe_sub]⟩
/-- The exponential of a finite value is finite. -/
theorem exp {x : EReal} : Real x → Real (Ideal.exp x)
  | ⟨r, hr⟩ => ⟨_root_.Real.exp r, by rw [hr]; rfl⟩
/-- A finite sum of finite values is finite. -/
theorem sum {ι : Type} (s : Finset ι) (f : ι → EReal) (h : ∀ i, Real (f i)) : Real (∑ i ∈ s, f i) :=
  Finset.sum_induction f Real (fun _ _ => add) zero fun i _ => h i

end Real

/-- A sum of reals, read as extended reals. -/
theorem coe_sum {ι : Type} (s : Finset ι) (f : ι → ℝ) : ∑ i ∈ s, (f i : EReal) = ((∑ i ∈ s, f i : ℝ) : EReal) := by
  classical
  induction s using Finset.induction_on with
  | empty => rfl
  | insert i s hi ih => rw [Finset.sum_insert hi, Finset.sum_insert hi, ih, EReal.coe_add]

/-- The sign of finite terms moves out of their sum. -/
theorem sum_neg {ι : Type} (s : Finset ι) (f g : ι → EReal) (hf : ∀ i, Real (f i)) (hg : ∀ i, Real (g i)) :
    ∑ i ∈ s, -f i * g i = 0 - ∑ i ∈ s, f i * g i := by
  choose a ha using hf
  choose b hb using hg
  have e1 : ∀ i, -f i * g i = ((-(a i * b i) : ℝ) : EReal) := fun i => by
    rw [ha, hb, ← EReal.coe_neg, ← EReal.coe_mul, neg_mul]
  have e2 : ∀ i, f i * g i = ((a i * b i : ℝ) : EReal) := fun i => by rw [ha, hb, ← EReal.coe_mul]
  simp only [e1, e2]
  rw [coe_sum, coe_sum, Finset.sum_neg_distrib, zero_sub, EReal.coe_neg]

namespace Inp

/-- Every entry of every array but `u` is finite. -/
structure Finite (a : Inp) : Prop where
  dO : ∀ i, Real (a.dO i)
  w : ∀ i, Real (a.w i)
  qd : ∀ i, Real (a.qd i)
  kd : ∀ i, Real (a.kd i)
  p : ∀ i, Real (a.p i)
  g : ∀ i, Real (a.g i)
  st : ∀ i, Real (a.st i)

variable {a : Inp} (A : a.Finite) (h : Fin 64) (n : Fin 66)
include A

/-- The decay is finite. -/
theorem Finite.dec : Real (a.dec h n) := Real.exp (Real.sum _ _ fun _ => A.g _)

/-- From a finite gradient of the state, the gradient of the new values is finite … -/
theorem Finite.dVn {D : Fin 128 → Fin 128 → EReal} (hD : ∀ k v, Real (D k v)) (i : Fin 64) (v : Fin 128) :
    Real (a.dVn h n D i v) :=
  Real.add (Real.sum _ _ fun _ => Real.mul (A.p _) (A.dO _)) (Real.sum _ _ fun _ => Real.mul (A.kd _) (hD _ _))

/-- … and so is the gradient of the state before the chunk. -/
theorem Finite.next {D : Fin 128 → Fin 128 → EReal} (hD : ∀ k v, Real (D k v)) (k v : Fin 128) :
    Real (a.next h n D k v) :=
  Real.sub (Real.add (Real.sum _ _ fun _ => Real.mul (A.qd _) (A.dO _)) (Real.mul (A.dec h n) (hD k v)))
    (Real.sum _ _ fun _ => Real.mul (A.w _) (A.dVn h n hD _ _))

/-- The state's gradient is finite after any number of chunks. -/
theorem Finite.gradS : ∀ (r : ℕ) (k v : Fin 128), Real (a.gradS h r k v)
  | 0, _, _ => Real.zero
  | r + 1, k, v => A.next h (chunk r) (Finite.gradS r) k v

/-- The gradient of `w` with the sign inside the sum. -/
theorem Finite.dW {D : Fin 128 → Fin 128 → EReal} (hD : ∀ k v, Real (D k v)) (i : Fin 64) (k : Fin 128) :
    ∑ v : Fin 128, -a.dVn h n D i v * a.sAt h n k v = a.dW h n D i k :=
  sum_neg _ _ _ (fun v => A.dVn h n hD i v) fun _ => A.st _

/-- The state's gradient before the chunk with the sign inside the sum. -/
theorem Finite.step {D : Fin 128 → Fin 128 → EReal} (hD : ∀ k v, Real (D k v)) (k v : Fin 128) :
    (D k v * a.dec h n + ∑ i : Fin 64, Inp.at2 h n a.dO i v * Inp.at2 h n a.qd i k)
      + ∑ i : Fin 64, -a.dVn h n D i v * Inp.at2 h n a.w i k = a.next h n D k v := by
  have e : ∑ i : Fin 64, -a.dVn h n D i v * Inp.at2 h n a.w i k = 0 - ∑ i : Fin 64, a.dVn h n D i v * Inp.at2 h n a.w i k :=
    sum_neg _ _ _ (fun i => A.dVn h n hD i v) fun _ => A.w _
  rw [e, zero_sub, ← sub_eq_add_neg]
  refine congrArg₂ (· - ·) ((add_comm _ _).trans (congrArg₂ (· + ·) ?_ (mul_comm _ _))) ?_
  · exact Finset.sum_congr rfl fun _ _ => mul_comm _ _
  · exact Finset.sum_congr rfl fun _ _ => mul_comm _ _

end Inp

end Cert.Bwd

end
-- ==== Proof.Bwd.Pre.lean ====
/- The precondition, read: every entry of every argument but `u` is finite. -/
module

public import proofs.«01_k».proof.Proof.Bwd.Finite
public import proofs.«01_k».proof.Pre_finite
public import Idealize.ShloMosaic.Lib.ReduceAll

@[expose] public section

noncomputable section

namespace Cert.Bwd

open Idealize.ShloMosaic Cert.Pre_finite

/-- The side conditions of the precondition's operations. -/
theorem preFacts : Cert.Pre_finite.Facts where
  bcast_S_S4224x8192 := by decide
  reducesTo_S4224x8192_S_d0_1 := by decide
  h_S_ := by decide
  bitsLt_bf16_f32 := by decide
  bcast_S_S64x4224x64 := by decide
  reducesTo_S64x4224x64_S_d0_1_2 := by decide
  bcast_S_S32x66x8x64 := by decide
  reducesTo_S32x66x8x64_S_d0_1_2_3 := by decide
  bcast_S_S66x64x128x128 := by decide
  reducesTo_S66x64x128x128_S_d0_1_2_3 := by decide

/-- A magnitude below infinity makes the value finite. -/
theorem real_of_olt (x : Ideal .f32)
    (h : FloatOps.cmpf .olt (FloatOps.hostAbsf x) (FloatOps.ofBits (F := Ideal) .f32 0x7F800000#32) = 1#1) :
    Real x := by
  have htop : Ideal.ofBits .f32 0x7F800000#32 = ⊤ := by simp [Ideal.ofBits, Ideal.ieee]
  have e : Ideal.cmp .olt (max (x : EReal) (-(x : EReal))) (Ideal.ofBits .f32 0x7F800000#32) = 1#1 := h
  rw [htop] at e
  unfold Ideal.cmp at e
  have hlt : max (x : EReal) (-(x : EReal)) < ⊤ := by
    by_contra hn
    simp [hn] at e
  rw [max_lt_iff] at hlt
  refine ⟨EReal.toReal x, (EReal.coe_toReal hlt.1.ne fun hb => ?_).symm⟩
  rw [hb] at hlt
  exact lt_irrefl _ hlt.2

instance : Subsingleton S_.Idx := ⟨fun a b => funext fun i => i.elim0⟩

variable [Cert.Pre_finite.Facts]

/-- The precondition's test of one array, read at an entry. -/
theorem real_of_reduce {s : Shape} {axes : List (Fin s.rank)} (x : FVec Ideal s .f32) (hb hr hu) (j : S_.Idx)
    (h : Host.reduce IntOp.andi (cmpf .olt (Host.absf x) (broadcastInDim s ![] hb (constant S_ .f32 0x7F800000#32)))
      (constantI S_ 1 1#1) (axes := axes) (t := S_) hr hu j = 1#1) (i : s.Idx) : Real (x i) :=
  real_of_olt (x i) (Host.reduce_andi_all _ _ hr hu j h i)

/-- The precondition gives the finiteness of every argument but the second. -/
theorem finite_of_pre (x0 x1 : FVec Ideal S4224x8192 .f32) (x2 x3 x4 : FVec Ideal S4224x8192 .bf16)
    (x5 : FVec Ideal S64x4224x64 .bf16) (x6 : FVec Ideal S32x66x8x64 .f32) (x7 : FVec Ideal S66x64x128x128 .f32)
    (h : Cert.Pre_finite.fn (F := Ideal) x0 x1 x2 x3 x4 x5 x6 x7 = fun _ => 1#1) :
    Inp.Finite ⟨x0, x1, x2, x3, x4, x5, x6, x7⟩ := by
  have e := congrFun h (Shape.Idx.first Facts.h_S_)
  unfold Cert.Pre_finite.fn fn_part1 fn_part2 at e
  dsimp only at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨fun i => real_of_reduce x0 _ _ _ _ e0 i, fun i => real_of_reduce _ _ _ _ _ e2 i,
    fun i => real_of_reduce _ _ _ _ _ e3 i, fun i => real_of_reduce _ _ _ _ _ e4 i,
    fun i => real_of_reduce _ _ _ _ _ e5 i, fun i => real_of_reduce x6 _ _ _ _ e6 i,
    fun i => real_of_reduce x7 _ _ _ _ e7 i⟩

end Cert.Bwd

end
-- ==== Proof.Bwd.RefStep.lean ====
/- One trip of the reference's loop, as a step on the carried arrays, and the run restated over the steps. -/
module

public import proofs.«01_k».proof.Proof.Gen.ReferenceIdeal.Run
public import proofs.«01_k».proof.Proof.Gen.ReferenceIdeal.Step

@[expose] public section

noncomputable section

namespace Cert.Bwd

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The carried arrays, read off a valuation. -/
def carried (V : Valuation τ sig (Elt F)) : State F where
  main_v27_9 := V (Proc.devRef .tc main_v27_9)
  main_v27_10 := V (Proc.devRef .tc main_v27_10)
  main_v27_11 := V (Proc.devRef .tc main_v27_11)
  main_v27_12 := V (Proc.devRef .tc main_v27_12)
  main_v27_13 := V (Proc.devRef .tc main_v27_13)
  main_v27_14 := V (Proc.devRef .tc main_v27_14)
  main_v27_15 := V (Proc.devRef .tc main_v27_15)
  main_v27_0 := V (Proc.devRef .tc main_v27_0)
  main_v27_1 := V (Proc.devRef .tc main_v27_1)
  main_v27_2 := V (Proc.devRef .tc main_v27_2)
  main_v27_3 := V (Proc.devRef .tc main_v27_3)
  main_v27_4 := V (Proc.devRef .tc main_v27_4)
  main_v27_5 := V (Proc.devRef .tc main_v27_5)
  main_v27_6 := V (Proc.devRef .tc main_v27_6)
  main_v27_7 := V (Proc.devRef .tc main_v27_7)

/-- The counter's contents before trip `j`. -/
abbrev Counted (V : Valuation τ sig (Elt F)) (j : ℕ) : Prop :=
  V (Proc.devRef .tc main_v27_8) = constantI S_ 32 (BitVec.ofNat 32 j)

variable {V : Valuation τ sig (Elt F)} {j : ℕ}

/-- The chunk a trip works on. -/
theorem at_chunk (h : Counted V j) : res_main_while0b_v49 V = Step.b3 j (carried V) := by
  unfold res_main_while0b_v49 Step.b3 Step.b1
  rw [h]; rfl

/-- The trip's slice of the states. -/
theorem at_S (h : Counted V j) : res_main_while0b_v50 V = Step.b8 j (carried V) := by
  unfold res_main_while0b_v50; rw [at_chunk h]; rfl
/-- The trip's slice of the outputs' gradients. -/
theorem at_do (h : Counted V j) : res_main_while0b_v51 V = Step.b13 j (carried V) := by
  unfold res_main_while0b_v51; rw [at_chunk h]; rfl
theorem at_w (h : Counted V j) : res_main_while0b_v53 V = Step.b23 j (carried V) := by
  unfold res_main_while0b_v53; rw [at_chunk h]; rfl
theorem at_qd (h : Counted V j) : res_main_while0b_v54 V = Step.b28 j (carried V) := by
  unfold res_main_while0b_v54; rw [at_chunk h]; rfl
theorem at_kd (h : Counted V j) : res_main_while0b_v55 V = Step.b33 j (carried V) := by
  unfold res_main_while0b_v55; rw [at_chunk h]; rfl
theorem at_a (h : Counted V j) : res_main_while0b_v56 V = Step.b38 j (carried V) := by
  unfold res_main_while0b_v56; rw [at_chunk h]; rfl
theorem at_vn (h : Counted V j) : res_main_while0b_v59 V = Step.b43 j (carried V) := by
  unfold res_main_while0b_v59; rw [at_chunk h, at_w h, at_S h]; rfl
theorem at_e (h : Counted V j) : res_main_while0b_v63 V = Step.b47 j (carried V) := by
  unfold res_main_while0b_v63; rw [at_chunk h]; rfl
theorem at_e1 (h : Counted V j) : res_main_while0b_v64 V = Step.b48 j (carried V) := by
  unfold res_main_while0b_v64; rw [at_e h]; rfl
theorem at_dv (h : Counted V j) : res_main_while0b_v82 V = Step.b68 j (carried V) := by
  unfold res_main_while0b_v82; rw [at_kd h, at_do h, at_a h]; rfl
theorem at_ndv (h : Counted V j) : res_main_while0b_v88 V = Step.b74 j (carried V) := by
  unfold res_main_while0b_v88; rw [at_dv h]; rfl

/-- One trip takes the carried arrays to the step of them. -/
theorem carried_STEP (h : Counted V j) : carried (STEP V) = step j (carried V) := by
  unfold carried step
  rw [State.mk.injEq]
  refine ⟨(STEP_main_v27_9 V).trans ?_, (STEP_main_v27_10 V).trans ?_, (STEP_main_v27_11 V).trans ?_,
    (STEP_main_v27_12 V).trans ?_, (STEP_main_v27_13 V).trans ?_, (STEP_main_v27_14 V).trans ?_,
    (STEP_main_v27_15 V).trans ?_, STEP_main_v27_0 V, STEP_main_v27_1 V, STEP_main_v27_2 V, STEP_main_v27_3 V,
    STEP_main_v27_4 V, STEP_main_v27_5 V, STEP_main_v27_6 V, STEP_main_v27_7 V⟩
  · unfold step_main_v27_9; rw [at_e1 h, at_do h, at_qd h, at_w h, at_ndv h]; rfl
  · unfold step_main_v27_10; rw [at_dv h, at_chunk h]; rfl
  · unfold step_main_v27_11; rw [at_ndv h, at_S h, at_chunk h]; rfl
  · unfold step_main_v27_12; rw [at_do h, at_S h, at_chunk h]; rfl
  · unfold step_main_v27_13; rw [at_vn h, at_chunk h]; rfl
  · unfold step_main_v27_14; rw [at_do h, at_vn h, at_chunk h]; rfl
  · unfold step_main_v27_15; rw [at_S h, at_e h, at_chunk h]; rfl

/-- One trip counts on. -/
theorem counted_STEP (h : Counted V j) : Counted (STEP V) (j + 1) := by
  refine (STEP_main_v27_8 V).trans ?_
  unfold step_main_v27_8
  rw [h]
  funext i
  show BitVec.ofNat 32 j + 1#32 = BitVec.ofNat 32 (j + 1)
  simp only [BitVec.ofNat_add]

variable (m : (ℓ : Loc nD τ sig) → Buf (Elt F) ℓ) (c : Dev nD)

/-- The carried arrays before the first trip. -/
abbrev start : State F :=
  init (m ((c.tc : Thread nD τ).loc main_arg7)) (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))

set_option maxRecDepth 65536 in
set_option maxHeartbeats 600000 in
/-- What the operations before the loop leave. -/
theorem carried_entry : carried (entryContents preI m c) = start m c
    ∧ Counted (entryContents preI m c) 0 := by
  unfold carried start init Counted
  rw [State.mk.injEq]
  refine ⟨⟨?_, ?_, ?_, ?_, ?_, ?_, ?_, ?_, ?_, ?_, ?_, ?_, ?_, ?_, ?_⟩, ?_⟩ <;>
    (simp only [entryContents, afterL_cons, afterL_nil]; after_reads_simp) <;> rfl

/-- The carried arrays before trip `k`. -/
def trips : ℕ → State F
  | 0 => start m c
  | k + 1 => step k (trips k)

/-- Before trip `k` the loop holds `trips k` and the number `k`. -/
theorem carried_trips (k : ℕ) : carried (STEP^[k] (entryContents preI m c)) = trips m c k
    ∧ Counted (STEP^[k] (entryContents preI m c)) k := by
  induction k with
  | zero => exact carried_entry m c
  | succ k ih =>
    rw [Function.iterate_succ_apply']
    exact ⟨(carried_STEP ih.2).trans (by rw [ih.1]; rfl), counted_STEP ih.2⟩

end Cert.Bwd

end
-- ==== Proof.Bwd.RefSlice.lean ====
/- Reading and replacing one chunk of an array whose first axis counts the chunks. -/
module

public import proofs.«01_k».proof.Proof.Bwd.Spec

@[expose] public section

noncomputable section

namespace Cert.Bwd

open Idealize.ShloMosaic

variable {α : Type}

/-- The reference counts the chunks down from the last: the number it slices at. -/
theorem countdown (j : ℕ) (hj : j < 66) : ((66#32 - BitVec.ofNat 32 j) - 1#32).toInt = ((65 - j : ℕ) : Int) :=
  (by decide : ∀ j : Fin 66, ((66#32 - BitVec.ofNat 32 j.val) - 1#32).toInt = ((65 - j.val : ℕ) : Int)) ⟨j, hj⟩

/-- A block of one chunk, cut at chunk `j` from the end, reads that chunk. -/
theorem slice4 {A B C : ℕ} (x : (⟨4, ![66, A, B, C]⟩ : Shape).Idx → α) (start : Fin 4 → Int)
    (hs : (⟨4, ![66, A, B, C]⟩ : Shape).Slices (fun _ => 0) ⟨4, ![1, A, B, C]⟩) (j : ℕ)
    (h0 : start 0 = ((65 - j : ℕ) : Int)) (h1 : start 1 = 0) (h2 : start 2 = 0) (h3 : start 3 = 0)
    (i : Fin A) (k : Fin B) (l : Fin C) :
    Host.dynamicSlice ⟨4, ![1, A, B, C]⟩ x start hs (ix4 0 i k l) = x (ix4 (chunk j) i k l) := by
  rw [Host.dynamicSlice_apply]
  congr 1
  funext b
  fin_cases b <;> apply Fin.ext
  · show Host.clampedStart _ _ hs.1 start 0 + 0 = 65 - j
    rw [Host.clampedStart_of_le (t := ⟨4, ![1, A, B, C]⟩) hs.1 start 0 (65 - j) h0 (by show 65 - j + 1 ≤ 66; omega), Nat.add_zero]
  · show Host.clampedStart _ _ hs.1 start 1 + i.val = i.val
    rw [Host.clampedStart_of_le (t := ⟨4, ![1, A, B, C]⟩) hs.1 start 1 0 h1 (by show 0 + A ≤ A; omega), Nat.zero_add]
  · show Host.clampedStart _ _ hs.1 start 2 + k.val = k.val
    rw [Host.clampedStart_of_le (t := ⟨4, ![1, A, B, C]⟩) hs.1 start 2 0 h2 (by show 0 + B ≤ B; omega), Nat.zero_add]
  · show Host.clampedStart _ _ hs.1 start 3 + l.val = l.val
    rw [Host.clampedStart_of_le (t := ⟨4, ![1, A, B, C]⟩) hs.1 start 3 0 h3 (by show 0 + C ≤ C; omega), Nat.zero_add]

/-- A row, cut at chunk `j` from the end, reads that chunk. -/
theorem slice2 {A : ℕ} (x : (⟨2, ![66, A]⟩ : Shape).Idx → α) (start : Fin 2 → Int)
    (hs : (⟨2, ![66, A]⟩ : Shape).Slices (fun _ => 0) ⟨2, ![1, A]⟩) (j : ℕ)
    (h0 : start 0 = ((65 - j : ℕ) : Int)) (h1 : start 1 = 0) (i : Fin A) :
    Host.dynamicSlice ⟨2, ![1, A]⟩ x start hs (ix2 0 i) = x (ix2 (chunk j) i) := by
  rw [Host.dynamicSlice_apply]
  congr 1
  funext b
  fin_cases b <;> apply Fin.ext
  · show Host.clampedStart _ _ hs.1 start 0 + 0 = 65 - j
    rw [Host.clampedStart_of_le (t := ⟨2, ![1, A]⟩) hs.1 start 0 (65 - j) h0 (by show 65 - j + 1 ≤ 66; omega), Nat.add_zero]
  · show Host.clampedStart _ _ hs.1 start 1 + i.val = i.val
    rw [Host.clampedStart_of_le (t := ⟨2, ![1, A]⟩) hs.1 start 1 0 h1 (by show 0 + A ≤ A; omega), Nat.zero_add]

/-- Replacing chunk `j` from the end: the replacement on that chunk, the old array on the others. -/
theorem update4 {A B C : ℕ} (x : (⟨4, ![66, A, B, C]⟩ : Shape).Idx → α) (y : (⟨4, ![1, A, B, C]⟩ : Shape).Idx → α)
    (start : Fin 4 → Int) (hs : (⟨4, ![66, A, B, C]⟩ : Shape).Slices (fun _ => 0) ⟨4, ![1, A, B, C]⟩) (j : ℕ)
    (h0 : start 0 = ((65 - j : ℕ) : Int)) (h1 : start 1 = 0) (h2 : start 2 = 0) (h3 : start 3 = 0)
    (n : Fin 66) (i : Fin A) (k : Fin B) (l : Fin C) :
    Host.dynamicUpdateSlice x y start hs (ix4 n i k l) = if n = chunk j then y (ix4 0 i k l) else x (ix4 n i k l) := by
  have e0 := Host.clampedStart_of_le (t := ⟨4, ![1, A, B, C]⟩) hs.1 start 0 (65 - j) h0 (by show 65 - j + 1 ≤ 66; omega)
  have e1 := Host.clampedStart_of_le (t := ⟨4, ![1, A, B, C]⟩) hs.1 start 1 0 h1 (by show 0 + A ≤ A; omega)
  have e2 := Host.clampedStart_of_le (t := ⟨4, ![1, A, B, C]⟩) hs.1 start 2 0 h2 (by show 0 + B ≤ B; omega)
  have e3 := Host.clampedStart_of_le (t := ⟨4, ![1, A, B, C]⟩) hs.1 start 3 0 h3 (by show 0 + C ≤ C; omega)
  rw [Host.dynamicUpdateSlice_apply]
  by_cases hn : n = chunk j
  · subst hn
    rw [if_pos rfl, dif_pos]
    · congr 1
      funext b
      fin_cases b <;> apply Fin.ext
      · show 65 - j - Host.clampedStart _ _ hs.1 start 0 = 0
        rw [e0]; omega
      · show i.val - Host.clampedStart _ _ hs.1 start 1 = i.val
        rw [e1]; rfl
      · show k.val - Host.clampedStart _ _ hs.1 start 2 = k.val
        rw [e2]; rfl
      · show l.val - Host.clampedStart _ _ hs.1 start 3 = l.val
        rw [e3]; rfl
    · intro b
      fin_cases b
      · show Host.clampedStart _ _ hs.1 start 0 ≤ 65 - j ∧ 65 - j < Host.clampedStart _ _ hs.1 start 0 + 1
        rw [e0]; omega
      · show Host.clampedStart _ _ hs.1 start 1 ≤ i.val ∧ i.val < Host.clampedStart _ _ hs.1 start 1 + A
        rw [e1]; omega
      · show Host.clampedStart _ _ hs.1 start 2 ≤ k.val ∧ k.val < Host.clampedStart _ _ hs.1 start 2 + B
        rw [e2]; omega
      · show Host.clampedStart _ _ hs.1 start 3 ≤ l.val ∧ l.val < Host.clampedStart _ _ hs.1 start 3 + C
        rw [e3]; omega
  · rw [if_neg hn, dif_neg]
    intro hin
    have hb : Host.clampedStart _ _ hs.1 start 0 ≤ n.val ∧ n.val < Host.clampedStart _ _ hs.1 start 0 + 1 := hin 0
    rw [e0] at hb
    exact hn (Fin.ext (by show n.val = 65 - j; omega))

/-- Replacing row `j` from the end. -/
theorem update2 {A : ℕ} (x : (⟨2, ![66, A]⟩ : Shape).Idx → α) (y : (⟨2, ![1, A]⟩ : Shape).Idx → α)
    (start : Fin 2 → Int) (hs : (⟨2, ![66, A]⟩ : Shape).Slices (fun _ => 0) ⟨2, ![1, A]⟩) (j : ℕ)
    (h0 : start 0 = ((65 - j : ℕ) : Int)) (h1 : start 1 = 0) (n : Fin 66) (i : Fin A) :
    Host.dynamicUpdateSlice x y start hs (ix2 n i) = if n = chunk j then y (ix2 0 i) else x (ix2 n i) := by
  have e0 := Host.clampedStart_of_le (t := ⟨2, ![1, A]⟩) hs.1 start 0 (65 - j) h0 (by show 65 - j + 1 ≤ 66; omega)
  have e1 := Host.clampedStart_of_le (t := ⟨2, ![1, A]⟩) hs.1 start 1 0 h1 (by show 0 + A ≤ A; omega)
  rw [Host.dynamicUpdateSlice_apply]
  by_cases hn : n = chunk j
  · subst hn
    rw [if_pos rfl, dif_pos]
    · congr 1
      funext b
      fin_cases b <;> apply Fin.ext
      · show 65 - j - Host.clampedStart _ _ hs.1 start 0 = 0
        rw [e0]; omega
      · show i.val - Host.clampedStart _ _ hs.1 start 1 = i.val
        rw [e1]; rfl
    · intro b
      fin_cases b
      · show Host.clampedStart _ _ hs.1 start 0 ≤ 65 - j ∧ 65 - j < Host.clampedStart _ _ hs.1 start 0 + 1
        rw [e0]; omega
      · show Host.clampedStart _ _ hs.1 start 1 ≤ i.val ∧ i.val < Host.clampedStart _ _ hs.1 start 1 + A
        rw [e1]; omega
  · rw [if_neg hn, dif_neg]
    intro hin
    have hb : Host.clampedStart _ _ hs.1 start 0 ≤ n.val ∧ n.val < Host.clampedStart _ _ hs.1 start 0 + 1 := hin 0
    rw [e0] at hb
    exact hn (Fin.ext (by show n.val = 65 - j; omega))

end Cert.Bwd

end
-- ==== Proof.Bwd.RefTrip.lean ====
/- The reference's trip at an index: the arrays of one chunk as the sums of `Inp`. -/
module

public import proofs.«01_k».proof.Proof.Bwd.RefSlice
public import proofs.«01_k».proof.Proof.Gen.ReferenceIdeal.Step

@[expose] public section

set_option maxRecDepth 16384

noncomputable section

namespace Cert.Bwd

open Idealize.ShloMosaic Idealize.ShloMosaic.TcCoe Idealize.SL.Sem
open Cert.ReferenceIdeal Cert.ReferenceIdeal.Gen
open Cert.ReferenceIdeal.Step

/-- The constants of the loop are the arrays of `a`, chunk by chunk and head by head. -/
structure Holds (a : Inp) (s : State Ideal) : Prop where
  st : ∀ n h k v, s.main_v27_0 (ix4 n h k v) = a.sAt h n k v
  dO : ∀ n h i v, s.main_v27_1 (ix4 n h i v) = Inp.at2 h n a.dO i v
  u : ∀ n h i v, s.main_v27_2 (ix4 n h i v) = Inp.at2 h n a.u i v
  w : ∀ n h i v, s.main_v27_3 (ix4 n h i v) = Inp.at2 h n a.w i v
  qd : ∀ n h i v, s.main_v27_4 (ix4 n h i v) = Inp.at2 h n a.qd i v
  kd : ∀ n h i v, s.main_v27_5 (ix4 n h i v) = Inp.at2 h n a.kd i v
  p : ∀ n h i j, s.main_v27_6 (ix4 n h i j) = a.pAt h n i j
  g : ∀ n h, s.main_v27_7 (ix2 n h) = ∑ x : Fin 64, a.g (ix4 (pair h) n (lane h) x)

variable {a : Inp} {s : State Ideal} (H : Holds a s) {j : ℕ} (hj : j < 66)
include H hj

/-- The chunk's state. -/
theorem at_b8 (h : Fin 64) (k v : Fin 128) : b8 j s (ix3 h k v) = a.sAt h (chunk j) k v := by
  unfold b8
  pointwise
  exact (slice4 _ _ _ j (countdown j hj) rfl rfl rfl h k v).trans (H.st ..)

/-- The chunk's cotangent. -/
theorem at_b13 (h i : Fin 64) (v : Fin 128) : b13 j s (ix3 h i v) = Inp.at2 h (chunk j) a.dO i v := by
  unfold b13
  pointwise
  exact (slice4 _ _ _ j (countdown j hj) rfl rfl rfl h i v).trans (H.dO ..)

/-- The chunk's `u`. -/
theorem at_b18 (h i : Fin 64) (v : Fin 128) : b18 j s (ix3 h i v) = Inp.at2 h (chunk j) a.u i v := by
  unfold b18
  pointwise
  exact (slice4 _ _ _ j (countdown j hj) rfl rfl rfl h i v).trans (H.u ..)

/-- The chunk's `w`. -/
theorem at_b23 (h i : Fin 64) (v : Fin 128) : b23 j s (ix3 h i v) = Inp.at2 h (chunk j) a.w i v := by
  unfold b23
  pointwise
  exact (slice4 _ _ _ j (countdown j hj) rfl rfl rfl h i v).trans (H.w ..)

/-- The chunk's decayed queries. -/
theorem at_b28 (h i : Fin 64) (v : Fin 128) : b28 j s (ix3 h i v) = Inp.at2 h (chunk j) a.qd i v := by
  unfold b28
  pointwise
  exact (slice4 _ _ _ j (countdown j hj) rfl rfl rfl h i v).trans (H.qd ..)

/-- The chunk's decayed keys. -/
theorem at_b33 (h i : Fin 64) (v : Fin 128) : b33 j s (ix3 h i v) = Inp.at2 h (chunk j) a.kd i v := by
  unfold b33
  pointwise
  exact (slice4 _ _ _ j (countdown j hj) rfl rfl rfl h i v).trans (H.kd ..)

/-- The chunk's attention. -/
theorem at_b38 (h i k : Fin 64) : b38 j s (ix3 h i k) = a.pAt h (chunk j) i k := by
  unfold b38
  pointwise
  exact (slice4 _ _ _ j (countdown j hj) rfl rfl rfl h i k).trans (H.p ..)

/-- The chunk's log decay. -/
theorem at_b41 (h : Fin 64) : b41 j s (ix1 h) = ∑ x : Fin 64, a.g (ix4 (pair h) (chunk j) (lane h) x) := by
  unfold b41
  pointwise
  exact (slice2 _ _ _ j (countdown j hj) rfl h).trans (H.g ..)

/-- The chunk's decay. -/
theorem at_b47 (h : Fin 64) : b47 j s (ix1 h) = a.dec h (chunk j) := by
  unfold b47
  pointwise
  exact congrArg Ideal.exp (at_b41 H hj h)

/-- The chunk's new values. -/
theorem at_b43 (h i : Fin 64) (v : Fin 128) : b43 j s (ix3 h i v) = a.vn h (chunk j) i v := by
  unfold b43 b42
  pointwise
  exact congrArg₂ (· - ·) (at_b18 H hj h i v)
    (Finset.sum_congr rfl fun k _ => congrArg₂ (· * ·) (at_b23 H hj h i k) (at_b8 H hj h k v))

/-- The gradient of the decayed queries. -/
theorem at_b73 (h i : Fin 64) (k : Fin 128) : b73 j s (ix3 h i k) = a.dQd h (chunk j) i k := by
  unfold b73
  pointwise
  exact Finset.sum_congr rfl fun v _ => congrArg₂ (· * ·) (at_b13 H hj h i v) (at_b8 H hj h k v)

/-- The gradient of the attention, before the mask. -/
theorem at_b69 (h i k : Fin 64) :
    b69 j s (ix3 h i k) = ∑ v : Fin 128, Inp.at2 h (chunk j) a.dO i v * a.vn h (chunk j) k v := by
  unfold b69
  pointwise
  exact Finset.sum_congr rfl fun v _ => congrArg₂ (· * ·) (at_b13 H hj h i v) (at_b43 H hj h k v)

variable {D : Fin 64 → Fin 128 → Fin 128 → EReal} (hD : ∀ h k v, s.main_v27_9 (ix3 h k v) = D h k v)
include hD

/-- The gradient of the decayed keys. -/
theorem at_b56 (h i : Fin 64) (k : Fin 128) : b56 j s (ix3 h i k) = a.dKd h (chunk j) (D h) i k := by
  unfold b56 b55
  pointwise
  exact Finset.sum_congr rfl fun v _ =>
    (congrArg₂ (· * ·) (hD h k v) (at_b43 H hj h i v)).trans (mul_comm _ _)

/-- The gradient of the new values. -/
theorem at_b68 (h i : Fin 64) (v : Fin 128) : b68 j s (ix3 h i v) = a.dVn h (chunk j) (D h) i v := by
  unfold b68 b67 b66 b54 b53
  pointwise
  refine (add_comm _ _).trans (congrArg₂ (· + ·) ?_ ?_)
  · exact Finset.sum_congr rfl fun k _ =>
      (congrArg₂ (· * ·) (at_b13 H hj h k v) (at_b38 H hj h k i)).trans (mul_comm _ _)
  · exact Finset.sum_congr rfl fun k _ =>
      (congrArg₂ (· * ·) (hD h k v) (at_b33 H hj h i k)).trans (mul_comm _ _)

/-- The gradient of the log decay. -/
theorem at_b65 (h : Fin 64) : b65 j s (ix1 h) = a.dG h (chunk j) (D h) := by
  unfold b65 b64 b63 b60 b59 b58 b57
  pointwise
  exact (mul_comm _ _).trans (congrArg₂ (· * ·) (at_b47 H hj h) ((Fin.sum_univ_one _).trans ((Fin.sum_univ_one _).trans
    (Finset.sum_congr rfl fun k _ =>
      Finset.sum_congr rfl fun v _ => congrArg₂ (· * ·) (at_b8 H hj h k v) (hD h k v)))))

/-- The gradient of `w`, the sign inside the sum. -/
theorem at_b78 (h i : Fin 64) (k : Fin 128) :
    b78 j s (ix3 h i k) = ∑ v : Fin 128, -a.dVn h (chunk j) (D h) i v * a.sAt h (chunk j) k v := by
  unfold b78 b74
  pointwise
  exact Finset.sum_congr rfl fun v _ =>
    congrArg₂ (· * ·) (congrArg Neg.neg (at_b68 H hj hD h i v)) (at_b8 H hj h k v)

/-- The state's gradient before the chunk, the sign inside the sum. -/
theorem at_b77 (h : Fin 64) (k v : Fin 128) :
    b77 j s (ix3 h k v) = (D h k v * a.dec h (chunk j)
        + ∑ i : Fin 64, Inp.at2 h (chunk j) a.dO i v * Inp.at2 h (chunk j) a.qd i k)
      + ∑ i : Fin 64, -a.dVn h (chunk j) (D h) i v * Inp.at2 h (chunk j) a.w i k := by
  unfold b77 b76 b75 b74 b72 b71 b70 b62 b61 b48
  pointwise
  exact congrArg₂ (· + ·) (congrArg₂ (· + ·) (congrArg₂ (· * ·) (hD h k v) (at_b47 H hj h))
    (Finset.sum_congr rfl fun i _ => congrArg₂ (· * ·) (at_b13 H hj h i v) (at_b28 H hj h i k)))
    (Finset.sum_congr rfl fun i _ =>
      congrArg₂ (· * ·) (congrArg Neg.neg (at_b68 H hj hD h i v)) (at_b23 H hj h i k))

end Cert.Bwd

end
-- ==== Proof.Bwd.RefInv.lean ====
/- The reference's loop, trip by trip: what its carried arrays hold, in the sums of `Inp`. -/
module

public import proofs.«01_k».proof.Proof.Bwd.RefTrip
public import proofs.«01_k».proof.Proof.Bwd.Finite

@[expose] public section

set_option maxRecDepth 16384

noncomputable section

namespace Cert.Bwd

open Idealize.ShloMosaic Idealize.ShloMosaic.TcCoe Idealize.SL.Sem
open Cert.ReferenceIdeal Cert.ReferenceIdeal.Gen
open Cert.ReferenceIdeal.Step

section entry

variable (x0 x1 : (⟨S4224x8192, .f32⟩ : BufTy).Contents (Elt Ideal)) (x2 x3 x4 : (⟨S4224x8192, .bf16⟩ : BufTy).Contents (Elt Ideal))
  (x5 : (⟨S64x4224x64, .bf16⟩ : BufTy).Contents (Elt Ideal)) (x6 : (⟨S32x66x8x64, .f32⟩ : BufTy).Contents (Elt Ideal))
  (x7 : (⟨S66x64x128x128, .f32⟩ : BufTy).Contents (Elt Ideal))

/-- The place of an entry of a wide array after the split into chunks and heads. -/
theorem wide_place (n : Fin 66) (h i : Fin 64) (v : Fin 128) (r : Fin 4224) (c : Fin 8192)
    (hr : r.val = n.val * 64 + i.val) (hc : c.val = h.val * 128 + v.val) :
    (ix2 r c : (⟨2, ![4224, 8192]⟩ : Shape).Idx) = ix2 (row n i) (col h v) :=
  congrArg₂ ix2 (Fin.ext (by simp only [row]; omega)) (Fin.ext (by simp only [col]; omega))

/-- Before the first trip the constants are the arguments, chunk by chunk and head by head. -/
theorem holds_init : Holds ⟨x0, x1, x2, x3, x4, x5, x6, x7⟩ (init (F := Ideal) x7 x0 x1 x2 x3 x4 x5 x6) where
  st _ _ _ _ := rfl
  dO n h i v := by
    unfold init A_main_v6 A_main_v5
    pointwise
    exact congrArg x0 (wide_place n h i v _ _ rfl rfl)
  u n h i v := by
    unfold init A_main_v8 A_main_v7
    pointwise
    exact congrArg x1 (wide_place n h i v _ _ rfl rfl)
  w n h i v := by
    unfold init A_main_v11 A_main_v10 A_main_v9
    pointwise
    exact congrArg x2 (wide_place n h i v _ _ rfl rfl)
  qd n h i v := by
    unfold init A_main_v14 A_main_v13 A_main_v12
    pointwise
    exact congrArg x3 (wide_place n h i v _ _ rfl rfl)
  kd n h i v := by
    unfold init A_main_v17 A_main_v16 A_main_v15
    pointwise
    exact congrArg x4 (wide_place n h i v _ _ rfl rfl)
  p n h i j := by
    unfold init A_main_v20 A_main_v19 A_main_v18
    pointwise
    exact congrArg x5 (congrArg (ix3 h · j) (Fin.ext (by simp only [row]; omega)))
  g n h := by
    unfold init A_main_v3 A_main_v2 A_main_v1 A_main_v0 K_main_cst
    pointwise
    rfl

end entry

/-- What the loop holds after `k` trips: the state's gradient, and the gradients of the last `k` chunks. -/
structure Inv (a : Inp) (k : ℕ) (s : State Ideal) : Prop where
  holds : Holds a s
  dS : ∀ h i v, s.main_v27_9 (ix3 h i v) = a.gradS h k i v
  du : ∀ n h i v, 66 ≤ n.val + k → s.main_v27_10 (ix4 n h i v) = a.dVn h n (a.D h n) i v
  dw : ∀ n h i v, 66 ≤ n.val + k → s.main_v27_11 (ix4 n h i v) = a.dW h n (a.D h n) i v
  dqd : ∀ n h i v, 66 ≤ n.val + k → s.main_v27_12 (ix4 n h i v) = a.dQd h n i v
  dkd : ∀ n h i v, 66 ≤ n.val + k → s.main_v27_13 (ix4 n h i v) = a.dKd h n (a.D h n) i v
  dp : ∀ n h i j, 66 ≤ n.val + k → s.main_v27_14 (ix4 n h i j) = ∑ v : Fin 128, Inp.at2 h n a.dO i v * a.vn h n j v
  dg : ∀ n h, 66 ≤ n.val + k → s.main_v27_15 (ix2 n h) = a.dG h n (a.D h n)

/-- Nothing is claimed of the result arrays before the first trip; the state's gradient is zero. -/
theorem inv_init (x0 x1 : (⟨S4224x8192, .f32⟩ : BufTy).Contents (Elt Ideal)) (x2 x3 x4 : (⟨S4224x8192, .bf16⟩ : BufTy).Contents (Elt Ideal))
    (x5 : (⟨S64x4224x64, .bf16⟩ : BufTy).Contents (Elt Ideal)) (x6 : (⟨S32x66x8x64, .f32⟩ : BufTy).Contents (Elt Ideal))
    (x7 : (⟨S66x64x128x128, .f32⟩ : BufTy).Contents (Elt Ideal)) :
    Inv ⟨x0, x1, x2, x3, x4, x5, x6, x7⟩ 0 (init (F := Ideal) x7 x0 x1 x2 x3 x4 x5 x6) where
  holds := holds_init x0 x1 x2 x3 x4 x5 x6 x7
  dS h i v := by
    unfold init K_main_v4 K_main_cst_0
    pointwise
    rfl
  du n _ _ _ hn := absurd hn (by omega)
  dw n _ _ _ hn := absurd hn (by omega)
  dqd n _ _ _ hn := absurd hn (by omega)
  dkd n _ _ _ hn := absurd hn (by omega)
  dp n _ _ _ hn := absurd hn (by omega)
  dg n _ hn := absurd hn (by omega)

/-- The chunk `k` trips from the end starts from the state's gradient after `k` chunks. -/
theorem D_chunk (a : Inp) (h : Fin 64) {k : ℕ} (hk : k < 66) : a.D h (chunk k) = a.gradS h k := by
  unfold Inp.D chunk
  exact congrArg (a.gradS h) (by show 65 - (65 - k) = k; omega)

/-- A chunk other than this trip's was filled before. -/
theorem filled_before {n : Fin 66} {k : ℕ} (hk : k < 66) (h : 66 ≤ n.val + (k + 1)) (hn : ¬n = chunk k) : 66 ≤ n.val + k := by
  have : n.val ≠ 65 - k := fun e => hn (Fin.ext e)
  omega

/-- One trip keeps the account: it takes the next chunk down. -/
theorem Inv.step {a : Inp} (A : a.Finite) {k : ℕ} (hk : k < 66) {s : State Ideal} (I : Inv a k s) :
    Inv a (k + 1) (step k s) where
  holds := ⟨I.holds.st, I.holds.dO, I.holds.u, I.holds.w, I.holds.qd, I.holds.kd, I.holds.p, I.holds.g⟩
  dS h i v := (at_b77 I.holds hk I.dS h i v).trans (A.step h (chunk k) (A.gradS h k) i v)
  du n h i v hn := by
    rw [step_main_v27_10]
    unfold b83
    refine (update4 _ _ _ _ k (countdown k hk) rfl rfl rfl n h i v).trans ?_
    by_cases e : n = chunk k
    · subst e
      rw [if_pos rfl]
      unfold b79
      pointwise
      exact (at_b68 I.holds hk I.dS h i v).trans (by rw [D_chunk a h hk])
    · exact (if_neg e).trans (I.du n h i v (filled_before hk hn e))
  dw n h i v hn := by
    rw [step_main_v27_11]
    unfold b88
    refine (update4 _ _ _ _ k (countdown k hk) rfl rfl rfl n h i v).trans ?_
    by_cases e : n = chunk k
    · subst e
      rw [if_pos rfl]
      unfold b84
      pointwise
      exact (at_b78 I.holds hk I.dS h i v).trans ((A.dW h (chunk k) (A.gradS h k) i v).trans (by rw [D_chunk a h hk]))
    · exact (if_neg e).trans (I.dw n h i v (filled_before hk hn e))
  dqd n h i v hn := by
    rw [step_main_v27_12]
    unfold b93
    refine (update4 _ _ _ _ k (countdown k hk) rfl rfl rfl n h i v).trans ?_
    by_cases e : n = chunk k
    · subst e
      rw [if_pos rfl]
      unfold b89
      pointwise
      exact at_b73 I.holds hk h i v
    · exact (if_neg e).trans (I.dqd n h i v (filled_before hk hn e))
  dkd n h i v hn := by
    rw [step_main_v27_13]
    unfold b98
    refine (update4 _ _ _ _ k (countdown k hk) rfl rfl rfl n h i v).trans ?_
    by_cases e : n = chunk k
    · subst e
      rw [if_pos rfl]
      unfold b94
      pointwise
      exact (at_b56 I.holds hk I.dS h i v).trans (by rw [D_chunk a h hk])
    · exact (if_neg e).trans (I.dkd n h i v (filled_before hk hn e))
  dp n h i j hn := by
    rw [step_main_v27_14]
    unfold b103
    refine (update4 _ _ _ _ k (countdown k hk) rfl rfl rfl n h i j).trans ?_
    by_cases e : n = chunk k
    · subst e
      rw [if_pos rfl]
      unfold b99
      pointwise
      exact at_b69 I.holds hk h i j
    · exact (if_neg e).trans (I.dp n h i j (filled_before hk hn e))
  dg n h hn := by
    rw [step_main_v27_15]
    unfold b106
    have h0 : ((b3 k s) (Shape.Idx.first h_S_)).toInt = ((65 - k : ℕ) : Int) := countdown k hk
    refine Eq.trans (update2 _ _ _ _ k ?_ ?_ n h) ?_
    · exact h0
    · rfl
    by_cases e : n = chunk k
    · subst e
      rw [if_pos rfl]
      unfold b104
      pointwise
      exact (at_b65 I.holds hk I.dS h).trans (by rw [D_chunk a h hk])
    · exact (if_neg e).trans (I.dg n h (filled_before hk hn e))

section results

variable {a : Inp} {s : State Ideal} (I : Inv a 66 s)
include I

/-- After all trips the first result is the gradient of `u`. -/
theorem result_du : R_main_v36 s = a.outDu := by
  funext y
  obtain ⟨r, c, rfl⟩ : ∃ r c, y = ix2 r c := ⟨y 0, y 1, by funext b; fin_cases b <;> rfl⟩
  unfold R_main_v36
  pointwise
  exact I.du _ _ _ _ (by omega)

/-- The second result is the gradient of `w`. -/
theorem result_dw : R_main_v39 s = a.outDw := by
  funext y
  obtain ⟨r, c, rfl⟩ : ∃ r c, y = ix2 r c := ⟨y 0, y 1, by funext b; fin_cases b <;> rfl⟩
  unfold R_main_v39
  pointwise
  exact I.dw _ _ _ _ (by omega)

/-- The third result is the gradient of the decayed queries. -/
theorem result_dqd : R_main_v41 s = a.outDqd := by
  funext y
  obtain ⟨r, c, rfl⟩ : ∃ r c, y = ix2 r c := ⟨y 0, y 1, by funext b; fin_cases b <;> rfl⟩
  unfold R_main_v41
  pointwise
  exact I.dqd _ _ _ _ (by omega)

/-- The fourth result is the gradient of the decayed keys. -/
theorem result_dkd : R_main_v43 s = a.outDkd := by
  funext y
  obtain ⟨r, c, rfl⟩ : ∃ r c, y = ix2 r c := ⟨y 0, y 1, by funext b; fin_cases b <;> rfl⟩
  unfold R_main_v43
  pointwise
  exact I.dkd _ _ _ _ (by omega)

/-- The fifth result is the gradient of the in-chunk attention. -/
theorem result_dp : R_main_v45 s = a.outDp := by
  funext y
  obtain ⟨h, r, j, rfl⟩ : ∃ h r j, y = ix3 h r j := ⟨y 0, y 1, y 2, by funext b; fin_cases b <;> rfl⟩
  unfold R_main_v45
  pointwise
  have hm : IntOp.cmpi .sge (BitVec.ofNat 32 (rowIn r).val) (BitVec.ofNat 32 j.val) = if j ≤ rowIn r then 1#1 else 0#1 :=
    (by decide +kernel : ∀ i j : Fin 64,
      IntOp.cmpi .sge (BitVec.ofNat 32 i.val) (BitVec.ofNat 32 j.val) = if j ≤ i then 1#1 else 0#1) (rowIn r) j
  have hz : (id (constant (F := Ideal) S_ FTy.f32 0#32) ix0 : EReal) = 0 := by
    show (constant (F := Ideal) S_ FTy.f32 0#32 ix0 : EReal) = 0
    pointwise
  refine (congrArg₂ (fun b x => Scalar.select b (_ : EReal) x) hm hz).trans ?_
  have hv := I.dp (rowChunk r) h (rowIn r) j (by omega)
  show _ = a.dP h (rowChunk r) (rowIn r) j
  unfold Inp.dP
  split
  · exact hv
  · rfl

/-- The sixth result is the gradient of the log decays. -/
theorem result_dg : R_main_v47 s = a.outDg := by
  funext y
  obtain ⟨z, n, e, l, rfl⟩ : ∃ z n e l, y = ix4 z n e l := ⟨y 0, y 1, y 2, y 3, by funext b; fin_cases b <;> rfl⟩
  unfold R_main_v47
  pointwise
  have hh : (⟨z.val * 32 + e.val, by omega⟩ : Fin 64) = half z e := Fin.ext (by simp only [half]; omega)
  exact (congrArg (fun h => s.main_v27_15 (ix2 n h)) hh).trans (I.dg n (half z e) (by omega))

end results

end Cert.Bwd

end
-- ==== Proof.Bwd.RefRun.lean ====
/- The reference's run: its six results are the gradients given by sums. -/
module

public import proofs.«01_k».proof.Proof.Bwd.RefStep
public import proofs.«01_k».proof.Proof.Bwd.RefInv

@[expose] public section

set_option maxRecDepth 16384

noncomputable section

namespace Cert.Bwd

open Idealize.ShloMosaic Idealize.ShloMosaic.TcCoe Idealize.SL.Sem Idealize.ShloMosaic.StableHlo
open Cert.ReferenceIdeal Cert.ReferenceIdeal.Gen Cert.ReferenceIdeal.Value

variable (m : (ℓ : Loc nD τ sig) → Buf (Elt Ideal) ℓ) (ρ : Dev nD → PrngReg)

/-- The reference's arguments, as the arrays of the scan. -/
def refInp (c : Dev nD) : Inp where
  dO := m ((c.tc : Thread nD τ).loc main_arg0)
  u := m ((c.tc : Thread nD τ).loc main_arg1)
  w := m ((c.tc : Thread nD τ).loc main_arg2)
  qd := m ((c.tc : Thread nD τ).loc main_arg3)
  kd := m ((c.tc : Thread nD τ).loc main_arg4)
  p := m ((c.tc : Thread nD τ).loc main_arg5)
  g := m ((c.tc : Thread nD τ).loc main_arg6)
  st := m ((c.tc : Thread nD τ).loc main_arg7)

/-- The account of the carried arrays holds after every trip. -/
theorem inv_trips (c : Dev nD) (A : (refInp m c).Finite) : ∀ k, k ≤ 66 → Inv (refInp m c) k (trips m c k)
  | 0, _ => inv_init _ _ _ _ _ _ _ _
  | k + 1, hk => (inv_trips c A k (by omega)).step A (by omega)

/-- What the loop leaves. -/
theorem inv_end (c : Dev nD) (A : (refInp m c).Finite) :
    Inv (refInp m c) 66 (carried (STEP^[66] (entryContents preI m c))) := by
  rw [(carried_trips m c 66).1]
  exact inv_trips m c A 66 le_rfl

variable (V : Valuation τ sig (Elt Ideal))

/-- The first result is read off the carried arrays. -/
theorem out_du : out_main_v36 V = Step.R_main_v36 (carried V) := by unfold out_main_v36 Step.R_main_v36; rfl
/-- The second result is read off the carried arrays. -/
theorem out_dw : out_main_v39 V = Step.R_main_v39 (carried V) := by unfold out_main_v39 Step.R_main_v39; rfl
/-- The third result is read off the carried arrays. -/
theorem out_dqd : out_main_v41 V = Step.R_main_v41 (carried V) := by unfold out_main_v41 Step.R_main_v41; rfl
/-- The fourth result is read off the carried arrays. -/
theorem out_dkd : out_main_v43 V = Step.R_main_v43 (carried V) := by unfold out_main_v43 Step.R_main_v43; rfl
/-- The fifth result is read off the carried arrays. -/
theorem out_dp : out_main_v45 V = Step.R_main_v45 (carried V) := by unfold out_main_v45 Step.R_main_v45; rfl
/-- The sixth result is read off the carried arrays. -/
theorem out_dg : out_main_v47 V = Step.R_main_v47 (carried V) := by unfold out_main_v47 Step.R_main_v47; rfl

/-- With finite arguments the reference's six results are the gradients, and its arguments end as they were. -/
theorem ref_run (A : ∀ c, (refInp m c).Finite) :
    θ_run (defs (F := Ideal)) (onTc (τ := τ) (main (F := Ideal))) ⟨m, fun _ => 0, ρ⟩ fun r => ∀ c : Dev nD,
      r.2.mem ((c.tc : Thread nD τ).loc main_v36) = (refInp m c).outDu
      ∧ r.2.mem ((c.tc : Thread nD τ).loc main_v39) = (refInp m c).outDw
      ∧ r.2.mem ((c.tc : Thread nD τ).loc main_v41) = (refInp m c).outDqd
      ∧ r.2.mem ((c.tc : Thread nD τ).loc main_v43) = (refInp m c).outDkd
      ∧ r.2.mem ((c.tc : Thread nD τ).loc main_v45) = (refInp m c).outDp
      ∧ r.2.mem ((c.tc : Thread nD τ).loc main_v47) = (refInp m c).outDg
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run (F := Ideal) m ρ)
  have I := inv_end m c (A c)
  have hc := h c
  generalize STEP^[66] (entryContents preI m c) = V at I hc
  obtain ⟨h0, h1, h2, h3, h4, h5, hr⟩ := hc
  exact ⟨h0.trans ((out_du V).trans (result_du I)), h1.trans ((out_dw V).trans (result_dw I)),
    h2.trans ((out_dqd V).trans (result_dqd I)), h3.trans ((out_dkd V).trans (result_dkd I)),
    h4.trans ((out_dp V).trans (result_dp I)), h5.trans ((out_dg V).trans (result_dg I)), hr⟩

end Cert.Bwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Step
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Prod.Claims
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Opt.Claims
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Norm.Claims
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Heads.Claims
public import proofs.«01_k».proof.Proof.Bwd.Final
public import proofs.«01_k».proof.Proof.Bwd.Pre
public import proofs.«01_k».proof.Proof.Bwd.RefRun
public import Idealize.ShloMosaic.Adequacy
public import Idealize.ShloMosaic.Init

@[expose] public section

noncomputable section

namespace Cert.Proof

open Idealize.ShloMosaic Idealize.SL.Sem Cert.Kernel

/-- The reference runs, keeps its arguments and ends with every counter at zero. -/
theorem reference_frame : Cert.quiescent_ReferenceIdeal (hReferenceIdeal := Cert.ReferenceIdeal.Gen.facts) :=
  fun m ρ _ => (θ_run Cert.ReferenceIdeal.defs _ _).mono
    (fun _ h => ⟨fun c => (h c).2.2.2.2.2.2, Idealize.ShloMosaic.sem_eq_zero_of_no_sems (by decide) _⟩)
    (Cert.ReferenceIdeal.Value.run m ρ)

/-- On finite arguments (but `u`) the kernel's six gradients are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Bwd.preFacts) := by
  intro m ρ m' ρ' hpre hargs
  haveI : Cert.Pre_finite.Facts := Cert.Bwd.preFacts
  have hinp : ∀ c, Cert.Bwd.refInp m' c = Cert.KernelIdeal.Val.inp m c := fun c => by
    obtain ⟨h0, h1, h2, h3, h4, h5, h6, h7⟩ := hargs c
    unfold Cert.Bwd.refInp Cert.KernelIdeal.Val.inp
    rw [h0, h1, h2, h3, h4, h5, h6, h7]
  have A : ∀ c, (Cert.Bwd.refInp m' c).Finite := fun c => by
    rw [hinp c]
    exact Cert.Bwd.finite_of_pre _ _ _ _ _ _ _ _ (hpre c)
  refine ⟨fun c => (Cert.KernelIdeal.Val.inp m c).outDu, fun c => (Cert.KernelIdeal.Val.inp m c).outDw,
    fun c => (Cert.KernelIdeal.Val.inp m c).outDqd, fun c => (Cert.KernelIdeal.Val.inp m c).outDkd,
    fun c => (Cert.KernelIdeal.Val.inp m c).outDp, fun c => (Cert.KernelIdeal.Val.inp m c).outDg, ?_, ?_⟩
  · refine (θ_run Cert.KernelIdeal.defs _ _).mono (fun r h c => ?_) (Cert.KernelIdeal.Value.run_blocks m ρ)
    obtain ⟨h0, h1, h2, h3, h4, h5, hr⟩ := h c
    exact ⟨h0.trans (Cert.KernelIdeal.Val.final_du m c), h1.trans (Cert.KernelIdeal.Val.final_dw m c),
      h2.trans (Cert.KernelIdeal.Val.final_dqd m c), h3.trans (Cert.KernelIdeal.Val.final_dkd m c),
      h4.trans (Cert.KernelIdeal.Val.final_dp m c), h5.trans (Cert.KernelIdeal.Val.final_dg m c), hr⟩
  · refine (θ_run Cert.ReferenceIdeal.defs _ _).mono (fun r h c => ?_) (Cert.Bwd.ref_run m' ρ' A)
    have hc := h c
    rw [hinp c] at hc
    exact hc

/-- The claims: the frames of all programs, the exact programs keeping the kernels' operations, and the values. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Bwd.preFacts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, Cert.Prod.frame2,
    fun m ρ _ => Cert.Kernel3.Gen.frame m ρ, fun m ρ _ => Cert.Kernel3Ideal.Gen.frame m ρ, Cert.Prod.frame3,
    fun m ρ _ => Cert.Kernel4.Gen.frame m ρ, fun m ρ _ => Cert.Kernel4Ideal.Gen.frame m ρ, Cert.Prod.frame4,
    fun m ρ _ => Cert.Kernel5.Gen.frame m ρ, fun m ρ _ => Cert.Kernel5Ideal.Gen.frame m ρ, Cert.Prod.frame5,
    fun m ρ _ => Cert.Kernel6.Gen.frame m ρ, fun m ρ _ => Cert.Kernel6Ideal.Gen.frame m ρ, Cert.Prod.frame6,
    fun m ρ _ => Cert.Kernel7.Gen.frame m ρ, fun m ρ _ => Cert.Kernel7Ideal.Gen.frame m ρ, Cert.Prod.frame7,
    fun m ρ _ => Cert.Kernel8.Gen.frame m ρ, fun m ρ _ => Cert.Kernel8Ideal.Gen.frame m ρ, Cert.Prod.frame8,
    fun m ρ _ => Cert.Kernel9.Gen.frame m ρ, fun m ρ _ => Cert.Kernel9Ideal.Gen.frame m ρ, Cert.Prod.frame9,
    fun m ρ _ => Cert.Kernel10.Gen.frame m ρ, fun m ρ _ => Cert.Kernel10Ideal.Gen.frame m ρ, Cert.Prod.frame10,
    fun m ρ _ => Cert.Kernel11.Gen.frame m ρ, fun m ρ _ => Cert.Kernel11Ideal.Gen.frame m ρ, Cert.Prod.frame11,
    fun m ρ _ => Cert.Kernel12.Gen.frame m ρ, fun m ρ _ => Cert.Kernel12Ideal.Gen.frame m ρ, Cert.Prod.frame12,
    fun m ρ _ => Cert.Kernel13.Gen.frame m ρ, fun m ρ _ => Cert.Kernel13Ideal.Gen.frame m ρ, Cert.Prod.frame13,
    fun m ρ _ => Cert.Kernel14.Gen.frame m ρ, fun m ρ _ => Cert.Kernel14Ideal.Gen.frame m ρ, Cert.Prod.frame14,
    fun m ρ _ => Cert.Kernel15.Gen.frame m ρ, fun m ρ _ => Cert.Kernel15Ideal.Gen.frame m ρ, Cert.Prod.frame15,
    fun m ρ _ => Cert.Kernel16.Gen.frame m ρ, fun m ρ _ => Cert.Kernel16Ideal.Gen.frame m ρ, Cert.Prod.frame16,
    fun m ρ _ => Cert.Kernel17.Gen.frame m ρ, fun m ρ _ => Cert.Kernel17Ideal.Gen.frame m ρ, Cert.Opt.frame17,
    fun m ρ _ => Cert.Kernel18.Gen.frame m ρ, fun m ρ _ => Cert.Kernel18Ideal.Gen.frame m ρ, Cert.Opt.frame18,
    fun m ρ _ => Cert.Kernel19.Gen.frame m ρ, fun m ρ _ => Cert.Kernel19Ideal.Gen.frame m ρ, Cert.Opt.frame19,
    fun m ρ _ => Cert.Kernel20.Gen.frame m ρ, fun m ρ _ => Cert.Kernel20Ideal.Gen.frame m ρ, Cert.Opt.frame20,
    fun m ρ _ => Cert.Kernel21.Gen.frame m ρ, fun m ρ _ => Cert.Kernel21Ideal.Gen.frame m ρ, Cert.Opt.frame21,
    fun m ρ _ => Cert.Kernel22.Gen.frame m ρ, fun m ρ _ => Cert.Kernel22Ideal.Gen.frame m ρ, Cert.Opt.frame22,
    fun m ρ _ => Cert.Kernel23.Gen.frame m ρ, fun m ρ _ => Cert.Kernel23Ideal.Gen.frame m ρ, Cert.Opt.frame23,
    fun m ρ _ => Cert.Kernel24.Gen.frame m ρ, fun m ρ _ => Cert.Kernel24Ideal.Gen.frame m ρ, Cert.Opt.frame24,
    fun m ρ _ => Cert.Kernel25.Gen.frame m ρ, fun m ρ _ => Cert.Kernel25Ideal.Gen.frame m ρ, Cert.Norm.frame25,
    fun m ρ _ => Cert.Kernel26.Gen.frame m ρ, fun m ρ _ => Cert.Kernel26Ideal.Gen.frame m ρ, Cert.Norm.frame26,
    fun m ρ _ => Cert.Kernel27.Gen.frame m ρ, fun m ρ _ => Cert.Kernel27Ideal.Gen.frame m ρ, Cert.Norm.frame27,
    fun m ρ _ => Cert.Kernel28.Gen.frame m ρ, fun m ρ _ => Cert.Kernel28Ideal.Gen.frame m ρ, Cert.Norm.frame28,
    fun m ρ _ => Cert.Kernel29.Gen.frame m ρ, fun m ρ _ => Cert.Kernel29Ideal.Gen.frame m ρ, Cert.Heads.frame29,
    fun m ρ _ => Cert.Kernel30.Gen.frame m ρ, fun m ρ _ => Cert.Kernel30Ideal.Gen.frame m ρ, Cert.Heads.frame30,
    fun m ρ _ => Cert.Kernel31.Gen.frame m ρ, fun m ρ _ => Cert.Kernel31Ideal.Gen.frame m ρ, Cert.Heads.frame31,
    fun m ρ _ => Cert.Kernel32.Gen.frame m ρ, fun m ρ _ => Cert.Kernel32Ideal.Gen.frame m ρ, Cert.Heads.frame32,
    fun m ρ _ => Cert.Kernel33.Gen.frame m ρ, fun m ρ _ => Cert.Kernel33Ideal.Gen.frame m ρ, Cert.Heads.frame33,
    trivial, algebraic,
    trivial, Cert.Prod.algebraic2,
    trivial, Cert.Prod.algebraic3,
    trivial, Cert.Prod.algebraic4,
    trivial, Cert.Prod.algebraic5,
    trivial, Cert.Prod.algebraic6,
    trivial, Cert.Prod.algebraic7,
    trivial, Cert.Prod.algebraic8,
    trivial, Cert.Prod.algebraic9,
    trivial, Cert.Prod.algebraic10,
    trivial, Cert.Prod.algebraic11,
    trivial, Cert.Prod.algebraic12,
    trivial, Cert.Prod.algebraic13,
    trivial, Cert.Prod.algebraic14,
    trivial, Cert.Prod.algebraic15,
    trivial, Cert.Prod.algebraic16,
    trivial, Cert.Opt.algebraic17,
    trivial, Cert.Opt.algebraic18,
    trivial, Cert.Opt.algebraic19,
    trivial, Cert.Opt.algebraic20,
    trivial, Cert.Opt.algebraic21,
    trivial, Cert.Opt.algebraic22,
    trivial, Cert.Opt.algebraic23,
    trivial, Cert.Opt.algebraic24,
    trivial, Cert.Norm.algebraic25,
    trivial, Cert.Norm.algebraic26,
    trivial, Cert.Norm.algebraic27,
    trivial, Cert.Norm.algebraic28,
    trivial, Cert.Heads.algebraic29,
    trivial, Cert.Heads.algebraic30,
    trivial, Cert.Heads.algebraic31,
    trivial, Cert.Heads.algebraic32,
    trivial, Cert.Heads.algebraic33⟩

end Cert.Proof

end
